-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "score_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x1024 : Shape := ⟨3, ![8, 4096, 1024]⟩
abbrev S64 : Shape := ⟨1, ![64]⟩
abbrev S128 : Shape := ⟨1, ![128]⟩
abbrev S_ : Shape := ⟨0, ![]⟩

class Facts : Prop where
  bcast_S_S8x4096x1024 : S_.BroadcastsInDim S8x4096x1024 (![] : Fin 0 → Fin S8x4096x1024.rank)
  bcast_S_S64 : S_.BroadcastsInDim S64 (![] : Fin 0 → Fin S64.rank)

variable [Facts]

def fn_part1 {F : FTy → Type} [FloatOps F] (main_arg6 : FVec F S64 .f32) (main_v2 : IVec S8x4096x1024 1) (main_v5 : IVec S8x4096x1024 1) (main_v8 : IVec S8x4096x1024 1) (main_v11 : IVec S64 1) (main_v14 : IVec S64 1) (main_v17 : IVec S64 1) : IVec S8x4096x1024 1 × IVec S8x4096x1024 1 × IVec S8x4096x1024 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S8x4096x1024 .f32) (main_arg1 : FVec F S8x4096x1024 .f32) (main_arg2 : FVec F S8x4096x1024 .f32) (main_arg3 : FVec F S64 .f32) (main_arg4 : FVec F S64 .f32) (main_arg5 : FVec F S64 .f32) (main_arg6 : FVec F S64 .f32) (main_arg7 : FVec F S128 .f32) : IVec S8x4096x1024 1 × IVec S8x4096x1024 1 × IVec S8x4096x1024 1 × IVec S64 1 × IVec S64 1 × IVec S64 1 × IVec S64 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x1024 .f32 := Host.absf main_arg1
  let main_cst_0 : FVec F S_ .f32 := constant S_ .f32 0x7F800000#32
  let main_v4 : FVec F S8x4096x1024 .f32 := broadcastInDim S8x4096x1024 ![] bcast_S_S8x4096x1024 main_cst_0
  let main_v5 : IVec S8x4096x1024 1 := cmpf .olt main_v3 main_v4
  let main_v6 : FVec F S8x4096x1024 .f32 := Host.absf main_arg2
  let main_cst_1 : FVec F S_ .f32 := constant S_ .f32 0x7F800000#32
  let main_v7 : FVec F S8x4096x1024 .f32 := broadcastInDim S8x4096x1024 ![] bcast_S_S8x4096x1024 main_cst_1
  let main_v8 : IVec S8x4096x1024 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Kernel.lean ====
abbrev S8x4096x1024 : Shape := ⟨3, ![8, 4096, 1024]⟩
abbrev S64 : Shape := ⟨1, ![64]⟩
abbrev S128 : Shape := ⟨1, ![128]⟩
abbrev S8x8x512x8x128 : Shape := ⟨5, ![8, 8, 512, 8, 128]⟩
abbrev S8x8x8x128x512 : Shape := ⟨5, ![8, 8, 8, 128, 512]⟩
abbrev S16x512 : Shape := ⟨2, ![16, 512]⟩
abbrev S_ : Shape := ⟨0, ![]⟩
abbrev S8x8x8x16x512 : Shape := ⟨5, ![8, 8, 8, 16, 512]⟩
abbrev S8x8x8x144x512 : Shape := ⟨5, ![8, 8, 8, 144, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S128x1 : Shape := ⟨2, ![128, 1]⟩
abbrev S1x4096x256 : Shape := ⟨3, ![1, 4096, 256]⟩
abbrev S1x2x8x144x512 : Shape := ⟨5, ![1, 2, 8, 144, 512]⟩
abbrev S2x2x128x1024 : Shape := ⟨4, ![2, 2, 128, 1024]⟩
abbrev S2x2x512x1024 : Shape := ⟨4, ![2, 2, 512, 1024]⟩
abbrev S2x2x1x1024 : Shape := ⟨4, ![2, 2, 1, 1024]⟩
abbrev S2x2x144x1024 : Shape := ⟨4, ![2, 2, 144, 1024]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S128x512 : Shape := ⟨2, ![128, 512]⟩
abbrev S128x1024 : Shape := ⟨2, ![128, 1024]⟩
abbrev S1x1x128x1024 : Shape := ⟨4, ![1, 1, 128, 1024]⟩
abbrev S512x1024 : Shape := ⟨2, ![512, 1024]⟩
abbrev S1x1x512x1024 : Shape := ⟨4, ![1, 1, 512, 1024]⟩
abbrev S1024 : Shape := ⟨1, ![1024]⟩
abbrev S1x1024 : Shape := ⟨2, ![1, 1024]⟩
abbrev S1x1x1x1024 : Shape := ⟨4, ![1, 1, 1, 1024]⟩
abbrev S1x1x1x144x512 : Shape := ⟨5, ![1, 1, 1, 144, 512]⟩
abbrev S144x512 : Shape := ⟨2, ![144, 512]⟩
abbrev S144x1024 : Shape := ⟨2, ![144, 1024]⟩
abbrev S1x1x144x1024 : Shape := ⟨4, ![1, 1, 144, 1024]⟩

abbrev nBuf : Space → Nat
  | .hbm => 47
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x4096x1024, .bf16⟩
  | .hbm, ⟨9, _⟩ => ⟨S8x4096x1024, .bf16⟩
  | .hbm, ⟨10, _⟩ => ⟨S8x8x512x8x128, .f32⟩
  | .hbm, ⟨11, _⟩ => ⟨S8x8x8x128x512, .f32⟩
  | .hbm, ⟨12, _⟩ => ⟨S8x8x8x128x512, .bf16⟩
  | .hbm, ⟨13, _⟩ => ⟨S16x512, .i32⟩
  | .hbm, ⟨14, _⟩ => ⟨S_, .i32⟩
  | .hbm, ⟨15, _⟩ => ⟨S16x512, .i32⟩
  | .hbm, ⟨16, _⟩ => ⟨S16x512, .i1⟩
  | .hbm, ⟨17, _⟩ => ⟨S_, .f32⟩
  | .hbm, ⟨18, _⟩ => ⟨S_, .f32⟩
  | .hbm, ⟨19, _⟩ => ⟨S16x512, .f32⟩
  | .hbm, ⟨20, _⟩ => ⟨S16x512, .f32⟩
  | .hbm, ⟨21, _⟩ => ⟨S16x512, .f32⟩
  | .hbm, ⟨22, _⟩ => ⟨S16x512, .bf16⟩
  | .hbm, ⟨23, _⟩ => ⟨S8x8x8x16x512, .bf16⟩
  | .hbm, ⟨24, _⟩ => ⟨S8x8x8x144x512, .bf16⟩
  | .hbm, ⟨25, _⟩ => ⟨S512, .i32⟩
  | .hbm, ⟨26, _⟩ => ⟨S512x1, .i32⟩
  | .hbm, ⟨27, _⟩ => ⟨S_, .i32⟩
  | .hbm, ⟨28, _⟩ => ⟨S512x1, .i32⟩
  | .hbm, ⟨29, _⟩ => ⟨S512x1, .i32⟩
  | .hbm, ⟨30, _⟩ => ⟨S512, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S128x1, .f32⟩
  | .hbm, ⟨46, _⟩ => ⟨S8x4096x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S128x1, .f32⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x2x8x144x512, .bf16⟩
  | .local _ .vmem, ⟨10, _⟩ => ⟨S1x2x8x144x512, .bf16⟩
  | .local _ .vmem, ⟨11, _⟩ => ⟨S512x512, .f32⟩
  | .local _ .vmem, ⟨12, _⟩ => ⟨S1x4096x256, .bf16⟩
  | .local _ .vmem, ⟨13, _⟩ => ⟨S1x4096x256, .bf16⟩
  | .local _ .vmem, ⟨14, _⟩ => ⟨S2x2x128x1024, .bf16⟩
  | .local _ .vmem, ⟨15, _⟩ => ⟨S2x2x512x1024, .f32⟩
  | .local _ .vmem, ⟨16, _⟩ => ⟨S2x2x512x1024, .bf16⟩
  | .local _ .vmem, ⟨17, _⟩ => ⟨S2x2x1x1024, .f32⟩
  | .local _ .vmem, ⟨18, _⟩ => ⟨S2x2x1x1024, .f32⟩
  | .local _ .vmem, ⟨19, _⟩ => ⟨S2x2x144x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c512_i32 : BitVec 32 := 512#32
  let v20 : BitVec 32 := Scalar.muli arg2 c512_i32
  v20
def k0_off1 (i : grid0.Coords) : Fin 3 → Nat :=
  let c0_9 : Index := 0#32
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  let c0_10 : Index := 0#32
  ![0, v22.toNat, 0]
def k0_mult2 (i : grid0.Coords) : BitVec 32 :=
  let c7_i32 : BitVec 32 := 7#32
  let arg2 : BitVec 32 := BitVec.ofNat 32 (i 2).val
  let v0 : BitVec 32 := Scalar.subi c7_i32 arg2
  let c512_i32_19 : BitVec 32 := 512#32
  let v43 : BitVec 32 := Scalar.muli v0 c512_i32_19
  v43
def k0_off2 (i : grid0.Coords) : Fin 3 → Nat :=
  let c0_20 : Index := 0#32
  let c7_i32 : BitVec 32 := 7#32
  let arg2 : BitVec 32 := BitVec.ofNat 32 (i 2).val
  let v0 : BitVec 32 := Scalar.subi c7_i32 arg2
  let c512_i32_19 : BitVec 32 := 512#32
  let v43 : BitVec 32 := Scalar.muli v0 c512_i32_19
  let v44 : BitVec 32 := v43
  let v45 : Index := Scalar.indexCast v44
  let c0_21 : Index := 0#32
  ![0, v45.toNat, 0]
def k0_mult3 (i : grid0.Coords) : BitVec 32 :=
  let arg2 : BitVec 32 := BitVec.ofNat 32 (i 2).val
  let c512_i32_30 : BitVec 32 := 512#32
  let v66 : BitVec 32 := Scalar.muli arg2 c512_i32_30
  v66
def k0_off3 (i : grid0.Coords) : Fin 3 → Nat :=
  let c0_31 : Index := 0#32
  let arg2 : BitVec 32 := BitVec.ofNat 32 (i 2).val
  let c512_i32_30 : BitVec 32 := 512#32
  let v66 : BitVec 32 := Scalar.muli arg2 c512_i32_30
  let v67 : BitVec 32 := v66
  let v68 : Index := Scalar.indexCast v67
  let c128 : Index := 128#32
  ![0, v68.toNat, 128]
def k0_mult4 (i : grid0.Coords) : BitVec 32 :=
  let c7_i32 : BitVec 32 := 7#32
  let arg2 : BitVec 32 := BitVec.ofNat 32 (i 2).val
  let v0 : BitVec 32 := Scalar.subi c7_i32 arg2
  let c512_i32_41 : BitVec 32 := 512#32
  let v89 : BitVec 32 := Scalar.muli v0 c512_i32_41
  v89
def k0_off4 (i : grid0.Coords) : Fin 3 → Nat :=
  let c0_42 : Index := 0#32
  let c7_i32 : BitVec 32 := 7#32
  let arg2 : BitVec 32 := BitVec.ofNat 32 (i 2).val
  let v0 : BitVec 32 := Scalar.subi c7_i32 arg2
  let c512_i32_41 : BitVec 32 := 512#32
  let v89 : BitVec 32 := Scalar.muli v0 c512_i32_41
  let v90 : BitVec 32 := v89
  let v91 : Index := Scalar.indexCast v90
  let c128_43 : Index := 128#32
  ![0, v91.toNat, 128]
def k0_mult5 (i : grid0.Coords) : BitVec 32 :=
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_67 : BitVec 32 := 512#32
  let v148 : BitVec 32 := Scalar.muli v129 c512_i32_67
  v148
def k0_off5 (i : grid0.Coords) : Fin 3 → Nat :=
  let c0_68 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_67 : BitVec 32 := 512#32
  let v148 : BitVec 32 := Scalar.muli v129 c512_i32_67
  let v149 : BitVec 32 := v148
  let v150 : Index := Scalar.indexCast v149
  let c0_69 : Index := 0#32
  ![0, v150.toNat, 0]
def k0_mult6 (i : grid0.Coords) : BitVec 32 :=
  let c0_i32_77 : BitVec 32 := 0#32
  let arg2 : BitVec 32 := BitVec.ofNat 32 (i 2).val
  let c512_i32_75 : BitVec 32 := 512#32
  let v156 : BitVec 32 := Scalar.muli arg2 c512_i32_75
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_76 : BitVec 32 := 512#32
  let v157 : BitVec 32 := Scalar.muli v129 c512_i32_76
  let v158 : BitVec 32 := Scalar.subi v156 v157
  let v159 : BitVec 32 := Scalar.subi c0_i32_77 v158
  v159
def k0_off6 (i : grid0.Coords) : Fin 2 → Nat :=
  let c0_i32_77 : BitVec 32 := 0#32
  let arg2 : BitVec 32 := BitVec.ofNat 32 (i 2).val
  let c512_i32_75 : BitVec 32 := 512#32
  let v156 : BitVec 32 := Scalar.muli arg2 c512_i32_75
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_76 : BitVec 32 := 512#32
  let v157 : BitVec 32 := Scalar.muli v129 c512_i32_76
  let v158 : BitVec 32 := Scalar.subi v156 v157
  let v159 : BitVec 32 := Scalar.subi c0_i32_77 v158
  let v160 : BitVec 32 := v159
  let v161 : Index := Scalar.indexCast v160
  let c0_78 : Index := 0#32
  ![v161.toNat, 0]
def k0_mult7 (i : grid0.Coords) : BitVec 32 :=
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_83 : BitVec 32 := 512#32
  let v172 : BitVec 32 := Scalar.muli v129 c512_i32_83
  v172
def k0_off7 (i : grid0.Coords) : Fin 3 → Nat :=
  let c0_84 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_83 : BitVec 32 := 512#32
  let v172 : BitVec 32 := Scalar.muli v129 c512_i32_83
  let v173 : BitVec 32 := v172
  let v174 : Index := Scalar.indexCast v173
  let c128_85 : Index := 128#32
  ![0, v174.toNat, 128]
def k0_mult8 (i : grid0.Coords) : BitVec 32 :=
  let c0_i32_93 : BitVec 32 := 0#32
  let arg2 : BitVec 32 := BitVec.ofNat 32 (i 2).val
  let c512_i32_91 : BitVec 32 := 512#32
  let v180 : BitVec 32 := Scalar.muli arg2 c512_i32_91
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c512_i32_92 : BitVec 32 := 512#32
  let v181 : BitVec 32 := Scalar.muli v129 c512_i32_92
  let v182 : BitVec 32 := Scalar.subi v180 v181
  let v183 : BitVec 32 := Scalar.subi c0_i32_93 v182
  v183
def k0_mult9 (i : grid0.Coords) : BitVec 32 :=
  let c7_i32 : BitVec 32 := 7#32
  let arg2 : BitVec 32 := BitVec.ofNat 32 (i 2).val
  let v0 : BitVec 32 := Scalar.subi c7_i32 arg2
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_133 : BitVec 32 := 512#32
  let v228 : BitVec 32 := Scalar.muli v147 c512_i32_133
  v228
def k0_off8 (i : grid0.Coords) : Fin 3 → Nat :=
  let c0_134 : Index := 0#32
  let c7_i32 : BitVec 32 := 7#32
  let arg2 : BitVec 32 := BitVec.ofNat 32 (i 2).val
  let v0 : BitVec 32 := Scalar.subi c7_i32 arg2
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_133 : BitVec 32 := 512#32
  let v228 : BitVec 32 := Scalar.muli v147 c512_i32_133
  let v229 : BitVec 32 := v228
  let v230 : Index := Scalar.indexCast v229
  let c0_135 : Index := 0#32
  ![0, v230.toNat, 0]
def k0_mult10 (i : grid0.Coords) : BitVec 32 :=
  let c0_i32_143 : BitVec 32 := 0#32
  let c7_i32 : BitVec 32 := 7#32
  let arg2 : BitVec 32 := BitVec.ofNat 32 (i 2).val
  let v0 : BitVec 32 := Scalar.subi c7_i32 arg2
  let c512_i32_141 : BitVec 32 := 512#32
  let v236 : BitVec 32 := Scalar.muli v0 c512_i32_141
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_142 : BitVec 32 := 512#32
  let v237 : BitVec 32 := Scalar.muli v147 c512_i32_142
  let v238 : BitVec 32 := Scalar.subi v236 v237
  let v239 : BitVec 32 := Scalar.subi c0_i32_143 v238
  v239
def k0_off9 (i : grid0.Coords) : Fin 2 → Nat :=
  let c0_i32_143 : BitVec 32 := 0#32
  let c7_i32 : BitVec 32 := 7#32
  let arg2 : BitVec 32 := BitVec.ofNat 32 (i 2).val
  let v0 : BitVec 32 := Scalar.subi c7_i32 arg2
  let c512_i32_141 : BitVec 32 := 512#32
  let v236 : BitVec 32 := Scalar.muli v0 c512_i32_141
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_142 : BitVec 32 := 512#32
  let v237 : BitVec 32 := Scalar.muli v147 c512_i32_142
  let v238 : BitVec 32 := Scalar.subi v236 v237
  let v239 : BitVec 32 := Scalar.subi c0_i32_143 v238
  let v240 : BitVec 32 := v239
  let v241 : Index := Scalar.indexCast v240
  let c0_144 : Index := 0#32
  ![v241.toNat, 0]
def k0_mult11 (i : grid0.Coords) : BitVec 32 :=
  let c7_i32 : BitVec 32 := 7#32
  let arg2 : BitVec 32 := BitVec.ofNat 32 (i 2).val
  let v0 : BitVec 32 := Scalar.subi c7_i32 arg2
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_149 : BitVec 32 := 512#32
  let v252 : BitVec 32 := Scalar.muli v147 c512_i32_149
  v252
def k0_off10 (i : grid0.Coords) : Fin 3 → Nat :=
  let c0_150 : Index := 0#32
  let c7_i32 : BitVec 32 := 7#32
  let arg2 : BitVec 32 := BitVec.ofNat 32 (i 2).val
  let v0 : BitVec 32 := Scalar.subi c7_i32 arg2
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_149 : BitVec 32 := 512#32
  let v252 : BitVec 32 := Scalar.muli v147 c512_i32_149
  let v253 : BitVec 32 := v252
  let v254 : Index := Scalar.indexCast v253
  let c128_151 : Index := 128#32
  ![0, v254.toNat, 128]
def k0_mult12 (i : grid0.Coords) : BitVec 32 :=
  let c0_i32_159 : BitVec 32 := 0#32
  let c7_i32 : BitVec 32 := 7#32
  let arg2 : BitVec 32 := BitVec.ofNat 32 (i 2).val
  let v0 : BitVec 32 := Scalar.subi c7_i32 arg2
  let c512_i32_157 : BitVec 32 := 512#32
  let v260 : BitVec 32 := Scalar.muli v0 c512_i32_157
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let c512_i32_158 : BitVec 32 := 512#32
  let v261 : BitVec 32 := Scalar.muli v147 c512_i32_158
  let v262 : BitVec 32 := Scalar.subi v260 v261
  let v263 : BitVec 32 := Scalar.subi c0_i32_159 v262
  v263
def k0_mult13 (i : grid0.Coords) : BitVec 32 :=
  let c0_i32_168 : BitVec 32 := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c0_i32_165 : BitVec 32 := 0#32
  let v276 : BitVec 1 := Scalar.cmpi .sle v129 c0_i32_165
  let c1_i32_166 : BitVec 32 := 1#32
  let c0_i32_167 : BitVec 32 := 0#32
  let v277 : BitVec 32 := Scalar.select v276 c1_i32_166 c0_i32_167
  let v278 : BitVec 32 := Scalar.muli v277 v129
  let v279 : BitVec 32 := Scalar.subi c0_i32_168 v278
  let c512_i32_169 : BitVec 32 := 512#32
  let v280 : BitVec 32 := Scalar.muli v279 c512_i32_169
  v280
def k0_off11 (i : grid0.Coords) (c0_i32_168 : BitVec 32) (c0_i32_165 : BitVec 32) : Fin 3 → Nat :=
  let c0_170 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v276 : BitVec 1 := Scalar.cmpi .sle v129 c0_i32_165
  let c1_i32_166 : BitVec 32 := 1#32
  let c0_i32_167 : BitVec 32 := 0#32
  let v277 : BitVec 32 := Scalar.select v276 c1_i32_166 c0_i32_167
  let v278 : BitVec 32 := Scalar.muli v277 v129
  let v279 : BitVec 32 := Scalar.subi c0_i32_168 v278
  let c512_i32_169 : BitVec 32 := 512#32
  let v280 : BitVec 32 := Scalar.muli v279 c512_i32_169
  let v281 : BitVec 32 := v280
  let v282 : Index := Scalar.indexCast v281
  let c0_171 : Index := 0#32
  ![0, v282.toNat, 0]
def k0_off11_at (r : Fin 3) : BitVec 32 × BitVec 32 :=
  if r.val < 1 then
    (0#32, 0#32)
  else
    if r.val < 2 then
      (1#32, 1#32)
    else
      (6#32, 6#32)
def k0_off12 (i : grid0.Coords) (c0_i32_165 : BitVec 32) : Fin 4 → Nat :=
  let c0_172 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v276 : BitVec 1 := Scalar.cmpi .sle v129 c0_i32_165
  let c1_i32_166 : BitVec 32 := 1#32
  let c0_i32_167 : BitVec 32 := 0#32
  let v277 : BitVec 32 := Scalar.select v276 c1_i32_166 c0_i32_167
  let v285 : Index := Scalar.indexCast v277
  let c0_173 : Index := 0#32
  let c0_174 : Index := 0#32
  ![0, v285.toNat, 0, 0]
def k0_off12_at (r : Fin 3) : BitVec 32 :=
  if r.val < 1 then
    0#32
  else
    if r.val < 2 then
      1#32
    else
      6#32
def k0_mult14 (i : grid0.Coords) : BitVec 32 :=
  let c0_i32_168 : BitVec 32 := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c0_i32_165 : BitVec 32 := 0#32
  let v276 : BitVec 1 := Scalar.cmpi .sle v129 c0_i32_165
  let c1_i32_166 : BitVec 32 := 1#32
  let c0_i32_167 : BitVec 32 := 0#32
  let v277 : BitVec 32 := Scalar.select v276 c1_i32_166 c0_i32_167
  let v278 : BitVec 32 := Scalar.muli v277 v129
  let v279 : BitVec 32 := Scalar.subi c0_i32_168 v278
  let c512_i32_180 : BitVec 32 := 512#32
  let v292 : BitVec 32 := Scalar.muli v279 c512_i32_180
  v292
def k0_off13 (i : grid0.Coords) (c0_i32_168 : BitVec 32) (c0_i32_165 : BitVec 32) : Fin 3 → Nat :=
  let c0_181 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v276 : BitVec 1 := Scalar.cmpi .sle v129 c0_i32_165
  let c1_i32_166 : BitVec 32 := 1#32
  let c0_i32_167 : BitVec 32 := 0#32
  let v277 : BitVec 32 := Scalar.select v276 c1_i32_166 c0_i32_167
  let v278 : BitVec 32 := Scalar.muli v277 v129
  let v279 : BitVec 32 := Scalar.subi c0_i32_168 v278
  let c512_i32_180 : BitVec 32 := 512#32
  let v292 : BitVec 32 := Scalar.muli v279 c512_i32_180
  let v293 : BitVec 32 := v292
  let v294 : Index := Scalar.indexCast v293
  let c128_182 : Index := 128#32
  ![0, v294.toNat, 128]
def k0_off13_at (r : Fin 3) : BitVec 32 × BitVec 32 :=
  if r.val < 1 then
    (0#32, 0#32)
  else
    if r.val < 2 then
      (1#32, 1#32)
    else
      (6#32, 6#32)
def k0_off14 (i : grid0.Coords) (c0_i32_165 : BitVec 32) : Fin 4 → Nat :=
  let c1_183 : Index := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v276 : BitVec 1 := Scalar.cmpi .sle v129 c0_i32_165
  let c1_i32_166 : BitVec 32 := 1#32
  let c0_i32_167 : BitVec 32 := 0#32
  let v277 : BitVec 32 := Scalar.select v276 c1_i32_166 c0_i32_167
  let v297 : Index := Scalar.indexCast v277
  let c0_184 : Index := 0#32
  let c0_185 : Index := 0#32
  ![1, v297.toNat, 0, 0]
def k0_off14_at (r : Fin 3) : BitVec 32 :=
  if r.val < 1 then
    0#32
  else
    if r.val < 2 then
      1#32
    else
      6#32
def k0_off15 (i : grid0.Coords) : Fin 5 → Nat :=
  let c0_225 : Index := 0#32
  let c0_226 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v336 : Index := Scalar.indexCast v129
  let c0_227 : Index := 0#32
  let c0_228 : Index := 0#32
  ![0, 0, v336.toNat, 0, 0]
def k0_off16 (i : grid0.Coords) : Fin 5 → Nat :=
  let c0_238 : Index := 0#32
  let c1_239 : Index := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v345 : Index := Scalar.indexCast v129
  let c0_240 : Index := 0#32
  let c0_241 : Index := 0#32
  ![0, 1, v345.toNat, 0, 0]
def k0_mult15 (i : grid0.Coords) : BitVec 32 :=
  let c1_i32_254 : BitVec 32 := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c1_i32_251 : BitVec 32 := 1#32
  let v354 : BitVec 1 := Scalar.cmpi .sle v129 c1_i32_251
  let c1_i32_252 : BitVec 32 := 1#32
  let c0_i32_253 : BitVec 32 := 0#32
  let v355 : BitVec 32 := Scalar.select v354 c1_i32_252 c0_i32_253
  let v356 : BitVec 32 := Scalar.muli v355 v129
  let v357 : BitVec 32 := Scalar.subi c1_i32_254 v356
  let c512_i32_255 : BitVec 32 := 512#32
  let v358 : BitVec 32 := Scalar.muli v357 c512_i32_255
  v358
def k0_mult16 (i : grid0.Coords) : BitVec 32 :=
  let c1_i32_254 : BitVec 32 := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c1_i32_251 : BitVec 32 := 1#32
  let v354 : BitVec 1 := Scalar.cmpi .sle v129 c1_i32_251
  let c1_i32_252 : BitVec 32 := 1#32
  let c0_i32_253 : BitVec 32 := 0#32
  let v355 : BitVec 32 := Scalar.select v354 c1_i32_252 c0_i32_253
  let v356 : BitVec 32 := Scalar.muli v355 v129
  let v357 : BitVec 32 := Scalar.subi c1_i32_254 v356
  let c512_i32_266 : BitVec 32 := 512#32
  let v370 : BitVec 32 := Scalar.muli v357 c512_i32_266
  v370
def k0_off17 (i : grid0.Coords) (c0_i32_277 : BitVec 32) : Fin 4 → Nat :=
  let c0_285 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v382 : BitVec 1 := Scalar.cmpi .sle v129 c0_i32_277
  let c1_i32_278 : BitVec 32 := 1#32
  let c0_i32_279 : BitVec 32 := 0#32
  let v383 : BitVec 32 := Scalar.select v382 c1_i32_278 c0_i32_279
  let v388 : Index := Scalar.indexCast v383
  let c0_286 : Index := 0#32
  let c0_287 : Index := 0#32
  ![0, v388.toNat, 0, 0]
def k0_off17_at (r : Fin 3) : BitVec 32 :=
  if r.val < 1 then
    0#32
  else
    if r.val < 2 then
      5#32
    else
      6#32
def k0_off18 (i : grid0.Coords) (c0_i32_277 : BitVec 32) : Fin 4 → Nat :=
  let c1_308 : Index := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v382 : BitVec 1 := Scalar.cmpi .sle v129 c0_i32_277
  let c1_i32_278 : BitVec 32 := 1#32
  let c0_i32_279 : BitVec 32 := 0#32
  let v383 : BitVec 32 := Scalar.select v382 c1_i32_278 c0_i32_279
  let v414 : Index := Scalar.indexCast v383
  let c0_309 : Index := 0#32
  let c0_310 : Index := 0#32
  ![1, v414.toNat, 0, 0]
def k0_off18_at (r : Fin 3) : BitVec 32 :=
  if r.val < 1 then
    0#32
  else
    if r.val < 2 then
      5#32
    else
      6#32
def k0_off19 (i : grid0.Coords) : Fin 5 → Nat :=
  let c0_326 : Index := 0#32
  let c0_327 : Index := 0#32
  let c7_i32 : BitVec 32 := 7#32
  let arg2 : BitVec 32 := BitVec.ofNat 32 (i 2).val
  let v0 : BitVec 32 := Scalar.subi c7_i32 arg2
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let v436 : Index := Scalar.indexCast v147
  let c0_328 : Index := 0#32
  let c0_329 : Index := 0#32
  ![0, 0, v436.toNat, 0, 0]
def k0_off20 (i : grid0.Coords) : Fin 5 → Nat :=
  let c0_339 : Index := 0#32
  let c1_340 : Index := 1#32
  let c7_i32 : BitVec 32 := 7#32
  let arg2 : BitVec 32 := BitVec.ofNat 32 (i 2).val
  let v0 : BitVec 32 := Scalar.subi c7_i32 arg2
  let c512_i32_59 : BitVec 32 := 512#32
  let v130 : BitVec 32 := Scalar.muli v0 c512_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c512_i32_60 : BitVec 32 := 512#32
  let c0_i32_63 : BitVec 32 := 0#32
  let v137 : BitVec 1 := Scalar.cmpi .sgt c512_i32_60 c0_i32_63
  let v138 : BitVec 32 := Scalar.extui v137
  let c0_i32_64 : BitVec 32 := 0#32
  let v139 : BitVec 1 := Scalar.cmpi .slt c512_i32_60 c0_i32_64
  let v140 : BitVec 32 := Scalar.extui v139
  let v141 : BitVec 32 := Scalar.subi v138 v140
  let v142 : BitVec 1 := Scalar.cmpi .ne v136 v141
  let v143 : BitVec 32 := Scalar.remsi v130 c512_i32_60
  let c0_i32_65 : BitVec 32 := 0#32
  let v144 : BitVec 1 := Scalar.cmpi .ne v143 c0_i32_65
  let v145 : BitVec 1 := Scalar.andi v142 v144
  let v131 : BitVec 32 := Scalar.divsi v130 c512_i32_60
  let c1_i32_66 : BitVec 32 := 1#32
  let v146 : BitVec 32 := Scalar.subi v131 c1_i32_66
  let v147 : BitVec 32 := Scalar.select v145 v146 v131
  let v445 : Index := Scalar.indexCast v147
  let c0_341 : Index := 0#32
  let c0_342 : Index := 0#32
  ![0, 1, v445.toNat, 0, 0]
@[reducible] def k0_t1_loop : Scf.Loop 32 :=
  let c0_i32_352 : BitVec 32 := 0#32
  let c2_i32 : BitVec 32 := 2#32
  let v454 : BitVec 32 := Scalar.addi c0_i32_352 c2_i32
  let c1_i32_353 : BitVec 32 := 1#32
  ⟨c0_i32_352, v454, c1_i32_353⟩
def k0_mult17 (i : grid0.Coords) (k0_t1 : Fin k0_t1_loop.trips) : BitVec 32 :=
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let c2_i32_655 : BitVec 32 := 2#32
  let v852 : BitVec 32 := Scalar.addi v851 c2_i32_655
  let c2_i32_656 : BitVec 32 := 2#32
  let v853 : BitVec 32 := Scalar.addi v852 c2_i32_656
  let c2_i32_660 : BitVec 32 := 2#32
  let v857 : BitVec 32 := Scalar.subi v853 c2_i32_660
  let c2_i32_657 : BitVec 32 := 2#32
  let v854 : BitVec 32 := Scalar.subi v853 c2_i32_657
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v855 : BitVec 1 := Scalar.cmpi .sge v854 v129
  let c1_i32_658 : BitVec 32 := 1#32
  let c0_i32_659 : BitVec 32 := 0#32
  let v856 : BitVec 32 := Scalar.select v855 c1_i32_658 c0_i32_659
  let v858 : BitVec 32 := Scalar.muli v856 v129
  let v859 : BitVec 32 := Scalar.subi v857 v858
  let c512_i32_661 : BitVec 32 := 512#32
  let v860 : BitVec 32 := Scalar.muli v859 c512_i32_661
  v860
def k0_off21 (i : grid0.Coords) (k0_t1 : Fin k0_t1_loop.trips) (c2_i32_655 : BitVec 32) : Fin 3 → Nat :=
  let c0_662 : Index := 0#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_656 : BitVec 32 := 2#32
  let v853 : BitVec 32 := Scalar.addi v852 c2_i32_656
  let c2_i32_660 : BitVec 32 := 2#32
  let v857 : BitVec 32 := Scalar.subi v853 c2_i32_660
  let c2_i32_657 : BitVec 32 := 2#32
  let v854 : BitVec 32 := Scalar.subi v853 c2_i32_657
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v855 : BitVec 1 := Scalar.cmpi .sge v854 v129
  let c1_i32_658 : BitVec 32 := 1#32
  let c0_i32_659 : BitVec 32 := 0#32
  let v856 : BitVec 32 := Scalar.select v855 c1_i32_658 c0_i32_659
  let v858 : BitVec 32 := Scalar.muli v856 v129
  let v859 : BitVec 32 := Scalar.subi v857 v858
  let c512_i32_661 : BitVec 32 := 512#32
  let v860 : BitVec 32 := Scalar.muli v859 c512_i32_661
  let v861 : BitVec 32 := v860
  let v862 : Index := Scalar.indexCast v861
  let c0_663 : Index := 0#32
  ![0, v862.toNat, 0]
def k0_off22 (i : grid0.Coords) (k0_t1 : Fin k0_t1_loop.trips) (c2_i32_655 : BitVec 32) : Fin 4 → Nat :=
  let c0_664 : Index := 0#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_656 : BitVec 32 := 2#32
  let v853 : BitVec 32 := Scalar.addi v852 c2_i32_656
  let c2_i32_657 : BitVec 32 := 2#32
  let v854 : BitVec 32 := Scalar.subi v853 c2_i32_657
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v855 : BitVec 1 := Scalar.cmpi .sge v854 v129
  let c1_i32_658 : BitVec 32 := 1#32
  let c0_i32_659 : BitVec 32 := 0#32
  let v856 : BitVec 32 := Scalar.select v855 c1_i32_658 c0_i32_659
  let v865 : Index := Scalar.indexCast v856
  let c0_665 : Index := 0#32
  let c0_666 : Index := 0#32
  ![0, v865.toNat, 0, 0]
def k0_mult18 (i : grid0.Coords) (k0_t1 : Fin k0_t1_loop.trips) : BitVec 32 :=
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let c2_i32_655 : BitVec 32 := 2#32
  let v852 : BitVec 32 := Scalar.addi v851 c2_i32_655
  let c2_i32_656 : BitVec 32 := 2#32
  let v853 : BitVec 32 := Scalar.addi v852 c2_i32_656
  let c2_i32_660 : BitVec 32 := 2#32
  let v857 : BitVec 32 := Scalar.subi v853 c2_i32_660
  let c2_i32_657 : BitVec 32 := 2#32
  let v854 : BitVec 32 := Scalar.subi v853 c2_i32_657
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v855 : BitVec 1 := Scalar.cmpi .sge v854 v129
  let c1_i32_658 : BitVec 32 := 1#32
  let c0_i32_659 : BitVec 32 := 0#32
  let v856 : BitVec 32 := Scalar.select v855 c1_i32_658 c0_i32_659
  let v858 : BitVec 32 := Scalar.muli v856 v129
  let v859 : BitVec 32 := Scalar.subi v857 v858
  let c512_i32_672 : BitVec 32 := 512#32
  let v872 : BitVec 32 := Scalar.muli v859 c512_i32_672
  v872
def k0_off23 (i : grid0.Coords) (k0_t1 : Fin k0_t1_loop.trips) (c2_i32_655 : BitVec 32) : Fin 3 → Nat :=
  let c0_673 : Index := 0#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_656 : BitVec 32 := 2#32
  let v853 : BitVec 32 := Scalar.addi v852 c2_i32_656
  let c2_i32_660 : BitVec 32 := 2#32
  let v857 : BitVec 32 := Scalar.subi v853 c2_i32_660
  let c2_i32_657 : BitVec 32 := 2#32
  let v854 : BitVec 32 := Scalar.subi v853 c2_i32_657
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v855 : BitVec 1 := Scalar.cmpi .sge v854 v129
  let c1_i32_658 : BitVec 32 := 1#32
  let c0_i32_659 : BitVec 32 := 0#32
  let v856 : BitVec 32 := Scalar.select v855 c1_i32_658 c0_i32_659
  let v858 : BitVec 32 := Scalar.muli v856 v129
  let v859 : BitVec 32 := Scalar.subi v857 v858
  let c512_i32_672 : BitVec 32 := 512#32
  let v872 : BitVec 32 := Scalar.muli v859 c512_i32_672
  let v873 : BitVec 32 := v872
  let v874 : Index := Scalar.indexCast v873
  let c128_674 : Index := 128#32
  ![0, v874.toNat, 128]
def k0_off24 (i : grid0.Coords) (k0_t1 : Fin k0_t1_loop.trips) (c2_i32_655 : BitVec 32) : Fin 4 → Nat :=
  let c1_675 : Index := 1#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_656 : BitVec 32 := 2#32
  let v853 : BitVec 32 := Scalar.addi v852 c2_i32_656
  let c2_i32_657 : BitVec 32 := 2#32
  let v854 : BitVec 32 := Scalar.subi v853 c2_i32_657
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v855 : BitVec 1 := Scalar.cmpi .sge v854 v129
  let c1_i32_658 : BitVec 32 := 1#32
  let c0_i32_659 : BitVec 32 := 0#32
  let v856 : BitVec 32 := Scalar.select v855 c1_i32_658 c0_i32_659
  let v877 : Index := Scalar.indexCast v856
  let c0_676 : Index := 0#32
  let c0_677 : Index := 0#32
  ![1, v877.toNat, 0, 0]
def k0_off25 (i : grid0.Coords) (k0_t1 : Fin k0_t1_loop.trips) (c2_i32_655 : BitVec 32) : Fin 4 → Nat :=
  let c0_692 : Index := 0#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c1_i32_683 : BitVec 32 := 1#32
  let v884 : BitVec 32 := Scalar.addi v852 c1_i32_683
  let c2_i32_684 : BitVec 32 := 2#32
  let v885 : BitVec 32 := Scalar.subi v884 c2_i32_684
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v886 : BitVec 1 := Scalar.cmpi .sge v885 v129
  let c1_i32_685 : BitVec 32 := 1#32
  let c0_i32_686 : BitVec 32 := 0#32
  let v887 : BitVec 32 := Scalar.select v886 c1_i32_685 c0_i32_686
  let v892 : Index := Scalar.indexCast v887
  let c0_693 : Index := 0#32
  let c0_694 : Index := 0#32
  ![0, v892.toNat, 0, 0]
def k0_off26 (i : grid0.Coords) (k0_t1 : Fin k0_t1_loop.trips) (c2_i32_655 : BitVec 32) : Fin 4 → Nat :=
  let c1_715 : Index := 1#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c1_i32_683 : BitVec 32 := 1#32
  let v884 : BitVec 32 := Scalar.addi v852 c1_i32_683
  let c2_i32_684 : BitVec 32 := 2#32
  let v885 : BitVec 32 := Scalar.subi v884 c2_i32_684
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v886 : BitVec 1 := Scalar.cmpi .sge v885 v129
  let c1_i32_685 : BitVec 32 := 1#32
  let c0_i32_686 : BitVec 32 := 0#32
  let v887 : BitVec 32 := Scalar.select v886 c1_i32_685 c0_i32_686
  let v918 : Index := Scalar.indexCast v887
  let c0_716 : Index := 0#32
  let c0_717 : Index := 0#32
  ![1, v918.toNat, 0, 0]
def k0_off27 (i : grid0.Coords) (k0_t1 : Fin k0_t1_loop.trips) (c2_i32_655 : BitVec 32) : Fin 5 → Nat :=
  let c0_737 : Index := 0#32
  let c0_738 : Index := 0#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_736 : BitVec 32 := 2#32
  let v943 : BitVec 32 := Scalar.subi v852 c2_i32_736
  let c2_i32_733 : BitVec 32 := 2#32
  let v940 : BitVec 32 := Scalar.subi v852 c2_i32_733
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v941 : BitVec 1 := Scalar.cmpi .sge v940 v129
  let c1_i32_734 : BitVec 32 := 1#32
  let c0_i32_735 : BitVec 32 := 0#32
  let v942 : BitVec 32 := Scalar.select v941 c1_i32_734 c0_i32_735
  let v944 : BitVec 32 := Scalar.muli v942 v129
  let v945 : BitVec 32 := Scalar.subi v943 v944
  let v946 : Index := Scalar.indexCast v945
  let c0_739 : Index := 0#32
  let c0_740 : Index := 0#32
  ![0, 0, v946.toNat, 0, 0]
def k0_off28 (i : grid0.Coords) (k0_t1 : Fin k0_t1_loop.trips) (c2_i32_655 : BitVec 32) : Fin 4 → Nat :=
  let c0_750 : Index := 0#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_733 : BitVec 32 := 2#32
  let v940 : BitVec 32 := Scalar.subi v852 c2_i32_733
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v941 : BitVec 1 := Scalar.cmpi .sge v940 v129
  let c1_i32_734 : BitVec 32 := 1#32
  let c0_i32_735 : BitVec 32 := 0#32
  let v942 : BitVec 32 := Scalar.select v941 c1_i32_734 c0_i32_735
  let v954 : Index := Scalar.indexCast v942
  let c0_751 : Index := 0#32
  let c0_752 : Index := 0#32
  ![0, v954.toNat, 0, 0]
def k0_off29 (i : grid0.Coords) (k0_t1 : Fin k0_t1_loop.trips) (c2_i32_655 : BitVec 32) : Fin 5 → Nat :=
  let c0_756 : Index := 0#32
  let c1_757 : Index := 1#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_736 : BitVec 32 := 2#32
  let v943 : BitVec 32 := Scalar.subi v852 c2_i32_736
  let c2_i32_733 : BitVec 32 := 2#32
  let v940 : BitVec 32 := Scalar.subi v852 c2_i32_733
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v941 : BitVec 1 := Scalar.cmpi .sge v940 v129
  let c1_i32_734 : BitVec 32 := 1#32
  let c0_i32_735 : BitVec 32 := 0#32
  let v942 : BitVec 32 := Scalar.select v941 c1_i32_734 c0_i32_735
  let v944 : BitVec 32 := Scalar.muli v942 v129
  let v945 : BitVec 32 := Scalar.subi v943 v944
  let v964 : Index := Scalar.indexCast v945
  let c0_758 : Index := 0#32
  let c0_759 : Index := 0#32
  ![0, 1, v964.toNat, 0, 0]
def k0_off30 (i : grid0.Coords) (k0_t1 : Fin k0_t1_loop.trips) (c2_i32_655 : BitVec 32) : Fin 4 → Nat :=
  let c1_769 : Index := 1#32
  let c2_i32_654 : BitVec 32 := 2#32
  let c0_i32_352 : BitVec 32 := 0#32
  let c1_i32_353 : BitVec 32 := 1#32
  let arg19 : BitVec 32 := Scf.iv c0_i32_352 c1_i32_353 k0_t1
  let v851 : BitVec 32 := Scalar.muli c2_i32_654 arg19
  let v852 : BitVec 32 := Scalar.addi v851 c2_i32_655
  let c2_i32_733 : BitVec 32 := 2#32
  let v940 : BitVec 32 := Scalar.subi v852 c2_i32_733
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v941 : BitVec 1 := Scalar.cmpi .sge v940 v129
  let c1_i32_734 : BitVec 32 := 1#32
  let c0_i32_735 : BitVec 32 := 0#32
  let v942 : BitVec 32 := Scalar.select v941 c1_i32_734 c0_i32_735
  let v972 : Index := Scalar.indexCast v942
  let c0_770 : Index := 0#32
  let c0_771 : Index := 0#32
  ![1, v972.toNat, 0, 0]
def k0_mult19 (i : grid0.Coords) (k0_t1 : Fin k0_t1_loop.trips) : BitVec 32 :=
  let c2_i32_775 : BitVec 32 := 2#32
  let c0_i32_352 : BitVec 32 := 0#32
  let c1_i32_353 : BitVec 32 := 1#32
  let arg19 : BitVec 32 := Scf.iv c0_i32_352 c1_i32_353 k0_t1
  let v982 : BitVec 32 := Scalar.muli c2_i32_775 arg19
  let c3_i32 : BitVec 32 := 3#32
  let v983 : BitVec 32 := Scalar.addi v982 c3_i32
  let c2_i32_776 : BitVec 32 := 2#32
  let v984 : BitVec 32 := Scalar.addi v983 c2_i32_776
  let c2_i32_780 : BitVec 32 := 2#32
  let v988 : BitVec 32 := Scalar.subi v984 c2_i32_780
  let c2_i32_777 : BitVec 32 := 2#32
  let v985 : BitVec 32 := Scalar.subi v984 c2_i32_777
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v986 : BitVec 1 := Scalar.cmpi .sge v985 v129
  let c1_i32_778 : BitVec 32 := 1#32
  let c0_i32_779 : BitVec 32 := 0#32
  let v987 : BitVec 32 := Scalar.select v986 c1_i32_778 c0_i32_779
  let v989 : BitVec 32 := Scalar.muli v987 v129
  let v990 : BitVec 32 := Scalar.subi v988 v989
  let c512_i32_781 : BitVec 32 := 512#32
  let v991 : BitVec 32 := Scalar.muli v990 c512_i32_781
  v991
def k0_mult20 (i : grid0.Coords) (k0_t1 : Fin k0_t1_loop.trips) : BitVec 32 :=
  let c2_i32_775 : BitVec 32 := 2#32
  let c0_i32_352 : BitVec 32 := 0#32
  let c1_i32_353 : BitVec 32 := 1#32
  let arg19 : BitVec 32 := Scf.iv c0_i32_352 c1_i32_353 k0_t1
  let v982 : BitVec 32 := Scalar.muli c2_i32_775 arg19
  let c3_i32 : BitVec 32 := 3#32
  let v983 : BitVec 32 := Scalar.addi v982 c3_i32
  let c2_i32_776 : BitVec 32 := 2#32
  let v984 : BitVec 32 := Scalar.addi v983 c2_i32_776
  let c2_i32_780 : BitVec 32 := 2#32
  let v988 : BitVec 32 := Scalar.subi v984 c2_i32_780
  let c2_i32_777 : BitVec 32 := 2#32
  let v985 : BitVec 32 := Scalar.subi v984 c2_i32_777
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v986 : BitVec 1 := Scalar.cmpi .sge v985 v129
  let c1_i32_778 : BitVec 32 := 1#32
  let c0_i32_779 : BitVec 32 := 0#32
  let v987 : BitVec 32 := Scalar.select v986 c1_i32_778 c0_i32_779
  let v989 : BitVec 32 := Scalar.muli v987 v129
  let v990 : BitVec 32 := Scalar.subi v988 v989
  let c512_i32_792 : BitVec 32 := 512#32
  let v1003 : BitVec 32 := Scalar.muli v990 c512_i32_792
  v1003
def k0_mult21 (i : grid0.Coords) : BitVec 32 :=
  let c6_i32_357 : BitVec 32 := 6#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c6_i32 : BitVec 32 := 6#32
  let v455 : BitVec 1 := Scalar.cmpi .sle v129 c6_i32
  let c1_i32_355 : BitVec 32 := 1#32
  let c0_i32_356 : BitVec 32 := 0#32
  let v456 : BitVec 32 := Scalar.select v455 c1_i32_355 c0_i32_356
  let v457 : BitVec 32 := Scalar.muli v456 v129
  let v458 : BitVec 32 := Scalar.subi c6_i32_357 v457
  let c512_i32_358 : BitVec 32 := 512#32
  let v459 : BitVec 32 := Scalar.muli v458 c512_i32_358
  v459
def k0_mult22 (i : grid0.Coords) : BitVec 32 :=
  let c6_i32_357 : BitVec 32 := 6#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let c6_i32 : BitVec 32 := 6#32
  let v455 : BitVec 1 := Scalar.cmpi .sle v129 c6_i32
  let c1_i32_355 : BitVec 32 := 1#32
  let c0_i32_356 : BitVec 32 := 0#32
  let v456 : BitVec 32 := Scalar.select v455 c1_i32_355 c0_i32_356
  let v457 : BitVec 32 := Scalar.muli v456 v129
  let v458 : BitVec 32 := Scalar.subi c6_i32_357 v457
  let c512_i32_369 : BitVec 32 := 512#32
  let v471 : BitVec 32 := Scalar.muli v458 c512_i32_369
  v471
def k0_off31 (i : grid0.Coords) (c4_i32_430 : BitVec 32) (c4_i32 : BitVec 32) : Fin 5 → Nat :=
  let c0_431 : Index := 0#32
  let c0_432 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v537 : BitVec 1 := Scalar.cmpi .sle v129 c4_i32
  let c1_i32_428 : BitVec 32 := 1#32
  let c0_i32_429 : BitVec 32 := 0#32
  let v538 : BitVec 32 := Scalar.select v537 c1_i32_428 c0_i32_429
  let v539 : BitVec 32 := Scalar.muli v538 v129
  let v540 : BitVec 32 := Scalar.subi c4_i32_430 v539
  let v541 : Index := Scalar.indexCast v540
  let c0_433 : Index := 0#32
  let c0_434 : Index := 0#32
  ![0, 0, v541.toNat, 0, 0]
def k0_off31_at (r : Fin 3) : BitVec 32 × BitVec 32 :=
  if r.val < 1 then
    (4#32, 4#32)
  else
    if r.val < 2 then
      (5#32, 5#32)
    else
      (6#32, 6#32)
def k0_off32 (i : grid0.Coords) (c4_i32 : BitVec 32) : Fin 4 → Nat :=
  let c0_444 : Index := 0#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v537 : BitVec 1 := Scalar.cmpi .sle v129 c4_i32
  let c1_i32_428 : BitVec 32 := 1#32
  let c0_i32_429 : BitVec 32 := 0#32
  let v538 : BitVec 32 := Scalar.select v537 c1_i32_428 c0_i32_429
  let v549 : Index := Scalar.indexCast v538
  let c0_445 : Index := 0#32
  let c0_446 : Index := 0#32
  ![0, v549.toNat, 0, 0]
def k0_off33 (i : grid0.Coords) (c4_i32_430 : BitVec 32) (c4_i32 : BitVec 32) : Fin 5 → Nat :=
  let c0_450 : Index := 0#32
  let c1_451 : Index := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v537 : BitVec 1 := Scalar.cmpi .sle v129 c4_i32
  let c1_i32_428 : BitVec 32 := 1#32
  let c0_i32_429 : BitVec 32 := 0#32
  let v538 : BitVec 32 := Scalar.select v537 c1_i32_428 c0_i32_429
  let v539 : BitVec 32 := Scalar.muli v538 v129
  let v540 : BitVec 32 := Scalar.subi c4_i32_430 v539
  let v559 : Index := Scalar.indexCast v540
  let c0_452 : Index := 0#32
  let c0_453 : Index := 0#32
  ![0, 1, v559.toNat, 0, 0]
def k0_off33_at (r : Fin 3) : BitVec 32 × BitVec 32 :=
  if r.val < 1 then
    (4#32, 4#32)
  else
    if r.val < 2 then
      (5#32, 5#32)
    else
      (6#32, 6#32)
def k0_off34 (i : grid0.Coords) (c4_i32 : BitVec 32) : Fin 4 → Nat :=
  let c1_463 : Index := 1#32
  let arg2 : BitVec 32 := BitVec.ofNat 32 (i 2).val
  let c512_i32_53 : BitVec 32 := 512#32
  let v112 : BitVec 32 := Scalar.muli arg2 c512_i32_53
  let c0_i32 : BitVec 32 := 0#32
  let v114 : BitVec 1 := Scalar.cmpi .sgt v112 c0_i32
  let v115 : BitVec 32 := Scalar.extui v114
  let c0_i32_55 : BitVec 32 := 0#32
  let v116 : BitVec 1 := Scalar.cmpi .slt v112 c0_i32_55
  let v117 : BitVec 32 := Scalar.extui v116
  let v118 : BitVec 32 := Scalar.subi v115 v117
  let c512_i32_54 : BitVec 32 := 512#32
  let c0_i32_56 : BitVec 32 := 0#32
  let v119 : BitVec 1 := Scalar.cmpi .sgt c512_i32_54 c0_i32_56
  let v120 : BitVec 32 := Scalar.extui v119
  let c0_i32_57 : BitVec 32 := 0#32
  let v121 : BitVec 1 := Scalar.cmpi .slt c512_i32_54 c0_i32_57
  let v122 : BitVec 32 := Scalar.extui v121
  let v123 : BitVec 32 := Scalar.subi v120 v122
  let v124 : BitVec 1 := Scalar.cmpi .ne v118 v123
  let v125 : BitVec 32 := Scalar.remsi v112 c512_i32_54
  let c0_i32_58 : BitVec 32 := 0#32
  let v126 : BitVec 1 := Scalar.cmpi .ne v125 c0_i32_58
  let v127 : BitVec 1 := Scalar.andi v124 v126
  let v113 : BitVec 32 := Scalar.divsi v112 c512_i32_54
  let c1_i32 : BitVec 32 := 1#32
  let v128 : BitVec 32 := Scalar.subi v113 c1_i32
  let v129 : BitVec 32 := Scalar.select v127 v128 v113
  let v537 : BitVec 1 := Scalar.cmpi .sle v129 c4_i32
  let c1_i32_428 : BitVec 32 := 1#32
  let c0_i32_429 : BitVec 32 := 0#32
  let v538 : BitVec 32 := Scalar.select v537 c1_i32_428 c0_i32_429
  let v567 : Index := Scalar.indexCast v538
  let c0_464 : Index := 0#32
  let c0_465 : Index := 0#32
  ![1, v567.toNat, 0, 0]
def k0_mult23 (i : grid0.Coords) : BitVec 32 :=
  let arg2 : BitVec 32 := BitVec.ofNat 32 (i 2).val
  let c512_i32_612 : BitVec 32 := 512#32
  let v740 : BitVec 32 := Scalar.muli arg2 c512_i32_612
  v740
def k0_mult24 (i : grid0.Coords) : BitVec 32 :=
  let c7_i32 : BitVec 32 := 7#32
  let arg2 : BitVec 32 := BitVec.ofNat 32 (i 2).val
  let v0 : BitVec 32 := Scalar.subi c7_i32 arg2
  let c512_i32_625 : BitVec 32 := 512#32
  let v775 : BitVec 32 := Scalar.muli v0 c512_i32_625
  v775
def k0_mult25 (i : grid0.Coords) : BitVec 32 :=
  let arg2 : BitVec 32 := BitVec.ofNat 32 (i 2).val
  let c512_i32_638 : BitVec 32 := 512#32
  let v810 : BitVec 32 := Scalar.muli arg2 c512_i32_638
  v810
def k0_mult26 (i : grid0.Coords) : BitVec 32 :=
  let c7_i32 : BitVec 32 := 7#32
  let arg2 : BitVec 32 := BitVec.ofNat 32 (i 2).val
  let v0 : BitVec 32 := Scalar.subi c7_i32 arg2
  let c512_i32_651 : BitVec 32 := 512#32
  let v845 : BitVec 32 := Scalar.muli v0 c512_i32_651
  v845
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2x8x144x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "score_scale" => some (((1 / 8) * (Real.log 2)⁻¹ : ℝ) : EReal)
  | _ => none
-- ==== ReferenceIdeal.lean ====
abbrev S8x4096x1024 : Shape := ⟨3, ![8, 4096, 1024]⟩
abbrev S64 : Shape := ⟨1, ![64]⟩
abbrev S128 : Shape := ⟨1, ![128]⟩
abbrev S8x4096x8x2x64 : Shape := ⟨5, ![8, 4096, 8, 2, 64]⟩
abbrev S8x8x2x4096x64 : Shape := ⟨5, ![8, 8, 2, 4096, 64]⟩
abbrev S_ : Shape := ⟨0, ![]⟩
abbrev S8x4096x8x128 : Shape := ⟨4, ![8, 4096, 8, 128]⟩
abbrev S8x8x4096x128 : Shape := ⟨4, ![8, 8, 4096, 128]⟩
abbrev S8x8x2x4096x4096 : Shape := ⟨5, ![8, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x4096 : Shape := ⟨3, ![8, 8, 4096]⟩
abbrev S8x8x4096x1 : Shape := ⟨4, ![8, 8, 4096, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x4096x8x2x64, .f32⟩
  | .hbm, ⟨9, _⟩ => ⟨S8x8x2x4096x64, .f32⟩
  | .hbm, ⟨10, _⟩ => ⟨S_, .f32⟩
  | .hbm, ⟨11, _⟩ => ⟨S8x8x2x4096x64, .f32⟩
  | .hbm, ⟨12, _⟩ => ⟨S8x8x2x4096x64, .f32⟩
  | .hbm, ⟨13, _⟩ => ⟨S8x4096x8x2x64, .f32⟩
  | .hbm, ⟨14, _⟩ => ⟨S8x8x2x4096x64, .f32⟩
  | .hbm, ⟨15, _⟩ => ⟨S8x4096x8x128, .f32⟩
  | .hbm, ⟨16, _⟩ => ⟨S8x8x4096x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x8x2x4096x4096, .f32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x8x2x4096x4096, .i1⟩
  | .hbm, ⟨38, _⟩ => ⟨S8x8x2x4096x4096, .f32⟩
  | .hbm, ⟨39, _⟩ => ⟨S8x8x2x4096x4096, .f32⟩
  | .hbm, ⟨40, _⟩ => ⟨S_, .f32⟩
  | .hbm, ⟨41, _⟩ => ⟨S8x8x2x4096, .f32⟩
  | .hbm, ⟨42, _⟩ => ⟨S_, .f32⟩
  | .hbm, ⟨43, _⟩ => ⟨S8x8x2x4096, .f32⟩
  | .hbm, ⟨44, _⟩ => ⟨S8x8x2x4096, .f32⟩
  | .hbm, ⟨45, _⟩ => ⟨S8x8x2x4096x1, .f32⟩
  | .hbm, ⟨46, _⟩ => ⟨S8x8x2x4096x4096, .f32⟩
  | .hbm, ⟨47, _⟩ => ⟨S8x8x2x4096x4096, .f32⟩
  | .hbm, ⟨48, _⟩ => ⟨S8x8x2x4096x4096, .f32⟩
  | .hbm, ⟨49, _⟩ => ⟨S_, .f32⟩
  | .hbm, ⟨50, _⟩ => ⟨S8x8x2x4096, .f32⟩
  | .hbm, ⟨51, _⟩ => ⟨S8x8x2x4096x1, .f32⟩
  | .hbm, ⟨52, _⟩ => ⟨S8x8x2x4096x4096, .f32⟩
  | .hbm, ⟨53, _⟩ => ⟨S8x8x2x4096x4096, .f32⟩
  | .hbm, ⟨54, _⟩ => ⟨S_, .f32⟩
  | .hbm, ⟨55, _⟩ => ⟨S_, .f32⟩
  | .hbm, ⟨56, _⟩ => ⟨S8x8x2x4096x4096, .i1⟩
  | .hbm, ⟨57, _⟩ => ⟨S8x8x2x4096x4096, .f32⟩
  | .hbm, ⟨58, _⟩ => ⟨S8x8x2x4096x4096, .f32⟩
  | .hbm, ⟨59, _⟩ => ⟨S8x8x1x4096x4096, .f32⟩
  | .hbm, ⟨60, _⟩ => ⟨S8x8x4096x4096, .f32⟩
  | .hbm, ⟨61, _⟩ => ⟨S8x8x1x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S8x8x4096x128, .f32⟩
  | .hbm, ⟨67, _⟩ => ⟨S8x8x4096x128, .f32⟩
  | .hbm, ⟨68, _⟩ => ⟨S_, .f32⟩
  | .hbm, ⟨69, _⟩ => ⟨S8x8x4096, .f32⟩
  | .hbm, ⟨70, _⟩ => ⟨S8x8x4096x1, .f32⟩
  | .hbm, ⟨71, _⟩ => ⟨S_, .f32⟩
  | .hbm, ⟨72, _⟩ => ⟨S8x8x4096x1, .f32⟩
  | .hbm, ⟨73, _⟩ => ⟨S8x8x4096x1, .f32⟩
  | .hbm, ⟨74, _⟩ => ⟨S_, .f32⟩
  | .hbm, ⟨75, _⟩ => ⟨S8x8x4096x1, .f32⟩
  | .hbm, ⟨76, _⟩ => ⟨S8x8x4096x1, .f32⟩
  | .hbm, ⟨77, _⟩ => ⟨S8x8x4096x1, .f32⟩
  | .hbm, ⟨78, _⟩ => ⟨S8x8x4096x128, .f32⟩
  | .hbm, ⟨79, _⟩ => ⟨S8x8x4096x128, .f32⟩
  | .hbm, ⟨80, _⟩ => ⟨S1x1x1x128, .f32⟩
  | .hbm, ⟨81, _⟩ => ⟨S8x8x4096x128, .f32⟩
  | .hbm, ⟨82, _⟩ => ⟨S8x8x4096x128, .f32⟩
  | .hbm, ⟨83, _⟩ => ⟨S_, .f32⟩
  | .hbm, ⟨84, _⟩ => ⟨S8x8x4096x128, .f32⟩
  | .hbm, ⟨85, _⟩ => ⟨S8x8x4096x128, .f32⟩
  | .hbm, ⟨86, _⟩ => ⟨S8x4096x8x128, .f32⟩
  | .hbm, ⟨87, _⟩ => ⟨S8x4096x1024, .f32⟩
  | .hbm, ⟨88, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32768x1024 : Shape := ⟨2, ![32768, 1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8x4096x1024, .bf16⟩
  | .hbm, ⟨8, _⟩ => ⟨S1x1024, .f32⟩
  | .hbm, ⟨9, _⟩ => ⟨S32768x1024, .f32⟩
  | .hbm, ⟨10, _⟩ => ⟨S32768x1024, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x1024 : Shape := ⟨2, ![1, 1024]⟩
abbrev S32768x1024 : Shape := ⟨2, ![32768, 1024]⟩
abbrev S1024x1 : Shape := ⟨2, ![1024, 1]⟩

abbrev nBuf : Space → Nat
  | .hbm => 17
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x1024, .bf16⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S32768x1024, .f32⟩
  | .hbm, ⟨11, _⟩ => ⟨S32768x1024, .bf16⟩
  | .hbm, ⟨12, _⟩ => ⟨S1024x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x1024, .f32⟩
  | .hbm, ⟨30, _⟩ => ⟨S8x4096x1024, .f32⟩
  | .hbm, ⟨31, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.IdealBody.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.Pipeline.Kit

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem off12_0 : ∀ i : grid0.Coords, k0_off12 i 0#32 = ![0, (if 0 ≥ (i 2).val then 1 else 0), 0, 0] := by decide +kernel
instance closedOff_off12_0 (i : grid0.Coords) : ClosedOff (k0_off12 i 0#32) := ⟨![0, (if 0 ≥ (i 2).val then 1 else 0), 0, 0], off12_0 i⟩

theorem off12_1 : ∀ i : grid0.Coords, k0_off12 i 1#32 = ![0, (if 1 ≥ (i 2).val then 1 else 0), 0, 0] := by decide +kernel
instance closedOff_off12_1 (i : grid0.Coords) : ClosedOff (k0_off12 i 1#32) := ⟨![0, (if 1 ≥ (i 2).val then 1 else 0), 0, 0], off12_1 i⟩

theorem off12_6 : ∀ i : grid0.Coords, k0_off12 i 6#32 = ![0, 1, 0, 0] := by decide +kernel
instance closedOff_off12_6 (i : grid0.Coords) : ClosedOff (k0_off12 i 6#32) := ⟨![0, 1, 0, 0], off12_6 i⟩

theorem off14_0 : ∀ i : grid0.Coords, k0_off14 i 0#32 = ![1, (if 0 ≥ (i 2).val then 1 else 0), 0, 0] := by decide +kernel
instance closedOff_off14_0 (i : grid0.Coords) : ClosedOff (k0_off14 i 0#32) := ⟨![1, (if 0 ≥ (i 2).val then 1 else 0), 0, 0], off14_0 i⟩

theorem off14_1 : ∀ i : grid0.Coords, k0_off14 i 1#32 = ![1, (if 1 ≥ (i 2).val then 1 else 0), 0, 0] := by decide +kernel
instance closedOff_off14_1 (i : grid0.Coords) : ClosedOff (k0_off14 i 1#32) := ⟨![1, (if 1 ≥ (i 2).val then 1 else 0), 0, 0], off14_1 i⟩

theorem off14_6 : ∀ i : grid0.Coords, k0_off14 i 6#32 = ![1, 1, 0, 0] := by decide +kernel
instance closedOff_off14_6 (i : grid0.Coords) : ClosedOff (k0_off14 i 6#32) := ⟨![1, 1, 0, 0], off14_6 i⟩

theorem off17_0 : ∀ i : grid0.Coords, k0_off17 i 0#32 = ![0, (if 0 ≥ (i 2).val then 1 else 0), 0, 0] := by decide +kernel
instance closedOff_off17_0 (i : grid0.Coords) : ClosedOff (k0_off17 i 0#32) := ⟨![0, (if 0 ≥ (i 2).val then 1 else 0), 0, 0], off17_0 i⟩

theorem off17_5 : ∀ i : grid0.Coords, k0_off17 i 5#32 = ![0, 1, 0, 0] := by decide +kernel
instance closedOff_off17_5 (i : grid0.Coords) : ClosedOff (k0_off17 i 5#32) := ⟨![0, 1, 0, 0], off17_5 i⟩

theorem off17_6 : ∀ i : grid0.Coords, k0_off17 i 6#32 = ![0, 1, 0, 0] := by decide +kernel
instance closedOff_off17_6 (i : grid0.Coords) : ClosedOff (k0_off17 i 6#32) := ⟨![0, 1, 0, 0], off17_6 i⟩

theorem off18_0 : ∀ i : grid0.Coords, k0_off18 i 0#32 = ![1, (if 0 ≥ (i 2).val then 1 else 0), 0, 0] := by decide +kernel
instance closedOff_off18_0 (i : grid0.Coords) : ClosedOff (k0_off18 i 0#32) := ⟨![1, (if 0 ≥ (i 2).val then 1 else 0), 0, 0], off18_0 i⟩

theorem off18_5 : ∀ i : grid0.Coords, k0_off18 i 5#32 = ![1, 1, 0, 0] := by decide +kernel
instance closedOff_off18_5 (i : grid0.Coords) : ClosedOff (k0_off18 i 5#32) := ⟨![1, 1, 0, 0], off18_5 i⟩

theorem off18_6 : ∀ i : grid0.Coords, k0_off18 i 6#32 = ![1, 1, 0, 0] := by decide +kernel
instance closedOff_off18_6 (i : grid0.Coords) : ClosedOff (k0_off18 i 6#32) := ⟨![1, 1, 0, 0], off18_6 i⟩

set_option warn.classDefReducibility false in
/-- The loop's invariant at one value of the unused argument, so that the run can fix the others. -/
@[sl_loop] def loopAt (𝒱 : Variants) (c : Dev nD) (bd : Option 𝒱.V) (E : Set ℕ) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S128x1 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x2x8x144x512 .bf16) (harg10 : arg10.IsWhole) (arg11 : Memref sig .tc .vmem S512x512 .f32) (harg11 : arg11.IsWhole) (arg12 : Memref sig .tc .vmem S1x4096x256 .bf16) (harg12 : arg12.IsWhole) (arg13 : Memref sig .tc .vmem S2x2x128x1024 .bf16) (harg13 : arg13.IsWhole) (arg14 : Memref sig .tc .vmem S2x2x512x1024 .f32) (harg14 : arg14.IsWhole) (arg15 : Memref sig .tc .vmem S2x2x512x1024 .bf16) (harg15 : arg15.IsWhole) (arg16 : Memref sig .tc .vmem S2x2x1x1024 .f32) (harg16 : arg16.IsWhole) (arg17 : Memref sig .tc .vmem S2x2x1x1024 .f32) (harg17 : arg17.IsWhole) (arg18 : Memref sig .tc .vmem S2x2x144x1024 .f32) (harg18 : arg18.IsWhole) (v129 : BitVec 32) (X_arg9 : BufTy.Contents (Elt F) arg9.view.ty) (X_arg10 : BufTy.Contents (Elt F) arg10.view.ty) (X_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) :=
  loopInv_k0_t1 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 (constant S144x1024 .f32 0#32 : FVec F S144x1024 .f32) X_arg9 X_arg10 X_arg13 G_arg14 G_arg15 G_arg16 G_arg17 G_arg18

def kernelRun (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S128x1 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x2x8x144x512 .bf16) (harg10 : arg10.IsWhole) (arg11 : Memref sig .tc .vmem S512x512 .f32) (harg11 : arg11.IsWhole) (arg12 : Memref sig .tc .vmem S1x4096x256 .bf16) (harg12 : arg12.IsWhole) (arg13 : Memref sig .tc .vmem S2x2x128x1024 .bf16) (harg13 : arg13.IsWhole) (arg14 : Memref sig .tc .vmem S2x2x512x1024 .f32) (harg14 : arg14.IsWhole) (arg15 : Memref sig .tc .vmem S2x2x512x1024 .bf16) (harg15 : arg15.IsWhole) (arg16 : Memref sig .tc .vmem S2x2x1x1024 .f32) (harg16 : arg16.IsWhole) (arg17 : Memref sig .tc .vmem S2x2x1x1024 .f32) (harg17 : arg17.IsWhole) (arg18 : Memref sig .tc .vmem S2x2x144x1024 .f32) (harg18 : arg18.IsWhole)
    (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
    (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) :
    { L12 : List (View.Piece (Elt F) S1x4096x256 .bf16) //
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18)) : sProp 𝕄)
      ⊢ wp frame (wpE (defs₀ (F := F)) Variants.none (c : Thread nD τ) none) Set.univ (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} (arg12.view.writes (Elt F) f_arg12 L12)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)))) } := by
  refine ⟨?_, ?run⟩
  case run =>
    simp only [cc0_diff_attn_eq_skeleton]; unfold cc0_diff_attn_skel
    iintro ⟨Harg3, Harg4, Harg5, Harg6, Harg7, Harg8, Harg9, Harg10, Harg11, Harg12, Harg13, Harg14, Harg15, Harg16, Harg17, Harg18⟩
    sl_exec
    sl_step
    sl_close

end Cert.KernelIdeal.Hand

end
-- ==== Proof.IdealFrame.lean ====
module

public import proofs.«01_k».proof.Proof.IdealBody
public import proofs.«01_k».proof.Proof.Gen.KernelIdeal.Frame

/-! The frame of the program: at every point the body leaves its inputs as it found them and the rows of the output's
block overwritten by the pieces of the run (`Wrote`), over whatever the block held. -/

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The pieces the run at point `t` writes into the output's block, over the contents of the buffers it reads. -/
def pieces (c : Dev nD) (t : Fin cfg0.N) (f0 : BufTy.Contents (Elt F) (st0_0 t).view.ty) (f1 : BufTy.Contents (Elt F) (st0_1 t).view.ty) (f2 : BufTy.Contents (Elt F) (st0_2 t).view.ty) (f3 : BufTy.Contents (Elt F) (st0_3 t).view.ty) (f4 : BufTy.Contents (Elt F) (st0_4 t).view.ty) (f5 : BufTy.Contents (Elt F) (st0_5 t).view.ty) (f6 : BufTy.Contents (Elt F) (st0_6 t).view.ty) (f7 : BufTy.Contents (Elt F) (st0_7 t).view.ty) (f8 : BufTy.Contents (Elt F) (st0_8 t).view.ty) (f9 : BufTy.Contents (Elt F) (st0_9 t).view.ty)
    (g0 : BufTy.Contents (Elt F) (Memref.whole cc0_scratch0 : Memref sig .tc .vmem S2x2x128x1024 .bf16).view.ty) (g1 : BufTy.Contents (Elt F) (Memref.whole cc0_scratch1 : Memref sig .tc .vmem S2x2x512x1024 .f32).view.ty) (g2 : BufTy.Contents (Elt F) (Memref.whole cc0_scratch2 : Memref sig .tc .vmem S2x2x512x1024 .bf16).view.ty) (g3 : BufTy.Contents (Elt F) (Memref.whole cc0_scratch3 : Memref sig .tc .vmem S2x2x1x1024 .f32).view.ty) (g4 : BufTy.Contents (Elt F) (Memref.whole cc0_scratch4 : Memref sig .tc .vmem S2x2x1x1024 .f32).view.ty) (g5 : BufTy.Contents (Elt F) (Memref.whole cc0_scratch5 : Memref sig .tc .vmem S2x2x144x1024 .f32).view.ty) :
    List (View.Piece (Elt F) S1x4096x256 .bf16) :=
  (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    f0 f1 f2 f3 f4 f5 f6 f7 f8 f9 g0 g1 g2 g3 g4 g5).1

/-- What the body may leave in the output's block at point `t`, handed it at `Y`: the run's pieces written over it,
for some contents of the scratch buffers, the inputs' buffers at their blocks. -/
def Wrote (c : Dev nD) (t : Fin cfg0.N) (Y X : S1x4096x256.Idx → Elt F .bf16) : Prop :=
  ∃ f0 f1 f2 f3 f4 f5 f6 f7 f8 f9 g0 g1 g2 g3 g4 g5, (st0_0 t).view.read (Elt F) f0 = iblk m c 0 t ∧ (st0_1 t).view.read (Elt F) f1 = iblk m c 1 t ∧ (st0_2 t).view.read (Elt F) f2 = iblk m c 2 t ∧ (st0_3 t).view.read (Elt F) f3 = iblk m c 3 t ∧ (st0_4 t).view.read (Elt F) f4 = iblk m c 4 t ∧ (st0_5 t).view.read (Elt F) f5 = iblk m c 5 t ∧ (st0_6 t).view.read (Elt F) f6 = iblk m c 6 t ∧ (st0_7 t).view.read (Elt F) f7 = iblk m c 7 t ∧ (st0_8 t).view.read (Elt F) f8 = iblk m c 8 t
    ∧ (st0_9 t).view.read (Elt F) f9 = Y
    ∧ X = (st0_9 t).view.read (Elt F) ((st0_9 t).view.writes (Elt F) f9 (pieces c t f0 f1 f2 f3 f4 f5 f6 f7 f8 f9 g0 g1 g2 g3 g4 g5))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q _ := fullShare
  owed _ := 0

/-- The output's window alone is described by the relation. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => none
  | ⟨9, _⟩ => some (Wrote m c)

def rdat (c : Dev nD) : RDat τ (Elt F) Unit ℕ (UR sig nD τ) ℕ cfg0 c := (dats m 0 c).toR.override (ovr m c)

theorem A_eq (c : Dev nD) (w : Fin cfg0.W) : (rdat m c).A w = V m c (Pipeline.arrRef spec0 w) := rfl

theorem finds_0 (c : Dev nD) (t : Fin cfg0.N) (X : (cfg0.win 0).block.Idx → Elt F (cfg0.win 0).elt)
    (h : (rdat m c).Finds 0 t X) : X = iblk m c 0 t := by
  obtain ⟨d, hd⟩ := (dats m 0 c).toR_finds 0 t X (((dats m 0 c).toR.override_finds (ovr := ovr m c) (w := 0) rfl t X).mp h)
  rw [hd]; exact before0_0_of m (dats m 0 c) rfl (fun _ => rfl) t d

theorem finds_1 (c : Dev nD) (t : Fin cfg0.N) (X : (cfg0.win 1).block.Idx → Elt F (cfg0.win 1).elt)
    (h : (rdat m c).Finds 1 t X) : X = iblk m c 1 t := by
  obtain ⟨d, hd⟩ := (dats m 0 c).toR_finds 1 t X (((dats m 0 c).toR.override_finds (ovr := ovr m c) (w := 1) rfl t X).mp h)
  rw [hd]; exact before0_1_of m (dats m 0 c) rfl (fun _ => rfl) t d

theorem finds_2 (c : Dev nD) (t : Fin cfg0.N) (X : (cfg0.win 2).block.Idx → Elt F (cfg0.win 2).elt)
    (h : (rdat m c).Finds 2 t X) : X = iblk m c 2 t := by
  obtain ⟨d, hd⟩ := (dats m 0 c).toR_finds 2 t X (((dats m 0 c).toR.override_finds (ovr := ovr m c) (w := 2) rfl t X).mp h)
  rw [hd]; exact before0_2_of m (dats m 0 c) rfl (fun _ => rfl) t d

theorem finds_3 (c : Dev nD) (t : Fin cfg0.N) (X : (cfg0.win 3).block.Idx → Elt F (cfg0.win 3).elt)
    (h : (rdat m c).Finds 3 t X) : X = iblk m c 3 t := by
  obtain ⟨d, hd⟩ := (dats m 0 c).toR_finds 3 t X (((dats m 0 c).toR.override_finds (ovr := ovr m c) (w := 3) rfl t X).mp h)
  rw [hd]; exact before0_3_of m (dats m 0 c) rfl (fun _ => rfl) t d

theorem finds_4 (c : Dev nD) (t : Fin cfg0.N) (X : (cfg0.win 4).block.Idx → Elt F (cfg0.win 4).elt)
    (h : (rdat m c).Finds 4 t X) : X = iblk m c 4 t := by
  obtain ⟨d, hd⟩ := (dats m 0 c).toR_finds 4 t X (((dats m 0 c).toR.override_finds (ovr := ovr m c) (w := 4) rfl t X).mp h)
  rw [hd]; exact before0_4_of m (dats m 0 c) rfl (fun _ => rfl) t d

theorem finds_5 (c : Dev nD) (t : Fin cfg0.N) (X : (cfg0.win 5).block.Idx → Elt F (cfg0.win 5).elt)
    (h : (rdat m c).Finds 5 t X) : X = iblk m c 5 t := by
  obtain ⟨d, hd⟩ := (dats m 0 c).toR_finds 5 t X (((dats m 0 c).toR.override_finds (ovr := ovr m c) (w := 5) rfl t X).mp h)
  rw [hd]; exact before0_5_of m (dats m 0 c) rfl (fun _ => rfl) t d

theorem finds_6 (c : Dev nD) (t : Fin cfg0.N) (X : (cfg0.win 6).block.Idx → Elt F (cfg0.win 6).elt)
    (h : (rdat m c).Finds 6 t X) : X = iblk m c 6 t := by
  obtain ⟨d, hd⟩ := (dats m 0 c).toR_finds 6 t X (((dats m 0 c).toR.override_finds (ovr := ovr m c) (w := 6) rfl t X).mp h)
  rw [hd]; exact before0_6_of m (dats m 0 c) rfl (fun _ => rfl) t d

theorem finds_7 (c : Dev nD) (t : Fin cfg0.N) (X : (cfg0.win 7).block.Idx → Elt F (cfg0.win 7).elt)
    (h : (rdat m c).Finds 7 t X) : X = iblk m c 7 t := by
  obtain ⟨d, hd⟩ := (dats m 0 c).toR_finds 7 t X (((dats m 0 c).toR.override_finds (ovr := ovr m c) (w := 7) rfl t X).mp h)
  rw [hd]; exact before0_7_of m (dats m 0 c) rfl (fun _ => rfl) t d

theorem finds_8 (c : Dev nD) (t : Fin cfg0.N) (X : (cfg0.win 8).block.Idx → Elt F (cfg0.win 8).elt)
    (h : (rdat m c).Finds 8 t X) : X = iblk m c 8 t := by
  obtain ⟨d, hd⟩ := (dats m 0 c).toR_finds 8 t X (((dats m 0 c).toR.override_finds (ovr := ovr m c) (w := 8) rfl t X).mp h)
  rw [hd]; exact before0_8_of m (dats m 0 c) rfl (fun _ => rfl) t d

theorem after_9 (c : Dev nD) (t : Fin cfg0.N) (Y X : (cfg0.win 9).block.Idx → Elt F (cfg0.win 9).elt) (h : Wrote m c t Y X) :
    (rdat m c).after 9 t Y X := by
  rw [show (rdat m c).after 9 = Wrote m c from (dats m 0 c).toR.override_after_of_eq_some (ovr := ovr m c) rfl]; exact h

theorem Phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA; rw [scopedRest0_eq]; simp only [owns_whole]; try rfl

theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) (h3 : Y 3 = iblk m c 3 t) (h4 : Y 4 = iblk m c 4 t) (h5 : Y 5 = iblk m c 5 t) (h6 : Y 6 = iblk m c 6 t) (h7 : Y 7 = iblk m c 7 t) (h8 : Y 8 = iblk m c 8 t) :
    iprop((rdat m c).Φ t.castSucc ∗ (rdat m c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))
    ⊢ wp frame (wpE (defs₀ (F := F)) Variants.none (c : Thread nD τ) none) Set.univ (bodyAt0 t) (fun _ =>
      iprop((rdat m c).Φ t.succ ∗ (rdat m c).owesAt () t.succ
      ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X))) := by
  unfold bodyAt0
  rw [show (rdat m c).Φ t.succ = Pipeline.ΦA spec0 c from rfl, show (rdat m c).Φ t.castSucc = Pipeline.ΦA spec0 c from rfl, Phi_eq]
  unfold RDat.owesAt Pipeline.owesWithin
  rw [show (rdat m c).owed t.castSucc = 0 from rfl, show (rdat m c).owed t.succ = 0 from rfl]
  unfold owns
  iintro ⟨⟨⟨⟨%d0, %g0, %e0, S0⟩, ⟨%d1, %g1, %e1, S1⟩, ⟨%d2, %g2, %e2, S2⟩, ⟨%d3, %g3, %e3, S3⟩, ⟨%d4, %g4, %e4, S4⟩, ⟨%d5, %g5, %e5, S5⟩⟩, Hg⟩, ⟨%W, -, HW⟩, ⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩⟩
  iapply (wp_wand_r frame (wpE (defs₀ (F := F)) Variants.none (c : Thread nD τ) none) Set.univ)
  isplitl [H0 H1 H2 H3 H4 H5 H6 H7 H8 H9 S0 S1 S2 S3 S4 S5]
  · iapply ((kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      f0 f1 f2 f3 f4 f5 f6 f7 f8 f9 g0 g1 g2 g3 g4 g5).2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    iexact S5
  iintro %_ ⟨H0, H1, H2, H3, H4, H5, H6, H7, H8, H9, ⟨%k0, S0⟩, ⟨%k1, S1⟩, ⟨%k2, S2⟩, ⟨%k3, S3⟩, ⟨%k4, S4⟩, ⟨%k5, S5⟩⟩
  isplitl [S0 S1 S2 S3 S4 S5 Hg]
  · isplitl [S0 S1 S2 S3 S4 S5]
    · isplitl [S0]
      · iexists _; iexists _; isplitr
        swap
        · iexact S0
        ipureintro; rfl
      isplitl [S1]
      · iexists _; iexists _; isplitr
        swap
        · iexact S1
        ipureintro; rfl
      isplitl [S2]
      · iexists _; iexists _; isplitr
        swap
        · iexact S2
        ipureintro; rfl
      isplitl [S3]
      · iexists _; iexists _; isplitr
        swap
        · iexact S3
        ipureintro; rfl
      isplitl [S4]
      · iexists _; iexists _; isplitr
        swap
        · iexact S4
        ipureintro; rfl
      iexists _; iexists _; isplitr
      swap
      · iexact S5
      ipureintro; rfl
    iexact Hg
  isplitl [HW]
  · iexists W; isplitr; · ipureintro; exact fun _ _ => Or.inl trivial
    iexact HW
  isplitl [H0]
  · iexists (iblk m c 0 t); isplitr; · ipureintro; first | exact rfl | skip
    iexists f0; isplitr; · ipureintro; exact r0.trans h0
    iexact H0
  isplitl [H1]
  · iexists (iblk m c 1 t); isplitr; · ipureintro; first | exact rfl | skip
    iexists f1; isplitr; · ipureintro; exact r1.trans h1
    iexact H1
  isplitl [H2]
  · iexists (iblk m c 2 t); isplitr; · ipureintro; first | exact rfl | skip
    iexists f2; isplitr; · ipureintro; exact r2.trans h2
    iexact H2
  isplitl [H3]
  · iexists (iblk m c 3 t); isplitr; · ipureintro; first | exact rfl | skip
    iexists f3; isplitr; · ipureintro; exact r3.trans h3
    iexact H3
  isplitl [H4]
  · iexists (iblk m c 4 t); isplitr; · ipureintro; first | exact rfl | skip
    iexists f4; isplitr; · ipureintro; exact r4.trans h4
    iexact H4
  isplitl [H5]
  · iexists (iblk m c 5 t); isplitr; · ipureintro; first | exact rfl | skip
    iexists f5; isplitr; · ipureintro; exact r5.trans h5
    iexact H5
  isplitl [H6]
  · iexists (iblk m c 6 t); isplitr; · ipureintro; first | exact rfl | skip
    iexists f6; isplitr; · ipureintro; exact r6.trans h6
    iexact H6
  isplitl [H7]
  · iexists (iblk m c 7 t); isplitr; · ipureintro; first | exact rfl | skip
    iexists f7; isplitr; · ipureintro; exact r7.trans h7
    iexact H7
  isplitl [H8]
  · iexists (iblk m c 8 t); isplitr; · ipureintro; first | exact rfl | skip
    iexists f8; isplitr; · ipureintro; exact r8.trans h8
    iexact H8
  iexists _; isplitr
  swap
  · iexists _; isplitr; swap; · iexact H9
    ipureintro; rfl
  ipureintro
  exact after_9 m c t _ _ ⟨f0, f1, f2, f3, f4, f5, f6, f7, f8, f9, g0, g1, g2, g3, g4, g5, r0.trans h0, r1.trans h1, r2.trans h2, r3.trans h3, r4.trans h4, r5.trans h5, r6.trans h6, r7.trans h7, r8.trans h8, r9, rfl⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y (finds_0 m c t _ (hY 0)) (finds_1 m c t _ (hY 1)) (finds_2 m c t _ (hY 2)) (finds_3 m c t _ (hY 3)) (finds_4 m c t _ (hY 4)) (finds_5 m c t _ (hY 5)) (finds_6 m c t _ (hY 6)) (finds_7 m c t _ (hY 7)) (finds_8 m c t _ (hY 8))) rfl .rfl fun _ => .rfl

set_option backward.isDefEq.respectTransparency.types false in
theorem run_main : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.KernelIdeal.Hand

end
-- ==== Proof.Core.lean ====
module

public import Idealize.ShloMosaic.Lib.Pointwise
public import Idealize.ShloMosaic.Lib.IdealHost

/-! The arithmetic of the extended reals that the attention needs: a power of two of a score over a maximum, sums and
maxima of reals, and the quotient of two sums that carry one common factor. -/

@[expose] public section

noncomputable section

namespace Cert.Soft

open Idealize.ShloMosaic

/-- The power of two of a score, as a real: zero at `⊥`, a masked score. -/
def ex (s : EReal) : ℝ := (Ideal.exp2 s).toReal

theorem ex_bot : ex ⊥ = 0 := rfl

theorem ex_coe (x : ℝ) : ex (x : EReal) = (2 : ℝ) ^ x := rfl

theorem two_pow_pos (x : ℝ) : (0 : ℝ) < (2 : ℝ) ^ x := Real.rpow_pos_of_pos two_pos x

theorem ex_nonneg (s : EReal) (hs : s ≠ ⊤) : 0 ≤ ex s := by
  induction s with
  | bot => exact le_of_eq ex_bot.symm
  | top => exact absurd rfl hs
  | coe x => exact (two_pow_pos x).le

theorem ex_pos (s : EReal) (hs : s ≠ ⊤) (hb : s ≠ ⊥) : 0 < ex s := by
  induction s with
  | bot => exact absurd rfl hb
  | top => exact absurd rfl hs
  | coe x => exact two_pow_pos x

theorem exp2_sub (s : EReal) (hs : s ≠ ⊤) (m : ℝ) : Ideal.exp2 (s - (m : EReal)) = ((2 ^ (-m) * ex s : ℝ) : EReal) := by
  induction s with
  | bot =>
    rw [EReal.bot_sub, Ideal.exp2_bot, ex_bot, mul_zero, EReal.coe_zero]
  | top => exact absurd rfl hs
  | coe x =>
    rw [← EReal.coe_sub, Ideal.exp2_coe, ex_coe]
    show (((2 : ℝ) ^ (x - m) : ℝ) : EReal) = _
    rw [sub_eq_add_neg, add_comm, Real.rpow_add two_pos]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The largest of scores that are not all masked is a real. -/
theorem fold_real {ι : Type} (s : Finset ι) (f : ι → EReal) (htop : ∀ r ∈ s, f r ≠ ⊤) (hb : ∃ r ∈ s, f r ≠ ⊥) :
    ∃ μ : ℝ, Finset.fold max ⊥ f s = (μ : EReal) := by
  have h1 : Finset.fold max ⊥ f s < ⊤ := (Finset.fold_max_lt _).2 ⟨bot_lt_top, fun r hr => lt_top_iff_ne_top.2 (htop r hr)⟩
  have h2 : ⊥ < Finset.fold max ⊥ f s := by
    obtain ⟨r, hr, h⟩ := hb
    exact (Finset.lt_fold_max _).2 (Or.inr ⟨r, hr, bot_lt_iff_ne_bot.2 h⟩)
  exact ⟨_, (EReal.coe_toReal h1.ne h2.ne').symm⟩

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A common factor leaves a quotient. -/
theorem div_scaled (a x y : ℝ) (ha : 0 < a) (hy : 0 < y) : Ideal.div ((a * x : ℝ) : EReal) ((a * y : ℝ) : EReal) = ((x / y : ℝ) : EReal) := by
  rw [div_coe _ _ (mul_pos ha hy).ne', mul_div_mul_left _ _ ha.ne']

/-- A tile's weighted sum over a maximum. -/
theorem tile_sum {n : ℕ} (v : Fin n → ℝ) (s : Fin n → EReal) (hs : ∀ r, s r ≠ ⊤) (m : ℝ) :
    ∑ r, (v r : EReal) * Ideal.exp2 (s r - (m : EReal)) = ((2 ^ (-m) * ∑ r, v r * ex (s r) : ℝ) : EReal) := by
  rw [Finset.mul_sum, coe_sum]
  refine Finset.sum_congr rfl fun r _ => ?_
  rw [exp2_sub _ (hs r), ← EReal.coe_mul]
  congr 1; ring

/-- The rescaled accumulator and a tile's sum over the new maximum. -/
theorem step_sum {n : ℕ} (v : Fin n → ℝ) (s : Fin n → EReal) (hs : ∀ r, s r ≠ ⊤) (m m' W : ℝ) :
    Ideal.exp2 ((m : EReal) - (m' : EReal)) * ((2 ^ (-m) * W : ℝ) : EReal) + ∑ r, (v r : EReal) * Ideal.exp2 (s r - (m' : EReal))
      = ((2 ^ (-m') * (W + ∑ r, v r * ex (s r)) : ℝ) : EReal) := by
  rw [tile_sum v s hs m', exp2_sub _ (EReal.coe_ne_top m), ← EReal.coe_mul, ← EReal.coe_add, ex_coe]
  congr 1
  have : (2 : ℝ) ^ m * 2 ^ (-m) = 1 := by rw [← Real.rpow_add two_pos, add_neg_cancel, Real.rpow_zero]
  calc _ = 2 ^ (-m') * ((2 : ℝ) ^ m * 2 ^ (-m)) * W + 2 ^ (-m') * ∑ r, v r * ex (s r) := by ring
    _ = _ := by rw [this]; ring

theorem coe_max (x y : ℝ) : max (x : EReal) (y : EReal) = ((max x y : ℝ) : EReal) :=
  (EReal.coe_strictMono.monotone.map_max).symm

theorem ofBits_neg_inf : Ideal.ofBits .f32 0xFF800000#32 = ⊥ := by
  simp [Ideal.ofBits, Ideal.ieee]

/-- What the output of a query block is, from the difference of the two maps' outputs. -/
def norm (d : Fin 128 → EReal) (w : EReal) (k : Fin 128) : EReal :=
  d k * Ideal.rsqrt (Ideal.div (∑ x, d x * d x) (Ideal.ofBits FTy.f32 1124073472#32) + Ideal.ofBits FTy.f32 897988541#32) * w
    * Ideal.ofBits FTy.f32 1059388764#32

/-- The factor of the second map. -/
def lamE (a b c d : Fin 64 → EReal) : EReal :=
  Ideal.exp (∑ x, a x * b x) - Ideal.exp (∑ x, c x * d x) + Ideal.ofBits FTy.f32 1052116297#32

end Cert.Soft

end
-- ==== Proof.Spec.lean ====
module

public import proofs.«01_k».proof.Proof.Core

/-! The attention over real queries, keys and values of one head: the weights of a query's earlier keys, and the
weighted mean of the values. -/

@[expose] public section

noncomputable section

namespace Cert.Soft

open Idealize.ShloMosaic

/-- A position from its tile and its row there. -/
def pos (t : Fin 8) (r : Fin 512) : Fin 4096 := ⟨512 * t.val + r.val, by omega⟩

/-- A lane of a head from its map and its place there. -/
def lane (m : Fin 2) (d : Fin 64) : Fin 128 := ⟨64 * m.val + d.val, by omega⟩

variable (q k : Fin 4096 → Fin 128 → ℝ) (v : Fin 4096 → Fin 128 → ℝ)

/-- The product of a query and a key in one map. -/
def dotR (m : Fin 2) (p p' : Fin 4096) : ℝ := ∑ d, q p (lane m d) * k p' (lane m d)

/-- The weight of a key. -/
def wt (m : Fin 2) (p p' : Fin 4096) : ℝ := if p' ≤ p then Real.exp (dotR q k m p p' / 8) else 0

/-- One map's output. -/
def soft (m : Fin 2) (p : Fin 4096) (d : Fin 128) : ℝ := (∑ p', v p' d * wt q k m p p') / ∑ p', wt q k m p p'

theorem wt_nonneg (m : Fin 2) (p p' : Fin 4096) : 0 ≤ wt q k m p p' := by
  unfold wt; split
  · exact (Real.exp_pos _).le
  · exact le_rfl

theorem wt_sum_pos (m : Fin 2) (p : Fin 4096) : 0 < ∑ p', wt q k m p p' :=
  Finset.sum_pos' (fun p' _ => wt_nonneg q k m p p') ⟨p, Finset.mem_univ _, by unfold wt; rw [if_pos le_rfl]; exact Real.exp_pos _⟩

/-- A sum over positions, tile by tile. -/
theorem sum_pos (f : Fin 4096 → ℝ) : ∑ p, f p = ∑ t, ∑ r, f (pos t r) := by
  rw [← Fintype.sum_prod_type' (fun t r => f (pos t r))]
  refine (Fintype.sum_equiv (finProdFinEquiv (m := 8) (n := 512)) _ _ fun x => ?_).symm
  congr 1
  exact Fin.ext (by show 512 * x.1.val + x.2.val = x.2.val + 512 * x.1.val; omega)

/-- A sum over the lanes of a head, map by map. -/
theorem sum_lane {M : Type} [AddCommMonoid M] (f : Fin 128 → M) : ∑ d, f d = ∑ m, ∑ d, f (lane m d) := by
  rw [← Fintype.sum_prod_type' (fun m d => f (lane m d))]
  refine (Fintype.sum_equiv (finProdFinEquiv (m := 2) (n := 64)) _ _ fun x => ?_).symm
  congr 1
  exact Fin.ext (by show 64 * x.1.val + x.2.val = x.2.val + 64 * x.1.val; omega)

end Cert.Soft

end
-- ==== Proof.Entry.lean ====
module

public import proofs.«01_k».proof.Proof.IdealFrame
public import proofs.«01_k».proof.Proof.Core
public import proofs.«01_k».proof.Proof.Spec
public import Idealize.ShloMosaic.Lib.Claim
public import Idealize.ShloMosaic.Lib.Pipeline.ValueKit
public import Idealize.ShloMosaic.Lib.Pointwise
public import Idealize.ShloMosaic.Lib.IdealHost
public import Idealize.ShloMosaic.Lib.StableHlo.ReadAt
public import Idealize.ShloMosaic.Lib.WordCmp

/-! What the kernel's operand arrays hold when the grid starts: the host's casts, the transposed values with the rows of
ones under them, the causal table and the reshaped vectors, element by element. -/

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

theorem entry_q (b : Fin 8) (p : Fin 4096) (l : Fin 1024) :
    V m c main_v0 (ix3 b p l) = m ((c : Thread nD τ).loc main_arg0) (ix3 b p l) := by
  unfold V
  after_reads_at

theorem entry_k (b : Fin 8) (p : Fin 4096) (l : Fin 1024) :
    V m c main_v1 (ix3 b p l) = m ((c : Thread nD τ).loc main_arg1) (ix3 b p l) := by
  unfold V
  after_reads_at

theorem entry_lam (x : Fin 64) :
    V m c main_v23 (ix2 (0 : Fin 1) x) = m ((c : Thread nD τ).loc main_arg3) (ix1 x) := by
  unfold V
  after_reads_at

theorem entry_w (d : Fin 128) :
    V m c main_v27 (ix2 d (0 : Fin 1)) = m ((c : Thread nD τ).loc main_arg7) (ix1 d) := by
  unfold V
  after_reads_at

theorem entry_lam2 (x : Fin 64) :
    V m c main_v24 (ix2 (0 : Fin 1) x) = m ((c : Thread nD τ).loc main_arg4) (ix1 x) := by
  unfold V
  after_reads_at

theorem entry_lam3 (x : Fin 64) :
    V m c main_v25 (ix2 (0 : Fin 1) x) = m ((c : Thread nD τ).loc main_arg5) (ix1 x) := by
  unfold V
  after_reads_at

theorem entry_lam4 (x : Fin 64) :
    V m c main_v26 (ix2 (0 : Fin 1) x) = m ((c : Thread nD τ).loc main_arg6) (ix1 x) := by
  unfold V
  after_reads_at

theorem mask_word (r u : Fin 512) :
    IntOp.cmpi .sle (IntOp.subi (BitVec.ofNat 32 r.val) 0#32) (BitVec.ofNat 32 u.val) = if r ≤ u then 1#1 else 0#1 := by
  rw [show IntOp.subi (BitVec.ofNat 32 r.val) 0#32 = BitVec.ofNat 32 r.val from BitVec.sub_zero _]
  have h (x : Fin 512) : (BitVec.ofNat 32 x.val).toNat = x.val := by
    rw [BitVec.toNat_ofNat, Nat.mod_eq_of_lt (by omega)]
  rw [WordCmp.cmpi_sle_of_lt (by rw [h]; omega) (by rw [h]; omega), h, h]
  by_cases hh : r ≤ u
  · rw [if_pos hh, decide_eq_true (Fin.le_def.1 hh)]; rfl
  · rw [if_neg hh, decide_eq_false (fun h' => hh (Fin.le_def.2 h'))]; rfl

theorem entry_mask (r u : Fin 512) :
    V m c main_v22 (ix2 r u) = if r ≤ u then (0 : EReal) else ⊥ := by
  unfold V
  after_reads_at
  show select _ _ _ (ix2 r u) = _
  pointwise
  rw [mask_word]
  by_cases hh : r ≤ u
  · rw [if_pos hh, if_pos hh]; rfl
  · rw [if_neg hh, if_neg hh]; first | rfl | exact ofBits_neg_inf

theorem entry_v (b h t : Fin 8) (d : Fin 128) (r : Fin 512) :
    V m c main_v11 (ix5 b h t (⟨d.val, by omega⟩ : Fin 144) r)
      = m ((c : Thread nD τ).loc main_arg2) (ix3 b (⟨512 * t.val + r.val, by omega⟩ : Fin 4096) (⟨128 * h.val + d.val, by omega⟩ : Fin 1024)) := by
  unfold V
  after_reads_at
  refine congrArg (m ((c : Thread nD τ).loc main_arg2)) ?_
  have e1 : (⟨t.val * 512 + r.val, by omega⟩ : Fin 4096) = ⟨512 * t.val + r.val, by omega⟩ := Fin.ext (by show _ * _ + _ = _ * _ + _; omega)
  have e2 : (⟨h.val * 128 + d.val, by omega⟩ : Fin 1024) = ⟨128 * h.val + d.val, by omega⟩ := Fin.ext (by show _ * _ + _ = _ * _ + _; omega)
  exact congrArg₂ (fun x y => ix3 b x y) e1 e2

theorem entry_one (b h t : Fin 8) (r : Fin 512) :
    V m c main_v11 (ix5 b h t (⟨128, by omega⟩ : Fin 144) r) = (1 : EReal) := by
  unfold V
  after_reads_at

theorem entry_zero (b h t : Fin 8) (d : Fin 144) (r : Fin 512) (hd : 128 < d.val) :
    V m c main_v11 (ix5 b h t d r) = (0 : EReal) := by
  unfold V
  after_reads_at
  rw [dif_neg (by omega)]
  rw [show IntOp.cmpi CmpIPredicate.eq (BitVec.ofNat 32 (d.val - 128)) 0#32 = 0#1 from by
    have h : (BitVec.ofNat 32 (d.val - 128)) ≠ 0#32 := fun hh => by
      have := congrArg BitVec.toNat hh
      rw [BitVec.toNat_ofNat, Nat.mod_eq_of_lt (by omega)] at this
      simp at this; omega
    show BitVec.ofBool (BitVec.ofNat 32 (d.val - 128) == 0#32) = 0#1
    rw [beq_eq_false_iff_ne.2 h]; rfl]
  rfl

/-! ## The blocks -/

theorem idx_seq : ∀ i : grid0.Coords, cc0_transform_5 i = ![(i 0).val, 0, (i 1).val] ∧ cc0_transform_6 i = ![(i 0).val, 0, (i 1).val]
    ∧ cc0_transform_7 i = ![(i 0).val, (i 1).val, 0, 0, 0] ∧ cc0_transform_9 i = ![(i 0).val, 0, (i 1).val] := by decide +kernel

theorem index_5 (t : Fin grid0.N) : win0_5.index t = ![(grid0.coords t 0).val, 0, (grid0.coords t 1).val] := (idx_seq (grid0.coords t)).1

theorem index_6 (t : Fin grid0.N) : win0_6.index t = ![(grid0.coords t 0).val, 0, (grid0.coords t 1).val] := (idx_seq (grid0.coords t)).2.1

theorem index_7 (t : Fin grid0.N) : win0_7.index t = ![(grid0.coords t 0).val, (grid0.coords t 1).val, 0, 0, 0] := (idx_seq (grid0.coords t)).2.2.1

theorem index_9 (t : Fin grid0.N) : win0_9.index t = ![(grid0.coords t 0).val, 0, (grid0.coords t 1).val] := (idx_seq (grid0.coords t)).2.2.2

theorem index_0 (t : Fin grid0.N) : win0_0.index t = ![0, 0] := rfl

theorem index_1 (t : Fin grid0.N) : win0_1.index t = ![0, 0] := rfl

theorem index_2 (t : Fin grid0.N) : win0_2.index t = ![0, 0] := rfl

theorem index_3 (t : Fin grid0.N) : win0_3.index t = ![0, 0] := rfl

theorem index_4 (t : Fin grid0.N) : win0_4.index t = ![0, 0] := rfl

theorem index_8 (t : Fin grid0.N) : win0_8.index t = ![0, 0] := rfl

/-- The channel of a pair's lane. -/
def pchan (h : Fin 4) (l : Fin 256) : Fin 1024 := ⟨256 * h.val + l.val, by omega⟩

variable {F : FTy → Type} [FloatOps F] [Named F] (m' : (ℓ : Loc nD τ sig) → Buf (Elt F) ℓ)

theorem blk_q (t : Fin cfg0.N) (p : Fin 4096) (l : Fin 256) :
    iblk m' c 5 t (ix3 (0 : Fin 1) p l) = V m' c main_v0 (ix3 (grid0.coords t 0) p (pchan (grid0.coords t 1) l)) := by
  blk_ext [iblk, index_5, pchan]

theorem blk_k (t : Fin cfg0.N) (p : Fin 4096) (l : Fin 256) :
    iblk m' c 6 t (ix3 (0 : Fin 1) p l) = V m' c main_v1 (ix3 (grid0.coords t 0) p (pchan (grid0.coords t 1) l)) := by
  blk_ext [iblk, index_6, pchan]

theorem blk_v (t : Fin cfg0.N) (y : Fin 2) (j : Fin 8) (d : Fin 144) (r : Fin 512) :
    iblk m' c 7 t (ix5 (0 : Fin 1) y j d r) = V m' c main_v11 (ix5 (grid0.coords t 0) (⟨2 * (grid0.coords t 1).val + y.val, by have : (grid0.coords t 1).val < 4 := (grid0.coords t 1).isLt; omega⟩ : Fin 8) j d r) := by
  blk_ext [iblk, index_7]

theorem blk_c (t : Fin cfg0.N) (r u : Fin 512) : iblk m' c 8 t (ix2 r u) = V m' c main_v22 (ix2 r u) := by
  blk_ext [iblk, index_8]

theorem blk_l1 (t : Fin cfg0.N) (x : Fin 64) : iblk m' c 0 t (ix2 (0 : Fin 1) x) = V m' c main_v23 (ix2 (0 : Fin 1) x) := by
  blk_ext [iblk, index_0]

theorem blk_l2 (t : Fin cfg0.N) (x : Fin 64) : iblk m' c 1 t (ix2 (0 : Fin 1) x) = V m' c main_v24 (ix2 (0 : Fin 1) x) := by
  blk_ext [iblk, index_1]

theorem blk_l3 (t : Fin cfg0.N) (x : Fin 64) : iblk m' c 2 t (ix2 (0 : Fin 1) x) = V m' c main_v25 (ix2 (0 : Fin 1) x) := by
  blk_ext [iblk, index_2]

theorem blk_l4 (t : Fin cfg0.N) (x : Fin 64) : iblk m' c 3 t (ix2 (0 : Fin 1) x) = V m' c main_v26 (ix2 (0 : Fin 1) x) := by
  blk_ext [iblk, index_3]

theorem blk_w (t : Fin cfg0.N) (d : Fin 128) : iblk m' c 4 t (ix2 d (0 : Fin 1)) = V m' c main_v27 (ix2 d (0 : Fin 1)) := by
  blk_ext [iblk, index_4]

end Cert.KernelIdeal.Hand

end
-- ==== Proof.Flash.lean ====
module

public import proofs.«01_k».proof.Proof.IdealBody
public import Idealize.ShloMosaic.Lib.WritesUnit

/-! The flash recursion of one point as tensors: the scores of each task, the running maxima, the scaled exponentials and
the accumulators, in the order the kernel computes them; and the four-slot scratch buffers read slot by slot. -/

@[expose] public section

noncomputable section

namespace Cert.KernelIdeal.Hand

open Cert.KernelIdeal Cert.KernelIdeal.Gen
open Idealize.ShloMosaic Idealize.ShloMosaic.TcCoe

/-! ## Scratch buffers of two by two slots -/

section Slots

variable {sig : RefSig} {κ : Kind} {sp : Space} {n m : ℕ} {e : EltTy} {Val : EltTy → Type}

/-- The buffer's slots: the contents at the two leading coordinates. -/
def slots (v : View sig κ sp ⟨4, ![2, 2, n, m]⟩ e) (f : v.ty.Contents Val) (a b : Fin 2) : (⟨4, ![1, 1, n, m]⟩ : Shape).Idx → Val e :=
  v.readAt Val (Rect.unit (s := ⟨4, ![2, 2, n, m]⟩) ![a.val, b.val, 0, 0] ![1, 1, n, m] (by
    have := a.isLt; have := b.isLt
    intro x; fin_cases x <;> simp <;> omega)).toLoadRect f

/-- One slot replaced. -/
def upd {T : Type} (g : Fin 2 → Fin 2 → T) (a b : Fin 2) (w : T) (a' b' : Fin 2) : T := if a' = a ∧ b' = b then w else g a' b'

theorem upd_same {T : Type} (g : Fin 2 → Fin 2 → T) (a b : Fin 2) (w : T) : upd g a b w a b = w := if_pos ⟨rfl, rfl⟩

theorem slots_read (v : View sig κ sp ⟨4, ![2, 2, n, m]⟩ e) (f : v.ty.Contents Val) (a b : Fin 2)
    {off : Fin 4 → ℕ} (inb : ∀ x, off x + (![1, 1, n, m] : Fin 4 → ℕ) x ≤ (![2, 2, n, m] : Fin 4 → ℕ) x) (h : off = ![a.val, b.val, 0, 0]) :
    v.readAt Val (Rect.unit (s := ⟨4, ![2, 2, n, m]⟩) off ![1, 1, n, m] inb).toLoadRect f = slots v f a b := by
  subst h; rfl

theorem slots_cons (v : View sig κ sp ⟨4, ![2, 2, n, m]⟩ e) (f : v.ty.Contents Val) (a b : Fin 2)
    {off : Fin 4 → ℕ} (inb : ∀ x, off x + (![1, 1, n, m] : Fin 4 → ℕ) x ≤ (![2, 2, n, m] : Fin 4 → ℕ) x) (h : off = ![a.val, b.val, 0, 0])
    (w : (Rect.unit (s := ⟨4, ![2, 2, n, m]⟩) off ![1, 1, n, m] inb).shape.Idx → Val e) (L : List (View.Piece Val ⟨4, ![2, 2, n, m]⟩ e)) :
    slots v (v.writes Val f ((⟨Rect.unit (s := ⟨4, ![2, 2, n, m]⟩) off ![1, 1, n, m] inb, w⟩ : View.Piece Val _ e) :: L))
      = upd (slots v (v.writes Val f L)) a b w := by
  funext a' b' x
  by_cases hab : a' = a ∧ b' = b
  · obtain ⟨rfl, rfl⟩ := hab
    rw [upd_same]
    refine View.read_writes_cons_unit_of_mem v f inb w L _ x h fun y => ?_
    fin_cases y <;> simp [Rect.toLoadRect, LoadRect.idx, Rect.unit]
  · unfold upd; rw [if_neg hab]
    have hx0 : (x 0).val = 0 := by have := (x 0).isLt; exact Nat.lt_one_iff.mp this
    have hx1 : (x 1).val = 0 := by have := (x 1).isLt; exact Nat.lt_one_iff.mp this
    have ha := a.isLt; have ha' := a'.isLt; have hb := b.isLt; have hb' := b'.isLt
    rcases not_and_or.mp hab with h1 | h1
    · refine View.read_writes_cons_unit_of_not_mem v f inb w L _ h 0 ?_
      have : a'.val ≠ a.val := fun hh => h1 (Fin.ext hh)
      simp [Rect.toLoadRect, LoadRect.idx, Rect.unit]; rw [hx0]; omega
    · refine View.read_writes_cons_unit_of_not_mem v f inb w L _ h 1 ?_
      have : b'.val ≠ b.val := fun hh => h1 (Fin.ext hh)
      simp [Rect.toLoadRect, LoadRect.idx, Rect.unit]; rw [hx1]; omega

end Slots

end Cert.KernelIdeal.Hand

end
-- ==== Proof.Offsets.lean ====
module

public import proofs.«01_k».proof.Proof.Flash

/-! Closed forms of the offsets at which the body reads and writes: the slot and the tile of each task. -/

@[expose] public section

set_option maxRecDepth 16384

noncomputable section

namespace Cert.KernelIdeal.Hand

open Cert.KernelIdeal Cert.KernelIdeal.Gen
open Idealize.ShloMosaic

/-- The query block that task `n` belongs to: the first while the tasks of the second are not over. -/
def xf (i : grid0.Coords) (n : ℕ) : Fin 2 := if (i 2).val ≤ n then 1 else 0

/-- The key tile of task `n`. -/
def tl (i : grid0.Coords) (n : ℕ) : Fin 8 := Fin.ofNat 8 (if (i 2).val ≤ n then n - (i 2).val else n)

/-- The tile of query block `x`, which is also its diagonal key tile. -/
def dt (i : grid0.Coords) (x : Fin 2) : Fin 8 := Fin.ofNat 8 (if x.val = 0 then (i 2).val else 7 - (i 2).val)

theorem cf1 : ∀ i : grid0.Coords, k0_off1 i = ![0, 512 * (dt i 0).val, 0] := by decide +kernel

theorem cf2 : ∀ i : grid0.Coords, k0_off2 i = ![0, 512 * (dt i 1).val, 0] := by decide +kernel

theorem cf3 : ∀ i : grid0.Coords, k0_off3 i = ![0, 512 * (dt i 0).val, 128] := by decide +kernel

theorem cf4 : ∀ i : grid0.Coords, k0_off4 i = ![0, 512 * (dt i 1).val, 128] := by decide +kernel

theorem cf5 : ∀ i : grid0.Coords, k0_off5 i = ![0, 512 * (dt i 0).val, 128 * (0 : Fin 2).val] := by decide +kernel

theorem cf7 : ∀ i : grid0.Coords, k0_off7 i = ![0, 512 * (dt i 0).val, 128 * (1 : Fin 2).val] := by decide +kernel

theorem cf8 : ∀ i : grid0.Coords, k0_off8 i = ![0, 512 * (dt i 1).val, 128 * (0 : Fin 2).val] := by decide +kernel

theorem cf10 : ∀ i : grid0.Coords, k0_off10 i = ![0, 512 * (dt i 1).val, 128 * (1 : Fin 2).val] := by decide +kernel

theorem cf6 : ∀ i : grid0.Coords, k0_off6 i = ![0, 0] := by decide +kernel

theorem cf9 : ∀ i : grid0.Coords, k0_off9 i = ![0, 0] := by decide +kernel

theorem cf15 : ∀ i : grid0.Coords, k0_off15 i = ![0, (0 : Fin 2).val, (dt i 0).val, 0, 0] := by decide +kernel

theorem cf16 : ∀ i : grid0.Coords, k0_off16 i = ![0, (1 : Fin 2).val, (dt i 0).val, 0, 0] := by decide +kernel

theorem cf19 : ∀ i : grid0.Coords, k0_off19 i = ![0, (0 : Fin 2).val, (dt i 1).val, 0, 0] := by decide +kernel

theorem cf20 : ∀ i : grid0.Coords, k0_off20 i = ![0, (1 : Fin 2).val, (dt i 1).val, 0, 0] := by decide +kernel

theorem cf11_0 : ∀ i : grid0.Coords, k0_off11 i 0#32 0#32 = ![0, 512 * (tl i 0).val, 128 * (0 : Fin 2).val] := by decide +kernel

theorem cf11_1 : ∀ i : grid0.Coords, k0_off11 i 1#32 1#32 = ![0, 512 * (tl i 1).val, 128 * (0 : Fin 2).val] := by decide +kernel

theorem cf11_6 : ∀ i : grid0.Coords, k0_off11 i 6#32 6#32 = ![0, 512 * (tl i 6).val, 128 * (0 : Fin 2).val] := by decide +kernel

theorem cf13_0 : ∀ i : grid0.Coords, k0_off13 i 0#32 0#32 = ![0, 512 * (tl i 0).val, 128 * (1 : Fin 2).val] := by decide +kernel

theorem cf13_1 : ∀ i : grid0.Coords, k0_off13 i 1#32 1#32 = ![0, 512 * (tl i 1).val, 128 * (1 : Fin 2).val] := by decide +kernel

theorem cf13_6 : ∀ i : grid0.Coords, k0_off13 i 6#32 6#32 = ![0, 512 * (tl i 6).val, 128 * (1 : Fin 2).val] := by decide +kernel

theorem cf12_0 : ∀ i : grid0.Coords, k0_off12 i 0#32 = ![(0 : Fin 2).val, (xf i 0).val, 0, 0] := by decide +kernel

theorem cf12_1 : ∀ i : grid0.Coords, k0_off12 i 1#32 = ![(0 : Fin 2).val, (xf i 1).val, 0, 0] := by decide +kernel

theorem cf12_6 : ∀ i : grid0.Coords, k0_off12 i 6#32 = ![(0 : Fin 2).val, (xf i 6).val, 0, 0] := by decide +kernel

theorem cf14_0 : ∀ i : grid0.Coords, k0_off14 i 0#32 = ![(1 : Fin 2).val, (xf i 0).val, 0, 0] := by decide +kernel

theorem cf14_1 : ∀ i : grid0.Coords, k0_off14 i 1#32 = ![(1 : Fin 2).val, (xf i 1).val, 0, 0] := by decide +kernel

theorem cf14_6 : ∀ i : grid0.Coords, k0_off14 i 6#32 = ![(1 : Fin 2).val, (xf i 6).val, 0, 0] := by decide +kernel

theorem cf17_0 : ∀ i : grid0.Coords, k0_off17 i 0#32 = ![(0 : Fin 2).val, (xf i 0).val, 0, 0] := by decide +kernel

theorem cf17_5 : ∀ i : grid0.Coords, k0_off17 i 5#32 = ![(0 : Fin 2).val, (xf i 5).val, 0, 0] := by decide +kernel

theorem cf17_6 : ∀ i : grid0.Coords, k0_off17 i 6#32 = ![(0 : Fin 2).val, (xf i 6).val, 0, 0] := by decide +kernel

theorem cf18_0 : ∀ i : grid0.Coords, k0_off18 i 0#32 = ![(1 : Fin 2).val, (xf i 0).val, 0, 0] := by decide +kernel

theorem cf18_5 : ∀ i : grid0.Coords, k0_off18 i 5#32 = ![(1 : Fin 2).val, (xf i 5).val, 0, 0] := by decide +kernel

theorem cf18_6 : ∀ i : grid0.Coords, k0_off18 i 6#32 = ![(1 : Fin 2).val, (xf i 6).val, 0, 0] := by decide +kernel

theorem cf32_4 : ∀ i : grid0.Coords, k0_off32 i 4#32 = ![(0 : Fin 2).val, (xf i 4).val, 0, 0] := by decide +kernel

theorem cf32_5 : ∀ i : grid0.Coords, k0_off32 i 5#32 = ![(0 : Fin 2).val, (xf i 5).val, 0, 0] := by decide +kernel

theorem cf32_6 : ∀ i : grid0.Coords, k0_off32 i 6#32 = ![(0 : Fin 2).val, (xf i 6).val, 0, 0] := by decide +kernel

theorem cf34_4 : ∀ i : grid0.Coords, k0_off34 i 4#32 = ![(1 : Fin 2).val, (xf i 4).val, 0, 0] := by decide +kernel

theorem cf34_5 : ∀ i : grid0.Coords, k0_off34 i 5#32 = ![(1 : Fin 2).val, (xf i 5).val, 0, 0] := by decide +kernel

theorem cf34_6 : ∀ i : grid0.Coords, k0_off34 i 6#32 = ![(1 : Fin 2).val, (xf i 6).val, 0, 0] := by decide +kernel

theorem cf31_4 : ∀ i : grid0.Coords, k0_off31 i 4#32 4#32 = ![0, (0 : Fin 2).val, (tl i 4).val, 0, 0] := by decide +kernel

theorem cf31_5 : ∀ i : grid0.Coords, k0_off31 i 5#32 5#32 = ![0, (0 : Fin 2).val, (tl i 5).val, 0, 0] := by decide +kernel

theorem cf31_6 : ∀ i : grid0.Coords, k0_off31 i 6#32 6#32 = ![0, (0 : Fin 2).val, (tl i 6).val, 0, 0] := by decide +kernel

theorem cf33_4 : ∀ i : grid0.Coords, k0_off33 i 4#32 4#32 = ![0, (1 : Fin 2).val, (tl i 4).val, 0, 0] := by decide +kernel

theorem cf33_5 : ∀ i : grid0.Coords, k0_off33 i 5#32 5#32 = ![0, (1 : Fin 2).val, (tl i 5).val, 0, 0] := by decide +kernel

theorem cf33_6 : ∀ i : grid0.Coords, k0_off33 i 6#32 6#32 = ![0, (1 : Fin 2).val, (tl i 6).val, 0, 0] := by decide +kernel

theorem cf21_2 : ∀ (i : grid0.Coords) (k : Fin k0_t1_loop.trips), k0_off21 i k 2#32 = ![0, 512 * (tl i (2 * k.val + 2)).val, 128 * (0 : Fin 2).val] := by decide +kernel

theorem cf21_3 : ∀ (i : grid0.Coords) (k : Fin k0_t1_loop.trips), k0_off21 i k 3#32 = ![0, 512 * (tl i (2 * k.val + 3)).val, 128 * (0 : Fin 2).val] := by decide +kernel

theorem cf23_2 : ∀ (i : grid0.Coords) (k : Fin k0_t1_loop.trips), k0_off23 i k 2#32 = ![0, 512 * (tl i (2 * k.val + 2)).val, 128 * (1 : Fin 2).val] := by decide +kernel

theorem cf23_3 : ∀ (i : grid0.Coords) (k : Fin k0_t1_loop.trips), k0_off23 i k 3#32 = ![0, 512 * (tl i (2 * k.val + 3)).val, 128 * (1 : Fin 2).val] := by decide +kernel

theorem cf22_2 : ∀ (i : grid0.Coords) (k : Fin k0_t1_loop.trips), k0_off22 i k 2#32 = ![(0 : Fin 2).val, (xf i (2 * k.val + 2)).val, 0, 0] := by decide +kernel

theorem cf22_3 : ∀ (i : grid0.Coords) (k : Fin k0_t1_loop.trips), k0_off22 i k 3#32 = ![(0 : Fin 2).val, (xf i (2 * k.val + 3)).val, 0, 0] := by decide +kernel

theorem cf24_2 : ∀ (i : grid0.Coords) (k : Fin k0_t1_loop.trips), k0_off24 i k 2#32 = ![(1 : Fin 2).val, (xf i (2 * k.val + 2)).val, 0, 0] := by decide +kernel

theorem cf24_3 : ∀ (i : grid0.Coords) (k : Fin k0_t1_loop.trips), k0_off24 i k 3#32 = ![(1 : Fin 2).val, (xf i (2 * k.val + 3)).val, 0, 0] := by decide +kernel

theorem cf25_2 : ∀ (i : grid0.Coords) (k : Fin k0_t1_loop.trips), k0_off25 i k 2#32 = ![(0 : Fin 2).val, (xf i (2 * k.val + 1)).val, 0, 0] := by decide +kernel

theorem cf25_3 : ∀ (i : grid0.Coords) (k : Fin k0_t1_loop.trips), k0_off25 i k 3#32 = ![(0 : Fin 2).val, (xf i (2 * k.val + 2)).val, 0, 0] := by decide +kernel

theorem cf26_2 : ∀ (i : grid0.Coords) (k : Fin k0_t1_loop.trips), k0_off26 i k 2#32 = ![(1 : Fin 2).val, (xf i (2 * k.val + 1)).val, 0, 0] := by decide +kernel

theorem cf26_3 : ∀ (i : grid0.Coords) (k : Fin k0_t1_loop.trips), k0_off26 i k 3#32 = ![(1 : Fin 2).val, (xf i (2 * k.val + 2)).val, 0, 0] := by decide +kernel

theorem cf28_2 : ∀ (i : grid0.Coords) (k : Fin k0_t1_loop.trips), k0_off28 i k 2#32 = ![(0 : Fin 2).val, (xf i (2 * k.val + 0)).val, 0, 0] := by decide +kernel

theorem cf28_3 : ∀ (i : grid0.Coords) (k : Fin k0_t1_loop.trips), k0_off28 i k 3#32 = ![(0 : Fin 2).val, (xf i (2 * k.val + 1)).val, 0, 0] := by decide +kernel

theorem cf30_2 : ∀ (i : grid0.Coords) (k : Fin k0_t1_loop.trips), k0_off30 i k 2#32 = ![(1 : Fin 2).val, (xf i (2 * k.val + 0)).val, 0, 0] := by decide +kernel

theorem cf30_3 : ∀ (i : grid0.Coords) (k : Fin k0_t1_loop.trips), k0_off30 i k 3#32 = ![(1 : Fin 2).val, (xf i (2 * k.val + 1)).val, 0, 0] := by decide +kernel

theorem cf27_2 : ∀ (i : grid0.Coords) (k : Fin k0_t1_loop.trips), k0_off27 i k 2#32 = ![0, (0 : Fin 2).val, (tl i (2 * k.val + 0)).val, 0, 0] := by decide +kernel

theorem cf27_3 : ∀ (i : grid0.Coords) (k : Fin k0_t1_loop.trips), k0_off27 i k 3#32 = ![0, (0 : Fin 2).val, (tl i (2 * k.val + 1)).val, 0, 0] := by decide +kernel

theorem cf29_2 : ∀ (i : grid0.Coords) (k : Fin k0_t1_loop.trips), k0_off29 i k 2#32 = ![0, (1 : Fin 2).val, (tl i (2 * k.val + 0)).val, 0, 0] := by decide +kernel

theorem cf29_3 : ∀ (i : grid0.Coords) (k : Fin k0_t1_loop.trips), k0_off29 i k 3#32 = ![0, (1 : Fin 2).val, (tl i (2 * k.val + 1)).val, 0, 0] := by decide +kernel

end Cert.KernelIdeal.Hand

end
-- ==== Proof.Steps.lean ====
module

public import proofs.«01_k».proof.Proof.Offsets

/-! The operations of the flash recursion on one slot, as the body writes them, and one point's recursion over its
seven tasks: the values the scratch buffers hold when each task is reached. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- A query block of both maps side by side: the scaled queries transposed, the other map's half rows zero. -/
def qat (q : Vec F S1x512x128 .bf16) : Vec F S1x1x128x1024 .bf16 := k0_pay39 q

/-- The product of a key tile and a query block. -/
def dotKQ (K : Vec F S1x512x128 .bf16) (Q : Vec F S1x1x128x1024 .bf16) : FVec F S512x1024 .f32 :=
  matmul dot_S512x128_S128x1024_S512x1024_1_0_0_1_n_n none
    (shapeCast S512x128 K shapeCasts_S1x512x128_S512x128 : FVec F S512x128 .bf16)
    (shapeCast S128x1024 Q shapeCasts_S1x1x128x1024_S128x1024 : FVec F S128x1024 .bf16) (constant S512x1024 .f32 0x00000000#32)

/-- The scores of a tile below the diagonal. -/
def score (K : Vec F S1x512x128 .bf16) (Q : Vec F S1x1x128x1024 .bf16) : Vec F S1x1x512x1024 .f32 :=
  shapeCast S1x1x512x1024 (dotKQ K Q) shapeCasts_S512x1024_S1x1x512x1024

/-- The scores of a diagonal tile: the mask added to both halves. -/
def scoreD (K : Vec F S1x512x128 .bf16) (Q : Vec F S1x1x128x1024 .bf16) (C : Vec F S512x512 .f32) : Vec F S1x1x512x1024 .f32 :=
  shapeCast S1x1x512x1024 (concatenate S512x1024 1 [⟨S512x512,
      addf (extractStridedSlice S512x512 ![0, 0] (dotKQ K Q) slices_S512x1024_o0_0_S512x512 : FVec F S512x512 .f32) (shapeCast S512x512 C shapeCasts_S512x512_S512x512 : FVec F S512x512 .f32)⟩,
    ⟨S512x512,
      addf (extractStridedSlice S512x512 ![0, 512] (dotKQ K Q) slices_S512x1024_o0_512_S512x512 : FVec F S512x512 .f32) (shapeCast S512x512 C shapeCasts_S512x512_S512x512 : FVec F S512x512 .f32)⟩]
    concatenates_S512x512_S512x512_S512x1024_d1 : FVec F S512x1024 .f32) shapeCasts_S512x1024_S1x1x512x1024

/-- The column maxima of a tile of scores. -/
def cmax (s : Vec F S1x1x512x1024 .f32) : FVec F S1x1024 .f32 :=
  shapeCast S1x1024 (multiReduction .maximumf [0] S1024 (shapeCast S512x1024 s shapeCasts_S1x1x512x1024_S512x1024 : FVec F S512x1024 .f32) 0xFF800000#32 reduces_S512x1024_S1024 (.inl rfl) rfl : FVec F S1024 .f32) shapeCasts_S1024_S1x1024

/-- The first maxima, of a diagonal tile alone. -/
def maxD (s : Vec F S1x1x512x1024 .f32) : Vec F S1x1x1x1024 .f32 := shapeCast S1x1x1x1024 (cmax s) shapeCasts_S1x1024_S1x1x1x1024

/-- The exponentials of a tile over maxima. -/
def probOf (s : Vec F S1x1x512x1024 .f32) (m : FVec F S1x1024 .f32) : Vec F S1x1x512x1024 .bf16 :=
  shapeCast S1x1x512x1024 (truncf .bf16 (exp2 (subf (shapeCast S512x1024 s shapeCasts_S1x1x512x1024_S512x1024 : FVec F S512x1024 .f32)
    (broadcastTo S512x1024 m broadcasts_S1x1024_S512x1024 : FVec F S512x1024 .f32))) bitsLt_bf16_f32 : FVec F S512x1024 .bf16) shapeCasts_S512x1024_S1x1x512x1024

def probD (s : Vec F S1x1x512x1024 .f32) : Vec F S1x1x512x1024 .bf16 := probOf s (cmax s)

/-- The new maxima. -/
def maxN (m : Vec F S1x1x1x1024 .f32) (s : Vec F S1x1x512x1024 .f32) : FVec F S1x1024 .f32 :=
  maximumf (shapeCast S1x1024 m shapeCasts_S1x1x1x1024_S1x1024 : FVec F S1x1024 .f32) (cmax s)

def maxS (m : Vec F S1x1x1x1024 .f32) (s : Vec F S1x1x512x1024 .f32) : Vec F S1x1x1x1024 .f32 :=
  shapeCast S1x1x1x1024 (maxN m s) shapeCasts_S1x1024_S1x1x1x1024

/-- The factor by which the old accumulator is rescaled. -/
def alpS (m : Vec F S1x1x1x1024 .f32) (s : Vec F S1x1x512x1024 .f32) : Vec F S1x1x1x1024 .f32 :=
  shapeCast S1x1x1x1024 (exp2 (subf (shapeCast S1x1024 m shapeCasts_S1x1x1x1024_S1x1024 : FVec F S1x1024 .f32) (maxN m s))) shapeCasts_S1x1024_S1x1x1x1024

def probS (m : Vec F S1x1x1x1024 .f32) (s : Vec F S1x1x512x1024 .f32) : Vec F S1x1x512x1024 .bf16 := probOf s (maxN m s)

/-- The product of a value tile and a tile of exponentials. -/
def dotVP (v : Vec F S1x1x1x144x512 .bf16) (p : Vec F S1x1x512x1024 .bf16) : FVec F S144x1024 .f32 :=
  matmul dot_S144x512_S512x1024_S144x1024_1_0_0_1_n_n none
    (shapeCast S144x512 v shapeCasts_S1x1x1x144x512_S144x512 : FVec F S144x512 .bf16)
    (shapeCast S512x1024 p shapeCasts_S1x1x512x1024_S512x1024 : FVec F S512x1024 .bf16) (constant S144x1024 .f32 0x00000000#32)

def accD (v : Vec F S1x1x1x144x512 .bf16) (p : Vec F S1x1x512x1024 .bf16) : Vec F S1x1x144x1024 .f32 :=
  shapeCast S1x1x144x1024 (dotVP v p) shapeCasts_S144x1024_S1x1x144x1024

def accS (v : Vec F S1x1x1x144x512 .bf16) (p : Vec F S1x1x512x1024 .bf16) (al : Vec F S1x1x1x1024 .f32) (ac : Vec F S1x1x144x1024 .f32) :
    Vec F S1x1x144x1024 .f32 :=
  shapeCast S1x1x144x1024 (addf (mulf (broadcastTo S144x1024 (shapeCast S1x1024 al shapeCasts_S1x1x1x1024_S1x1024 : FVec F S1x1024 .f32) broadcasts_S1x1024_S144x1024 : FVec F S144x1024 .f32)
    (shapeCast S144x1024 ac shapeCasts_S1x1x144x1024_S144x1024 : FVec F S144x1024 .f32)) (dotVP v p)) shapeCasts_S144x1024_S1x1x144x1024

/-- One query block's output from its accumulator: the quotients of both maps, their difference, its root mean square and weights. -/
def diffO (r : FVec F S1x1 .f32) (ac : Vec F S1x1x144x1024 .f32) : FVec F S128x512 .f32 :=
  have a : FVec F S144x1024 .f32 := shapeCast S144x1024 ac shapeCasts_S1x1x144x1024_S144x1024
  have o : FVec F S128x1024 .f32 := divf (extractStridedSlice S128x1024 ![0, 0] a slices_S144x1024_o0_0_S128x1024 : FVec F S128x1024 .f32)
    (broadcastTo S128x1024 (extractStridedSlice S1x1024 ![128, 0] a slices_S144x1024_o128_0_S1x1024 : FVec F S1x1024 .f32) broadcasts_S1x1024_S128x1024 : FVec F S128x1024 .f32)
  subf (extractStridedSlice S128x512 ![0, 0] o slices_S128x1024_o0_0_S128x512 : FVec F S128x512 .f32)
    (mulf (broadcastTo S128x512 r broadcasts_S1x1_S128x512 : FVec F S128x512 .f32) (extractStridedSlice S128x512 ![0, 512] o slices_S128x1024_o0_512_S128x512 : FVec F S128x512 .f32))

def rmsO (d : FVec F S128x512 .f32) : FVec F S128x512 .f32 :=
  mulf d (broadcastTo S128x512 (rsqrt (addf (divf (shapeCast S1x512 (multiReduction .add [0] S512 (mulf d d) 0x00000000#32 reduces_S128x512_S512 (.inl rfl) rfl : FVec F S512 .f32) shapeCasts_S512_S1x512 : FVec F S1x512 .f32)
    (broadcast S1x512 (Scalar.ofBits .f32 0x43000000#32 : F .f32))) (broadcast S1x512 (Scalar.ofBits .f32 0x358637BD#32 : F .f32)))) broadcasts_S1x512_S128x512 : FVec F S128x512 .f32)

def finO (r : FVec F S1x1 .f32) (w : Vec F S128x1 .f32) (ac : Vec F S1x1x144x1024 .f32) : Vec F S1x512x128 .bf16 :=
  k0_pay1 (rmsO (diffO r ac)) (broadcastTo S128x512 (shapeCast S128x1 w shapeCasts_S128x1_S128x1 : FVec F S128x1 .f32) broadcasts_S128x1_S128x512 : FVec F S128x512 .f32)

/-! ## The reads of one point, by slot and by tile -/

section Reads

variable {κ : Kind} {sp : Space} {e : EltTy} {Val : EltTy → Type}

theorem slots_read_128 (v : View sig κ sp S2x2x128x1024 e) (f : v.ty.Contents Val) (a b : Fin 2)
    {off : Fin 4 → ℕ} (inb : ∀ x, off x + S1x1x128x1024.size x ≤ S2x2x128x1024.size x) (h : off = ![a.val, b.val, 0, 0]) :
    v.readAt Val (Rect.unit (s := S2x2x128x1024) off S1x1x128x1024.size inb).toLoadRect f = slots v f a b := slots_read v f a b inb h

theorem slots_cons_128 (v : View sig κ sp S2x2x128x1024 e) (f : v.ty.Contents Val) (a b : Fin 2)
    {off : Fin 4 → ℕ} (inb : ∀ x, off x + S1x1x128x1024.size x ≤ S2x2x128x1024.size x) (h : off = ![a.val, b.val, 0, 0])
    (w : (Rect.unit (s := S2x2x128x1024) off S1x1x128x1024.size inb).shape.Idx → Val e) (L : List (View.Piece Val S2x2x128x1024 e)) :
    slots v (v.writes Val f ((⟨Rect.unit (s := S2x2x128x1024) off S1x1x128x1024.size inb, w⟩ : View.Piece Val S2x2x128x1024 e) :: L))
      = upd (slots v (v.writes Val f L)) a b w := slots_cons v f a b inb h w L

theorem slots_read_512 (v : View sig κ sp S2x2x512x1024 e) (f : v.ty.Contents Val) (a b : Fin 2)
    {off : Fin 4 → ℕ} (inb : ∀ x, off x + S1x1x512x1024.size x ≤ S2x2x512x1024.size x) (h : off = ![a.val, b.val, 0, 0]) :
    v.readAt Val (Rect.unit (s := S2x2x512x1024) off S1x1x512x1024.size inb).toLoadRect f = slots v f a b := slots_read v f a b inb h

theorem slots_cons_512 (v : View sig κ sp S2x2x512x1024 e) (f : v.ty.Contents Val) (a b : Fin 2)
    {off : Fin 4 → ℕ} (inb : ∀ x, off x + S1x1x512x1024.size x ≤ S2x2x512x1024.size x) (h : off = ![a.val, b.val, 0, 0])
    (w : (Rect.unit (s := S2x2x512x1024) off S1x1x512x1024.size inb).shape.Idx → Val e) (L : List (View.Piece Val S2x2x512x1024 e)) :
    slots v (v.writes Val f ((⟨Rect.unit (s := S2x2x512x1024) off S1x1x512x1024.size inb, w⟩ : View.Piece Val S2x2x512x1024 e) :: L))
      = upd (slots v (v.writes Val f L)) a b w := slots_cons v f a b inb h w L

theorem slots_read_1 (v : View sig κ sp S2x2x1x1024 e) (f : v.ty.Contents Val) (a b : Fin 2)
    {off : Fin 4 → ℕ} (inb : ∀ x, off x + S1x1x1x1024.size x ≤ S2x2x1x1024.size x) (h : off = ![a.val, b.val, 0, 0]) :
    v.readAt Val (Rect.unit (s := S2x2x1x1024) off S1x1x1x1024.size inb).toLoadRect f = slots v f a b := slots_read v f a b inb h

theorem slots_cons_1 (v : View sig κ sp S2x2x1x1024 e) (f : v.ty.Contents Val) (a b : Fin 2)
    {off : Fin 4 → ℕ} (inb : ∀ x, off x + S1x1x1x1024.size x ≤ S2x2x1x1024.size x) (h : off = ![a.val, b.val, 0, 0])
    (w : (Rect.unit (s := S2x2x1x1024) off S1x1x1x1024.size inb).shape.Idx → Val e) (L : List (View.Piece Val S2x2x1x1024 e)) :
    slots v (v.writes Val f ((⟨Rect.unit (s := S2x2x1x1024) off S1x1x1x1024.size inb, w⟩ : View.Piece Val S2x2x1x1024 e) :: L))
      = upd (slots v (v.writes Val f L)) a b w := slots_cons v f a b inb h w L

theorem slots_read_144 (v : View sig κ sp S2x2x144x1024 e) (f : v.ty.Contents Val) (a b : Fin 2)
    {off : Fin 4 → ℕ} (inb : ∀ x, off x + S1x1x144x1024.size x ≤ S2x2x144x1024.size x) (h : off = ![a.val, b.val, 0, 0]) :
    v.readAt Val (Rect.unit (s := S2x2x144x1024) off S1x1x144x1024.size inb).toLoadRect f = slots v f a b := slots_read v f a b inb h

theorem slots_cons_144 (v : View sig κ sp S2x2x144x1024 e) (f : v.ty.Contents Val) (a b : Fin 2)
    {off : Fin 4 → ℕ} (inb : ∀ x, off x + S1x1x144x1024.size x ≤ S2x2x144x1024.size x) (h : off = ![a.val, b.val, 0, 0])
    (w : (Rect.unit (s := S2x2x144x1024) off S1x1x144x1024.size inb).shape.Idx → Val e) (L : List (View.Piece Val S2x2x144x1024 e)) :
    slots v (v.writes Val f ((⟨Rect.unit (s := S2x2x144x1024) off S1x1x144x1024.size inb, w⟩ : View.Piece Val S2x2x144x1024 e) :: L))
      = upd (slots v (v.writes Val f L)) a b w := slots_cons v f a b inb h w L

theorem cov_read_128 [∀ e, Nonempty (Val e)] (v : View sig κ sp S2x2x128x1024 e) (L : List (View.Piece Val S2x2x128x1024 e)) (a b : Fin 2)
    {off : Fin 4 → ℕ} (inb : ∀ x, off x + S1x1x128x1024.size x ≤ S2x2x128x1024.size x) (h : off = ![a.val, b.val, 0, 0]) :
    v.readCov L (Rect.unit (s := S2x2x128x1024) off S1x1x128x1024.size inb).toLoadRect = slots v (v.writes Val v.junk L) a b := slots_read v _ a b inb h

theorem cov_read_512 [∀ e, Nonempty (Val e)] (v : View sig κ sp S2x2x512x1024 e) (L : List (View.Piece Val S2x2x512x1024 e)) (a b : Fin 2)
    {off : Fin 4 → ℕ} (inb : ∀ x, off x + S1x1x512x1024.size x ≤ S2x2x512x1024.size x) (h : off = ![a.val, b.val, 0, 0]) :
    v.readCov L (Rect.unit (s := S2x2x512x1024) off S1x1x512x1024.size inb).toLoadRect = slots v (v.writes Val v.junk L) a b := slots_read v _ a b inb h

theorem cov_read_1 [∀ e, Nonempty (Val e)] (v : View sig κ sp S2x2x1x1024 e) (L : List (View.Piece Val S2x2x1x1024 e)) (a b : Fin 2)
    {off : Fin 4 → ℕ} (inb : ∀ x, off x + S1x1x1x1024.size x ≤ S2x2x1x1024.size x) (h : off = ![a.val, b.val, 0, 0]) :
    v.readCov L (Rect.unit (s := S2x2x1x1024) off S1x1x1x1024.size inb).toLoadRect = slots v (v.writes Val v.junk L) a b := slots_read v _ a b inb h

theorem cov_read_144 [∀ e, Nonempty (Val e)] (v : View sig κ sp S2x2x144x1024 e) (L : List (View.Piece Val S2x2x144x1024 e)) (a b : Fin 2)
    {off : Fin 4 → ℕ} (inb : ∀ x, off x + S1x1x144x1024.size x ≤ S2x2x144x1024.size x) (h : off = ![a.val, b.val, 0, 0]) :
    v.readCov L (Rect.unit (s := S2x2x144x1024) off S1x1x144x1024.size inb).toLoadRect = slots v (v.writes Val v.junk L) a b := slots_read v _ a b inb h

/-- A tile of 512 rows and the columns of one head. -/
def kAt (v : View sig κ sp S1x4096x256 e) (f : v.ty.Contents Val) (c : Fin 2) (t : Fin 8) : S1x512x128.Idx → Val e :=
  v.readAt Val (Rect.unit (s := S1x4096x256) ![0, 512 * t.val, 128 * c.val] S1x512x128.size (by
    have := c.isLt; have := t.isLt
    intro x; fin_cases x <;> simp <;> omega)).toLoadRect f

theorem kAt_read (v : View sig κ sp S1x4096x256 e) (f : v.ty.Contents Val) (c : Fin 2) (t : Fin 8)
    {off : Fin 3 → ℕ} (inb : ∀ x, off x + S1x512x128.size x ≤ S1x4096x256.size x) (h : off = ![0, 512 * t.val, 128 * c.val]) :
    v.readAt Val (Rect.unit (s := S1x4096x256) off S1x512x128.size inb).toLoadRect f = kAt v f c t := by subst h; rfl

theorem kAt_cons (v : View sig κ sp S1x4096x256 e) (f : v.ty.Contents Val) (c : Fin 2) (t : Fin 8)
    {off : Fin 3 → ℕ} (inb : ∀ x, off x + S1x512x128.size x ≤ S1x4096x256.size x) (h : off = ![0, 512 * t.val, 128 * c.val])
    (w : (Rect.unit (s := S1x4096x256) off S1x512x128.size inb).shape.Idx → Val e) (L : List (View.Piece Val S1x4096x256 e)) (c' : Fin 2) (t' : Fin 8) :
    kAt v (v.writes Val f ((⟨Rect.unit (s := S1x4096x256) off S1x512x128.size inb, w⟩ : View.Piece Val S1x4096x256 e) :: L)) c' t'
      = if c' = c ∧ t' = t then w else kAt v (v.writes Val f L) c' t' := by
  funext x
  by_cases hab : c' = c ∧ t' = t
  · obtain ⟨rfl, rfl⟩ := hab
    rw [if_pos ⟨rfl, rfl⟩]
    have hx0 : (x 0).val = 0 := by have := (x 0).isLt; exact Nat.lt_one_iff.mp this
    refine View.read_writes_cons_unit_of_mem v f inb w L _ x h fun y => ?_
    fin_cases y <;> simp [Rect.toLoadRect, LoadRect.idx, Rect.unit]
    exact hx0.symm
  · rw [if_neg hab]
    have hx1 : (x 1).val < 512 := (x 1).isLt
    have hx2 : (x 2).val < 128 := (x 2).isLt
    have ha := c.isLt; have ha' := c'.isLt; have hb := t.isLt; have hb' := t'.isLt
    rcases not_and_or.mp hab with h1 | h1
    · refine View.read_writes_cons_unit_of_not_mem v f inb w L _ h 2 ?_
      have : c'.val ≠ c.val := fun hh => h1 (Fin.ext hh)
      simp [Rect.toLoadRect, LoadRect.idx, Rect.unit]; omega
    · refine View.read_writes_cons_unit_of_not_mem v f inb w L _ h 1 ?_
      have : t'.val ≠ t.val := fun hh => h1 (Fin.ext hh)
      simp [Rect.toLoadRect, LoadRect.idx, Rect.unit]; omega

/-- One head's tile of the values. -/
def vAt (v : View sig κ sp S1x2x8x144x512 e) (f : v.ty.Contents Val) (c : Fin 2) (t : Fin 8) : S1x1x1x144x512.Idx → Val e :=
  v.readAt Val (Rect.unit (s := S1x2x8x144x512) ![0, c.val, t.val, 0, 0] S1x1x1x144x512.size (by
    have := c.isLt; have := t.isLt
    intro x; fin_cases x <;> simp <;> omega)).toLoadRect f

theorem vAt_read (v : View sig κ sp S1x2x8x144x512 e) (f : v.ty.Contents Val) (c : Fin 2) (t : Fin 8)
    {off : Fin 5 → ℕ} (inb : ∀ x, off x + S1x1x1x144x512.size x ≤ S1x2x8x144x512.size x) (h : off = ![0, c.val, t.val, 0, 0]) :
    v.readAt Val (Rect.unit (s := S1x2x8x144x512) off S1x1x1x144x512.size inb).toLoadRect f = vAt v f c t := by subst h; rfl

/-- The mask. -/
def cAt (v : View sig κ sp S512x512 e) (f : v.ty.Contents Val) : S512x512.Idx → Val e :=
  v.readAt Val (Rect.unit (s := S512x512) ![0, 0] S512x512.size (by intro x; fin_cases x <;> simp)).toLoadRect f

theorem cAt_read (v : View sig κ sp S512x512 e) (f : v.ty.Contents Val)
    {off : Fin 2 → ℕ} (inb : ∀ x, off x + S512x512.size x ≤ S512x512.size x) (h : off = ![0, 0]) :
    v.readAt Val (Rect.unit (s := S512x512) off S512x512.size inb).toLoadRect f = cAt v f := by subst h; rfl

theorem upd_ne {T : Type} (g : Fin 2 → Fin 2 → T) (a b : Fin 2) (w : T) (a' b' : Fin 2) (h : a' ≠ a ∨ b' ≠ b) : upd g a b w a' b' = g a' b' :=
  if_neg fun hh => h.elim (fun h => h hh.1) (fun h => h hh.2)

end Reads

/-! ## One point's recursion -/

/-- What one point reads: query blocks, key tiles, value tiles and the mask. -/
structure Blk (F : FTy → Type) where
  q : Fin 2 → Fin 8 → Vec F S1x512x128 .bf16
  k : Fin 2 → Fin 8 → Vec F S1x512x128 .bf16
  v : Fin 2 → Fin 8 → Vec F S1x1x1x144x512 .bf16
  c : Vec F S512x512 .f32

namespace Blk

variable (B : Blk F) (i : grid0.Coords)

def Q (c x : Fin 2) : Vec F S1x1x128x1024 .bf16 := qat (B.q c (dt i x))
def SD (c x : Fin 2) : Vec F S1x1x512x1024 .f32 := scoreD (B.k c (dt i x)) (B.Q i c x) B.c
def S (n : ℕ) (c : Fin 2) : Vec F S1x1x512x1024 .f32 := score (B.k c (tl i n)) (B.Q i c (xf i n))
def PD (c x : Fin 2) : Vec F S1x1x512x1024 .bf16 := probD (B.SD i c x)

/-- The running maxima before task `n`. -/
def M : ℕ → Fin 2 → Fin 2 → Vec F S1x1x1x1024 .f32
  | 0 => fun c x => maxD (B.SD i c x)
  | n + 1 => fun c x => if x = xf i n then maxS (M n c (xf i n)) (B.S i n c) else M n c x

def Al (n : ℕ) (c : Fin 2) : Vec F S1x1x1x1024 .f32 := alpS (B.M i n c (xf i n)) (B.S i n c)
def P (n : ℕ) (c : Fin 2) : Vec F S1x1x512x1024 .bf16 := probS (B.M i n c (xf i n)) (B.S i n c)

/-- The accumulators before task `n`. -/
def A : ℕ → Fin 2 → Fin 2 → Vec F S1x1x144x1024 .f32
  | 0 => fun c x => accD (B.v c (dt i x)) (B.PD i c x)
  | n + 1 => fun c x => if x = xf i n then accS (B.v c (tl i n)) (B.P i n c) (B.Al i n c) (A n c (xf i n)) else A n c x

theorem M_succ (n : ℕ) :
    upd (upd (B.M i n) 0 (xf i n) (maxS (B.M i n 0 (xf i n)) (B.S i n 0))) 1 (xf i n) (maxS (B.M i n 1 (xf i n)) (B.S i n 1)) = B.M i (n + 1) := by
  funext c x
  show _ = if x = xf i n then maxS (B.M i n c (xf i n)) (B.S i n c) else B.M i n c x
  by_cases hx : x = xf i n
  · rw [if_pos hx]; subst hx
    match c with
    | 0 => rw [upd_ne _ _ _ _ _ _ (Or.inl (by decide)), upd_same]
    | 1 => rw [upd_same]
  · rw [if_neg hx, upd_ne _ _ _ _ _ _ (Or.inr hx), upd_ne _ _ _ _ _ _ (Or.inr hx)]

theorem A_succ (n : ℕ) :
    upd (upd (B.A i n) 0 (xf i n) (accS (B.v 0 (tl i n)) (B.P i n 0) (B.Al i n 0) (B.A i n 0 (xf i n)))) 1 (xf i n)
      (accS (B.v 1 (tl i n)) (B.P i n 1) (B.Al i n 1) (B.A i n 1 (xf i n))) = B.A i (n + 1) := by
  funext c x
  show _ = if x = xf i n then accS (B.v c (tl i n)) (B.P i n c) (B.Al i n c) (B.A i n c (xf i n)) else B.A i n c x
  by_cases hx : x = xf i n
  · rw [if_pos hx]; subst hx
    match c with
    | 0 => rw [upd_ne _ _ _ _ _ _ (Or.inl (by decide)), upd_same]
    | 1 => rw [upd_same]
  · rw [if_neg hx, upd_ne _ _ _ _ _ _ (Or.inr hx), upd_ne _ _ _ _ _ _ (Or.inr hx)]

/-- Four slots given one by one. -/
theorem four {T : Type} (g h : Fin 2 → Fin 2 → T) (a b c d : T) (ha : a = h 0 0) (hb : b = h 1 0) (hc : c = h 0 1) (hd : d = h 1 1) :
    upd (upd (upd (upd g 0 0 a) 1 0 b) 0 1 c) 1 1 d = h := by
  subst ha hb hc hd
  funext x y
  fin_cases x <;> fin_cases y <;> simp [upd]

theorem four' {T : Type} (g h : Fin 2 → Fin 2 → T) (a b c d : T) (ha : a = h 0 1) (hb : b = h 1 1) (hc : c = h 0 0) (hd : d = h 1 0) :
    upd (upd (upd (upd g 0 1 a) 1 1 b) 0 0 c) 1 0 d = h := by
  subst ha hb hc hd
  funext x y
  fin_cases x <;> fin_cases y <;> simp [upd]

end Blk

/-- What one point reads, from its buffers. -/
def blkOf {κ : Kind} {sp : Space} (v8 v9 : View sig κ sp S1x4096x256 .bf16) (v10 : View sig κ sp S1x2x8x144x512 .bf16) (v11 : View sig κ sp S512x512 .f32)
    (X8 : v8.ty.Contents (Elt F)) (X9 : v9.ty.Contents (Elt F)) (X10 : v10.ty.Contents (Elt F)) (X11 : v11.ty.Contents (Elt F)) : Blk F where
  q := kAt v8 X8
  k := kAt v9 X9
  v := vAt v10 X10
  c := cAt v11 X11

end Cert.KernelIdeal.Hand

end
-- ==== Proof.Trip.lean ====
module

public import proofs.«01_k».proof.Proof.Steps

/-! One trip of the loop over the tasks: what the scratch buffers hold after it, from what they hold before it. -/

@[expose] public section

set_option maxRecDepth 16384
set_option maxHeartbeats 8000000

noncomputable section

namespace Cert.KernelIdeal.Hand

open Cert.KernelIdeal Cert.KernelIdeal.Gen
open Idealize.ShloMosaic Idealize.ShloMosaic.TcCoe

variable {F : FTy → Type} [FloatOps F] [Named F]

theorem trip_holds (𝒱 : Variants) (c : Dev nD) (bd : Option 𝒱.V) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S128x1 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x2x8x144x512 .bf16) (harg10 : arg10.IsWhole) (arg11 : Memref sig .tc .vmem S512x512 .f32) (harg11 : arg11.IsWhole) (arg12 : Memref sig .tc .vmem S1x4096x256 .bf16) (harg12 : arg12.IsWhole) (arg13 : Memref sig .tc .vmem S2x2x128x1024 .bf16) (harg13 : arg13.IsWhole) (arg14 : Memref sig .tc .vmem S2x2x512x1024 .f32) (harg14 : arg14.IsWhole) (arg15 : Memref sig .tc .vmem S2x2x512x1024 .bf16) (harg15 : arg15.IsWhole) (arg16 : Memref sig .tc .vmem S2x2x1x1024 .f32) (harg16 : arg16.IsWhole) (arg17 : Memref sig .tc .vmem S2x2x1x1024 .f32) (harg17 : arg17.IsWhole) (arg18 : Memref sig .tc .vmem S2x2x144x1024 .f32) (harg18 : arg18.IsWhole) (v129 : BitVec 32) (v450 : FVec F S144x1024 .f32) (X_arg9 : BufTy.Contents (Elt F) arg9.view.ty) (X_arg10 : BufTy.Contents (Elt F) arg10.view.ty) (X_arg13 : BufTy.Contents (Elt F) arg13.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty)
    (B : Blk F) (hk : ∀ c t, kAt arg9.view X_arg9 c t = B.k c t) (hv : ∀ c t, vAt arg10.view X_arg10 c t = B.v c t)
    (hq : ∀ c x, slots arg13.view X_arg13 c x = B.Q i c x)
    (h14 : ∀ c, slots arg14.view f_arg14 c 1 = B.S i (2 * k.val + 1) c) (h15 : ∀ c, slots arg15.view f_arg15 c 0 = B.P i (2 * k.val) c)
    (h16 : ∀ c, slots arg16.view f_arg16 c 0 = B.Al i (2 * k.val) c) (h17 : slots arg17.view f_arg17 = B.M i (2 * k.val + 1))
    (h18 : slots arg18.view f_arg18 = B.A i (2 * k.val)) :
    (∀ f, slots arg14.view (arg14.view.writes (Elt F) f ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).1 f_arg14 f_arg15 f_arg16 f_arg17 f_arg18)) = fun c x => if x = 0 then B.S i (2 * k.val + 2) c else B.S i (2 * k.val + 3) c) ∧
    (∀ f, slots arg15.view (arg15.view.writes (Elt F) f ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.1 f_arg14 f_arg15 f_arg16 f_arg17 f_arg18)) = fun c x => if x = 0 then B.P i (2 * k.val + 2) c else B.P i (2 * k.val + 1) c) ∧
    (∀ f, slots arg16.view (arg16.view.writes (Elt F) f ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.2.1 f_arg14 f_arg15 f_arg16 f_arg17 f_arg18)) = fun c x => if x = 0 then B.Al i (2 * k.val + 2) c else B.Al i (2 * k.val + 1) c) ∧
    slots arg17.view (arg17.view.writes (Elt F) f_arg17 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.2.2.1 f_arg14 f_arg15 f_arg16 f_arg17 f_arg18)) = B.M i (2 * k.val + 3) ∧
    slots arg18.view (arg18.view.writes (Elt F) f_arg18 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.2.2.2.1 f_arg14 f_arg15 f_arg16 f_arg17 f_arg18)) = B.A i (2 * k.val + 2) := by
  have e_v871 : (trip_k0_t1.sl.v871 (F := F) i arg9 arg13 X_arg9 X_arg13 k) = B.S i (2 * k.val + 2) 0 := by
    unfold trip_k0_t1.sl.v871 trip_k0_t1.sl.v868 trip_k0_t1.sl.v867 trip_k0_t1.sl.v864 trip_k0_t1.sl.cst_667
    rw [slots_read_128 arg13.view _ (0 : Fin 2) (xf i (2 * k.val + 2)) _ (cf22_2 i k), hq, kAt_read arg9.view _ 0 (tl i (2 * k.val + 2)) _ (cf21_2 i k), hk]; rfl
  have e_v883 : (trip_k0_t1.sl.v883 (F := F) i arg9 arg13 X_arg9 X_arg13 k) = B.S i (2 * k.val + 2) 1 := by
    unfold trip_k0_t1.sl.v883 trip_k0_t1.sl.v880 trip_k0_t1.sl.v879 trip_k0_t1.sl.v876 trip_k0_t1.sl.cst_667
    rw [slots_read_128 arg13.view _ (1 : Fin 2) (xf i (2 * k.val + 2)) _ (cf24_2 i k), hq, kAt_read arg9.view _ 1 (tl i (2 * k.val + 2)) _ (cf23_2 i k), hk]; rfl
  have e_v900 : (trip_k0_t1.sl.v900 (F := F) i arg14 arg17 k f_arg14 f_arg17) = B.Al i (2 * k.val + 1) 0 := by
    unfold trip_k0_t1.sl.v900 trip_k0_t1.sl.v897 trip_k0_t1.sl.v896 trip_k0_t1.sl.v895 trip_k0_t1.sl.v894 trip_k0_t1.sl.v891 trip_k0_t1.sl.v890 trip_k0_t1.sl.v889 trip_k0_t1.sl.v888
    rw [slots_read_1 arg17.view _ (0 : Fin 2) (xf i (2 * k.val + 1)) _ (cf25_2 i k), h17, slots_read_512 arg14.view _ (0 : Fin 2) (1 : Fin 2) (off := ![0, 1, 0, 0]) _ rfl, h14 0]; rfl
  have e_v904 : (trip_k0_t1.sl.v904 (F := F) i arg14 arg17 k f_arg14 f_arg17) = maxS (B.M i (2 * k.val + 1) 0 (xf i (2 * k.val + 1))) (B.S i (2 * k.val + 1) 0) := by
    unfold trip_k0_t1.sl.v904 trip_k0_t1.sl.v895 trip_k0_t1.sl.v894 trip_k0_t1.sl.v891 trip_k0_t1.sl.v890 trip_k0_t1.sl.v889 trip_k0_t1.sl.v888
    rw [slots_read_1 arg17.view _ (0 : Fin 2) (xf i (2 * k.val + 1)) _ (cf25_2 i k), h17, slots_read_512 arg14.view _ (0 : Fin 2) (1 : Fin 2) (off := ![0, 1, 0, 0]) _ rfl, h14 0]; rfl
  have e_v913 : (trip_k0_t1.sl.v913 (F := F) i arg14 arg17 k f_arg14 f_arg17) = B.P i (2 * k.val + 1) 0 := by
    unfold trip_k0_t1.sl.v913 trip_k0_t1.sl.v910 trip_k0_t1.sl.v909 trip_k0_t1.sl.v908 trip_k0_t1.sl.v907 trip_k0_t1.sl.v895 trip_k0_t1.sl.v894 trip_k0_t1.sl.v891 trip_k0_t1.sl.v890 trip_k0_t1.sl.v889 trip_k0_t1.sl.v888
    rw [slots_read_1 arg17.view _ (0 : Fin 2) (xf i (2 * k.val + 1)) _ (cf25_2 i k), h17, slots_read_512 arg14.view _ (0 : Fin 2) (1 : Fin 2) (off := ![0, 1, 0, 0]) _ rfl, h14 0]; rfl
  have e_v926 : (trip_k0_t1.sl.v926 (F := F) i arg14 arg17 k f_arg14 f_arg17) = B.Al i (2 * k.val + 1) 1 := by
    unfold trip_k0_t1.sl.v926 trip_k0_t1.sl.v923 trip_k0_t1.sl.v922 trip_k0_t1.sl.v921 trip_k0_t1.sl.v920 trip_k0_t1.sl.v919 trip_k0_t1.sl.v917 trip_k0_t1.sl.v916 trip_k0_t1.sl.v915 trip_k0_t1.sl.v914
    rw [slots_read_1 arg17.view _ (1 : Fin 2) (xf i (2 * k.val + 1)) _ (cf26_2 i k), h17, slots_read_512 arg14.view _ (1 : Fin 2) (1 : Fin 2) (off := ![1, 1, 0, 0]) _ rfl, h14 1]; rfl
  have e_v930 : (trip_k0_t1.sl.v930 (F := F) i arg14 arg17 k f_arg14 f_arg17) = maxS (B.M i (2 * k.val + 1) 1 (xf i (2 * k.val + 1))) (B.S i (2 * k.val + 1) 1) := by
    unfold trip_k0_t1.sl.v930 trip_k0_t1.sl.v921 trip_k0_t1.sl.v920 trip_k0_t1.sl.v919 trip_k0_t1.sl.v917 trip_k0_t1.sl.v916 trip_k0_t1.sl.v915 trip_k0_t1.sl.v914
    rw [slots_read_1 arg17.view _ (1 : Fin 2) (xf i (2 * k.val + 1)) _ (cf26_2 i k), h17, slots_read_512 arg14.view _ (1 : Fin 2) (1 : Fin 2) (off := ![1, 1, 0, 0]) _ rfl, h14 1]; rfl
  have e_v939 : (trip_k0_t1.sl.v939 (F := F) i arg14 arg17 k f_arg14 f_arg17) = B.P i (2 * k.val + 1) 1 := by
    unfold trip_k0_t1.sl.v939 trip_k0_t1.sl.v936 trip_k0_t1.sl.v935 trip_k0_t1.sl.v934 trip_k0_t1.sl.v933 trip_k0_t1.sl.v921 trip_k0_t1.sl.v920 trip_k0_t1.sl.v919 trip_k0_t1.sl.v917 trip_k0_t1.sl.v916 trip_k0_t1.sl.v915 trip_k0_t1.sl.v914
    rw [slots_read_1 arg17.view _ (1 : Fin 2) (xf i (2 * k.val + 1)) _ (cf26_2 i k), h17, slots_read_512 arg14.view _ (1 : Fin 2) (1 : Fin 2) (off := ![1, 1, 0, 0]) _ rfl, h14 1]; rfl
  have e_v963 : (trip_k0_t1.sl.v963 (F := F) i arg10 arg15 arg16 arg18 X_arg10 k f_arg15 f_arg16 f_arg18) = accS (B.v 0 (tl i (2 * k.val))) (B.P i (2 * k.val) 0) (B.Al i (2 * k.val) 0) (B.A i (2 * k.val) 0 (xf i (2 * k.val))) := by
    unfold trip_k0_t1.sl.v963 trip_k0_t1.sl.v959 trip_k0_t1.sl.v958 trip_k0_t1.sl.v957 trip_k0_t1.sl.v956 trip_k0_t1.sl.v953 trip_k0_t1.sl.v952 trip_k0_t1.sl.v951 trip_k0_t1.sl.v950 trip_k0_t1.sl.v949 trip_k0_t1.sl.v948 trip_k0_t1.sl.cst_745
    rw [slots_read_144 arg18.view _ (0 : Fin 2) (xf i (2 * k.val)) _ (cf28_2 i k), h18, slots_read_1 arg16.view _ (0 : Fin 2) (0 : Fin 2) (off := ![0, 0, 0, 0]) _ rfl, h16 0, slots_read_512 arg15.view _ (0 : Fin 2) (0 : Fin 2) (off := ![0, 0, 0, 0]) _ rfl, h15 0, vAt_read arg10.view _ 0 (tl i (2 * k.val)) _ (cf27_2 i k), hv]; rfl
  have e_v981 : (trip_k0_t1.sl.v981 (F := F) i arg10 arg15 arg16 arg18 X_arg10 k f_arg15 f_arg16 f_arg18) = accS (B.v 1 (tl i (2 * k.val))) (B.P i (2 * k.val) 1) (B.Al i (2 * k.val) 1) (B.A i (2 * k.val) 1 (xf i (2 * k.val))) := by
    unfold trip_k0_t1.sl.v981 trip_k0_t1.sl.v977 trip_k0_t1.sl.v976 trip_k0_t1.sl.v975 trip_k0_t1.sl.v974 trip_k0_t1.sl.v973 trip_k0_t1.sl.v971 trip_k0_t1.sl.v970 trip_k0_t1.sl.v969 trip_k0_t1.sl.v968 trip_k0_t1.sl.v967 trip_k0_t1.sl.v966 trip_k0_t1.sl.cst_745
    rw [slots_read_144 arg18.view _ (1 : Fin 2) (xf i (2 * k.val)) _ (cf30_2 i k), h18, slots_read_1 arg16.view _ (1 : Fin 2) (0 : Fin 2) (off := ![1, 0, 0, 0]) _ rfl, h16 1, slots_read_512 arg15.view _ (1 : Fin 2) (0 : Fin 2) (off := ![1, 0, 0, 0]) _ rfl, h15 1, vAt_read arg10.view _ 1 (tl i (2 * k.val)) _ (cf29_2 i k), hv]; rfl
  have e_v1002 : (trip_k0_t1.sl.v1002 (F := F) i arg9 arg13 X_arg9 X_arg13 k) = B.S i (2 * k.val + 3) 0 := by
    unfold trip_k0_t1.sl.v1002 trip_k0_t1.sl.v999 trip_k0_t1.sl.v998 trip_k0_t1.sl.v995 trip_k0_t1.sl.cst_667
    rw [slots_read_128 arg13.view _ (0 : Fin 2) (xf i (2 * k.val + 3)) _ (cf22_3 i k), hq, kAt_read arg9.view _ 0 (tl i (2 * k.val + 3)) _ (cf21_3 i k), hk]; rfl
  have e_v1014 : (trip_k0_t1.sl.v1014 (F := F) i arg9 arg13 X_arg9 X_arg13 k) = B.S i (2 * k.val + 3) 1 := by
    unfold trip_k0_t1.sl.v1014 trip_k0_t1.sl.v1011 trip_k0_t1.sl.v1010 trip_k0_t1.sl.v1007 trip_k0_t1.sl.cst_667
    rw [slots_read_128 arg13.view _ (1 : Fin 2) (xf i (2 * k.val + 3)) _ (cf24_3 i k), hq, kAt_read arg9.view _ 1 (tl i (2 * k.val + 3)) _ (cf23_3 i k), hk]; rfl
  have s_HW_arg17_2 : slots arg17.view (arg17.view.writes (Elt F) f_arg17 (trip_k0_t1.sl.HW_arg17_2 (F := F) i arg14 arg17 k f_arg14 f_arg17)) = B.M i (2 * k.val + 2) := by
    unfold trip_k0_t1.sl.HW_arg17_2; rw [slots_cons_1 arg17.view _ (1 : Fin 2) (xf i (2 * k.val + 1)) _ (cf26_2 i k), slots_cons_1 arg17.view _ (0 : Fin 2) (xf i (2 * k.val + 1)) _ (cf25_2 i k), View.writes_nil, h17, e_v930, e_v904]; exact B.M_succ i (2 * k.val + 1)
  have r_HW_arg14_4_00 : slots arg14.view (arg14.view.writes (Elt F) arg14.view.junk (trip_k0_t1.sl.HW_arg14_4 (F := F) i arg9 arg13 X_arg9 X_arg13 k)) 0 0 = B.S i (2 * k.val + 2) 0 := by
    unfold trip_k0_t1.sl.HW_arg14_4; rw [slots_cons_512 arg14.view _ (1 : Fin 2) (1 : Fin 2) (off := ![1, 1, 0, 0]) _ rfl, upd_ne _ _ _ _ _ _ (by decide), slots_cons_512 arg14.view _ (0 : Fin 2) (1 : Fin 2) (off := ![0, 1, 0, 0]) _ rfl, upd_ne _ _ _ _ _ _ (by decide), slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_same, e_v871]
  have e_v1031 : (trip_k0_t1.sl.v1031 (F := F) i arg9 arg13 arg14 arg17 X_arg9 X_arg13 k f_arg14 f_arg17) = B.Al i (2 * k.val + 2) 0 := by
    unfold trip_k0_t1.sl.v1031 trip_k0_t1.sl.v1028 trip_k0_t1.sl.v1027 trip_k0_t1.sl.v1026 trip_k0_t1.sl.v1025 trip_k0_t1.sl.v1022 trip_k0_t1.sl.v1021 trip_k0_t1.sl.v1020 trip_k0_t1.sl.v1019
    rw [slots_read_1 arg17.view _ (0 : Fin 2) (xf i (2 * k.val + 2)) _ (cf25_3 i k), s_HW_arg17_2, cov_read_512 arg14.view _ (0 : Fin 2) (0 : Fin 2) (off := ![0, 0, 0, 0]) _ rfl, r_HW_arg14_4_00]; rfl
  have e_v1035 : (trip_k0_t1.sl.v1035 (F := F) i arg9 arg13 arg14 arg17 X_arg9 X_arg13 k f_arg14 f_arg17) = maxS (B.M i (2 * k.val + 2) 0 (xf i (2 * k.val + 2))) (B.S i (2 * k.val + 2) 0) := by
    unfold trip_k0_t1.sl.v1035 trip_k0_t1.sl.v1026 trip_k0_t1.sl.v1025 trip_k0_t1.sl.v1022 trip_k0_t1.sl.v1021 trip_k0_t1.sl.v1020 trip_k0_t1.sl.v1019
    rw [slots_read_1 arg17.view _ (0 : Fin 2) (xf i (2 * k.val + 2)) _ (cf25_3 i k), s_HW_arg17_2, cov_read_512 arg14.view _ (0 : Fin 2) (0 : Fin 2) (off := ![0, 0, 0, 0]) _ rfl, r_HW_arg14_4_00]; rfl
  have e_v1044 : (trip_k0_t1.sl.v1044 (F := F) i arg9 arg13 arg14 arg17 X_arg9 X_arg13 k f_arg14 f_arg17) = B.P i (2 * k.val + 2) 0 := by
    unfold trip_k0_t1.sl.v1044 trip_k0_t1.sl.v1041 trip_k0_t1.sl.v1040 trip_k0_t1.sl.v1039 trip_k0_t1.sl.v1038 trip_k0_t1.sl.v1026 trip_k0_t1.sl.v1025 trip_k0_t1.sl.v1022 trip_k0_t1.sl.v1021 trip_k0_t1.sl.v1020 trip_k0_t1.sl.v1019
    rw [slots_read_1 arg17.view _ (0 : Fin 2) (xf i (2 * k.val + 2)) _ (cf25_3 i k), s_HW_arg17_2, cov_read_512 arg14.view _ (0 : Fin 2) (0 : Fin 2) (off := ![0, 0, 0, 0]) _ rfl, r_HW_arg14_4_00]; rfl
  have s_HW_arg17_3 : slots arg17.view (arg17.view.writes (Elt F) f_arg17 (trip_k0_t1.sl.HW_arg17_3 (F := F) i arg9 arg13 arg14 arg17 X_arg9 X_arg13 k f_arg14 f_arg17)) 1 (xf i (2 * k.val + 2)) = B.M i (2 * k.val + 2) 1 (xf i (2 * k.val + 2)) := by
    unfold trip_k0_t1.sl.HW_arg17_3; rw [slots_cons_1 arg17.view _ (0 : Fin 2) (xf i (2 * k.val + 2)) _ (cf25_3 i k), upd_ne _ _ _ _ _ _ (Or.inl (by decide)), s_HW_arg17_2]
  have r_HW_arg14_4_10 : slots arg14.view (arg14.view.writes (Elt F) arg14.view.junk (trip_k0_t1.sl.HW_arg14_4 (F := F) i arg9 arg13 X_arg9 X_arg13 k)) 1 0 = B.S i (2 * k.val + 2) 1 := by
    unfold trip_k0_t1.sl.HW_arg14_4; rw [slots_cons_512 arg14.view _ (1 : Fin 2) (1 : Fin 2) (off := ![1, 1, 0, 0]) _ rfl, upd_ne _ _ _ _ _ _ (by decide), slots_cons_512 arg14.view _ (0 : Fin 2) (1 : Fin 2) (off := ![0, 1, 0, 0]) _ rfl, upd_ne _ _ _ _ _ _ (by decide), slots_cons_512 arg14.view _ (1 : Fin 2) (0 : Fin 2) (off := ![1, 0, 0, 0]) _ rfl, upd_same, e_v883]
  have e_v1057 : (trip_k0_t1.sl.v1057 (F := F) i arg9 arg13 arg14 arg17 X_arg9 X_arg13 k f_arg14 f_arg17) = B.Al i (2 * k.val + 2) 1 := by
    unfold trip_k0_t1.sl.v1057 trip_k0_t1.sl.v1054 trip_k0_t1.sl.v1053 trip_k0_t1.sl.v1052 trip_k0_t1.sl.v1051 trip_k0_t1.sl.v1048 trip_k0_t1.sl.v1047 trip_k0_t1.sl.v1046 trip_k0_t1.sl.v1045
    rw [slots_read_1 arg17.view _ (1 : Fin 2) (xf i (2 * k.val + 2)) _ (cf26_3 i k), s_HW_arg17_3, cov_read_512 arg14.view _ (1 : Fin 2) (0 : Fin 2) (off := ![1, 0, 0, 0]) _ rfl, r_HW_arg14_4_10]; rfl
  have e_v1061 : (trip_k0_t1.sl.v1061 (F := F) i arg9 arg13 arg14 arg17 X_arg9 X_arg13 k f_arg14 f_arg17) = maxS (B.M i (2 * k.val + 2) 1 (xf i (2 * k.val + 2))) (B.S i (2 * k.val + 2) 1) := by
    unfold trip_k0_t1.sl.v1061 trip_k0_t1.sl.v1052 trip_k0_t1.sl.v1051 trip_k0_t1.sl.v1048 trip_k0_t1.sl.v1047 trip_k0_t1.sl.v1046 trip_k0_t1.sl.v1045
    rw [slots_read_1 arg17.view _ (1 : Fin 2) (xf i (2 * k.val + 2)) _ (cf26_3 i k), s_HW_arg17_3, cov_read_512 arg14.view _ (1 : Fin 2) (0 : Fin 2) (off := ![1, 0, 0, 0]) _ rfl, r_HW_arg14_4_10]; rfl
  have e_v1070 : (trip_k0_t1.sl.v1070 (F := F) i arg9 arg13 arg14 arg17 X_arg9 X_arg13 k f_arg14 f_arg17) = B.P i (2 * k.val + 2) 1 := by
    unfold trip_k0_t1.sl.v1070 trip_k0_t1.sl.v1067 trip_k0_t1.sl.v1066 trip_k0_t1.sl.v1065 trip_k0_t1.sl.v1064 trip_k0_t1.sl.v1052 trip_k0_t1.sl.v1051 trip_k0_t1.sl.v1048 trip_k0_t1.sl.v1047 trip_k0_t1.sl.v1046 trip_k0_t1.sl.v1045
    rw [slots_read_1 arg17.view _ (1 : Fin 2) (xf i (2 * k.val + 2)) _ (cf26_3 i k), s_HW_arg17_3, cov_read_512 arg14.view _ (1 : Fin 2) (0 : Fin 2) (off := ![1, 0, 0, 0]) _ rfl, r_HW_arg14_4_10]; rfl
  have s_HW_arg18_2 : slots arg18.view (arg18.view.writes (Elt F) f_arg18 (trip_k0_t1.sl.HW_arg18_2 (F := F) i arg10 arg15 arg16 arg18 X_arg10 k f_arg15 f_arg16 f_arg18)) = B.A i (2 * k.val + 1) := by
    unfold trip_k0_t1.sl.HW_arg18_2; rw [slots_cons_144 arg18.view _ (1 : Fin 2) (xf i (2 * k.val)) _ (cf30_2 i k), slots_cons_144 arg18.view _ (0 : Fin 2) (xf i (2 * k.val)) _ (cf28_2 i k), View.writes_nil, h18, e_v981, e_v963]; exact B.A_succ i (2 * k.val)
  have r_HW_arg16_4_01 : slots arg16.view (arg16.view.writes (Elt F) arg16.view.junk (trip_k0_t1.sl.HW_arg16_4 (F := F) i arg9 arg13 arg14 arg17 X_arg9 X_arg13 k f_arg14 f_arg17)) 0 1 = B.Al i (2 * k.val + 1) 0 := by
    unfold trip_k0_t1.sl.HW_arg16_4; rw [slots_cons_1 arg16.view _ (1 : Fin 2) (0 : Fin 2) (off := ![1, 0, 0, 0]) _ rfl, upd_ne _ _ _ _ _ _ (by decide), slots_cons_1 arg16.view _ (0 : Fin 2) (0 : Fin 2) (off := ![0, 0, 0, 0]) _ rfl, upd_ne _ _ _ _ _ _ (by decide), slots_cons_1 arg16.view _ (1 : Fin 2) (1 : Fin 2) (off := ![1, 1, 0, 0]) _ rfl, upd_ne _ _ _ _ _ _ (by decide), slots_cons_1 arg16.view _ (0 : Fin 2) (1 : Fin 2) (off := ![0, 1, 0, 0]) _ rfl, upd_same, e_v900]
  have r_HW_arg15_4_01 : slots arg15.view (arg15.view.writes (Elt F) arg15.view.junk (trip_k0_t1.sl.HW_arg15_4 (F := F) i arg9 arg13 arg14 arg17 X_arg9 X_arg13 k f_arg14 f_arg17)) 0 1 = B.P i (2 * k.val + 1) 0 := by
    unfold trip_k0_t1.sl.HW_arg15_4; rw [slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_ne _ _ _ _ _ _ (by decide), slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_same, e_v913]
  have e_v1090 : k0_pay86 (trip_k0_t1.sl.v1090 (F := F) i arg9 arg10 arg13 arg14 arg15 arg16 arg17 arg18 X_arg9 X_arg10 X_arg13 k f_arg14 f_arg15 f_arg16 f_arg17 f_arg18) = accS (B.v 0 (tl i (2 * k.val + 1))) (B.P i (2 * k.val + 1) 0) (B.Al i (2 * k.val + 1) 0) (B.A i (2 * k.val + 1) 0 (xf i (2 * k.val + 1))) := by
    unfold k0_pay86 trip_k0_t1.sl.v1090 trip_k0_t1.sl.v1089 trip_k0_t1.sl.v1088 trip_k0_t1.sl.v1087 trip_k0_t1.sl.v1084 trip_k0_t1.sl.v1083 trip_k0_t1.sl.v1082 trip_k0_t1.sl.v1081 trip_k0_t1.sl.v1080 trip_k0_t1.sl.v1079 trip_k0_t1.sl.cst_745
    rw [slots_read_144 arg18.view _ (0 : Fin 2) (xf i (2 * k.val + 1)) _ (cf28_3 i k), s_HW_arg18_2, cov_read_1 arg16.view _ (0 : Fin 2) (1 : Fin 2) (off := ![0, 1, 0, 0]) _ rfl, r_HW_arg16_4_01, cov_read_512 arg15.view _ (0 : Fin 2) (1 : Fin 2) (off := ![0, 1, 0, 0]) _ rfl, r_HW_arg15_4_01, vAt_read arg10.view _ 0 (tl i (2 * k.val + 1)) _ (cf27_3 i k), hv]; rfl
  have s_HW_arg18_3 : slots arg18.view (arg18.view.writes (Elt F) f_arg18 (trip_k0_t1.sl.HW_arg18_3 (F := F) i arg9 arg10 arg13 arg14 arg15 arg16 arg17 arg18 X_arg9 X_arg10 X_arg13 k f_arg14 f_arg15 f_arg16 f_arg17 f_arg18)) 1 (xf i (2 * k.val + 1)) = B.A i (2 * k.val + 1) 1 (xf i (2 * k.val + 1)) := by
    unfold trip_k0_t1.sl.HW_arg18_3; rw [slots_cons_144 arg18.view _ (0 : Fin 2) (xf i (2 * k.val + 1)) _ (cf28_3 i k), upd_ne _ _ _ _ _ _ (Or.inl (by decide)), s_HW_arg18_2]
  have t14 : ∀ f, slots arg14.view (arg14.view.writes (Elt F) f ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).1 f_arg14 f_arg15 f_arg16 f_arg17 f_arg18)) = fun c x => if x = 0 then B.S i (2 * k.val + 2) c else B.S i (2 * k.val + 3) c := by
    intro f; unfold trip_k0_t1; show slots arg14.view (arg14.view.writes (Elt F) f (trip_k0_t1.sl.HW_arg14_4 (F := F) i arg9 arg13 X_arg9 X_arg13 k)) = _
    unfold trip_k0_t1.sl.HW_arg14_4; rw [slots_cons_512 arg14.view _ (1 : Fin 2) (1 : Fin 2) (off := ![1, 1, 0, 0]) _ rfl, slots_cons_512 arg14.view _ (0 : Fin 2) (1 : Fin 2) (off := ![0, 1, 0, 0]) _ rfl, slots_cons_512 arg14.view _ (1 : Fin 2) (0 : Fin 2) (off := ![1, 0, 0, 0]) _ rfl, slots_cons_512 arg14.view _ (0 : Fin 2) (0 : Fin 2) (off := ![0, 0, 0, 0]) _ rfl, e_v1014, e_v1002, e_v883, e_v871]; exact Blk.four _ _ _ _ _ _ rfl rfl rfl rfl
  have t15 : ∀ f, slots arg15.view (arg15.view.writes (Elt F) f ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.1 f_arg14 f_arg15 f_arg16 f_arg17 f_arg18)) = fun c x => if x = 0 then B.P i (2 * k.val + 2) c else B.P i (2 * k.val + 1) c := by
    intro f; unfold trip_k0_t1; show slots arg15.view (arg15.view.writes (Elt F) f (trip_k0_t1.sl.HW_arg15_4 (F := F) i arg9 arg13 arg14 arg17 X_arg9 X_arg13 k f_arg14 f_arg17)) = _
    unfold trip_k0_t1.sl.HW_arg15_4; rw [slots_cons_512 arg15.view _ (1 : Fin 2) (0 : Fin 2) (off := ![1, 0, 0, 0]) _ rfl, slots_cons_512 arg15.view _ (0 : Fin 2) (0 : Fin 2) (off := ![0, 0, 0, 0]) _ rfl, slots_cons_512 arg15.view _ (1 : Fin 2) (1 : Fin 2) (off := ![1, 1, 0, 0]) _ rfl, slots_cons_512 arg15.view _ (0 : Fin 2) (1 : Fin 2) (off := ![0, 1, 0, 0]) _ rfl, e_v1070, e_v1044, e_v939, e_v913]; exact Blk.four' _ _ _ _ _ _ rfl rfl rfl rfl
  have t16 : ∀ f, slots arg16.view (arg16.view.writes (Elt F) f ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.2.1 f_arg14 f_arg15 f_arg16 f_arg17 f_arg18)) = fun c x => if x = 0 then B.Al i (2 * k.val + 2) c else B.Al i (2 * k.val + 1) c := by
    intro f; unfold trip_k0_t1; show slots arg16.view (arg16.view.writes (Elt F) f (trip_k0_t1.sl.HW_arg16_4 (F := F) i arg9 arg13 arg14 arg17 X_arg9 X_arg13 k f_arg14 f_arg17)) = _
    unfold trip_k0_t1.sl.HW_arg16_4; rw [slots_cons_1 arg16.view _ (1 : Fin 2) (0 : Fin 2) (off := ![1, 0, 0, 0]) _ rfl, slots_cons_1 arg16.view _ (0 : Fin 2) (0 : Fin 2) (off := ![0, 0, 0, 0]) _ rfl, slots_cons_1 arg16.view _ (1 : Fin 2) (1 : Fin 2) (off := ![1, 1, 0, 0]) _ rfl, slots_cons_1 arg16.view _ (0 : Fin 2) (1 : Fin 2) (off := ![0, 1, 0, 0]) _ rfl, e_v1057, e_v1031, e_v926, e_v900]; exact Blk.four' _ _ _ _ _ _ rfl rfl rfl rfl
  have r15 : slots arg15.view (arg15.view.writes (Elt F) arg15.view.junk (trip_k0_t1.sl.HW_arg15_4 (F := F) i arg9 arg13 arg14 arg17 X_arg9 X_arg13 k f_arg14 f_arg17)) 1 1 = B.P i (2 * k.val + 1) 1 := by
    unfold trip_k0_t1.sl.HW_arg15_4; rw [slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_ne _ _ _ _ _ _ (by decide), slots_cons_512 arg15.view _ (1 : Fin 2) (1 : Fin 2) (off := ![1, 1, 0, 0]) _ rfl, upd_same, e_v939]
  have r16 : slots arg16.view (arg16.view.writes (Elt F) arg16.view.junk (trip_k0_t1.sl.HW_arg16_4 (F := F) i arg9 arg13 arg14 arg17 X_arg9 X_arg13 k f_arg14 f_arg17)) 1 1 = B.Al i (2 * k.val + 1) 1 := by
    unfold trip_k0_t1.sl.HW_arg16_4; rw [slots_cons_1 arg16.view _ (1 : Fin 2) (0 : Fin 2) (off := ![1, 0, 0, 0]) _ rfl, upd_ne _ _ _ _ _ _ (by decide), slots_cons_1 arg16.view _ (0 : Fin 2) (0 : Fin 2) (off := ![0, 0, 0, 0]) _ rfl, upd_ne _ _ _ _ _ _ (by decide), slots_cons_1 arg16.view _ (1 : Fin 2) (1 : Fin 2) (off := ![1, 1, 0, 0]) _ rfl, upd_same, e_v926]
  have t17 : slots arg17.view (arg17.view.writes (Elt F) f_arg17 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.2.2.1 f_arg14 f_arg15 f_arg16 f_arg17 f_arg18)) = B.M i (2 * k.val + 3) := by
    unfold trip_k0_t1; show slots arg17.view (arg17.view.writes (Elt F) f_arg17 (_ :: (trip_k0_t1.sl.HW_arg17_3 (F := F) i arg9 arg13 arg14 arg17 X_arg9 X_arg13 k f_arg14 f_arg17))) = _
    unfold trip_k0_t1.sl.HW_arg17_3
    rw [slots_cons_1 arg17.view _ (1 : Fin 2) (xf i (2 * k.val + 2)) _ (cf26_3 i k), slots_cons_1 arg17.view _ (0 : Fin 2) (xf i (2 * k.val + 2)) _ (cf25_3 i k), s_HW_arg17_2, e_v1035, e_v1061]; exact B.M_succ i (2 * k.val + 2)
  have t18 : slots arg18.view (arg18.view.writes (Elt F) f_arg18 ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 k).2.2.2.2.1 f_arg14 f_arg15 f_arg16 f_arg17 f_arg18)) = B.A i (2 * k.val + 2) := by
    unfold trip_k0_t1; show slots arg18.view (arg18.view.writes (Elt F) f_arg18 (_ :: (trip_k0_t1.sl.HW_arg18_3 (F := F) i arg9 arg10 arg13 arg14 arg15 arg16 arg17 arg18 X_arg9 X_arg10 X_arg13 k f_arg14 f_arg15 f_arg16 f_arg17 f_arg18))) = _
    rw [slots_cons_144 arg18.view _ (1 : Fin 2) (xf i (2 * k.val + 1)) _ (cf30_3 i k),
      slots_read_144 arg18.view _ (1 : Fin 2) (xf i (2 * k.val + 1)) _ (cf30_3 i k), s_HW_arg18_3, vAt_read arg10.view _ 1 (tl i (2 * k.val + 1)) _ (cf29_3 i k), hv]
    unfold trip_k0_t1.sl.HW_arg18_3 trip_k0_t1.sl.v1098 trip_k0_t1.sl.v1101
    rw [cov_read_512 arg15.view _ (1 : Fin 2) (1 : Fin 2) (off := ![1, 1, 0, 0]) _ rfl, cov_read_1 arg16.view _ (1 : Fin 2) (1 : Fin 2) (off := ![1, 1, 0, 0]) _ rfl, r15, r16,
      slots_cons_144 arg18.view _ (0 : Fin 2) (xf i (2 * k.val + 1)) _ (cf28_3 i k), s_HW_arg18_2, e_v1090]; exact B.A_succ i (2 * k.val + 1)
  exact ⟨t14, t15, t16, t17, t18⟩

end Cert.KernelIdeal.Hand

end
-- ==== Proof.Loop.lean ====
module

public import proofs.«01_k».proof.Proof.Trip

/-! The loop over the tasks, two trips of two: what the scratch buffers hold before each trip. -/

@[expose] public section

set_option maxRecDepth 16384
set_option maxHeartbeats 8000000

noncomputable section

namespace Cert.KernelIdeal.Hand

open Cert.KernelIdeal Cert.KernelIdeal.Gen
open Idealize.ShloMosaic Idealize.ShloMosaic.TcCoe

variable {F : FTy → Type} [FloatOps F] [Named F]

theorem loop_holds (𝒱 : Variants) (c : Dev nD) (bd : Option 𝒱.V) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S128x1 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x2x8x144x512 .bf16) (harg10 : arg10.IsWhole) (arg11 : Memref sig .tc .vmem S512x512 .f32) (harg11 : arg11.IsWhole) (arg12 : Memref sig .tc .vmem S1x4096x256 .bf16) (harg12 : arg12.IsWhole) (arg13 : Memref sig .tc .vmem S2x2x128x1024 .bf16) (harg13 : arg13.IsWhole) (arg14 : Memref sig .tc .vmem S2x2x512x1024 .f32) (harg14 : arg14.IsWhole) (arg15 : Memref sig .tc .vmem S2x2x512x1024 .bf16) (harg15 : arg15.IsWhole) (arg16 : Memref sig .tc .vmem S2x2x1x1024 .f32) (harg16 : arg16.IsWhole) (arg17 : Memref sig .tc .vmem S2x2x1x1024 .f32) (harg17 : arg17.IsWhole) (arg18 : Memref sig .tc .vmem S2x2x144x1024 .f32) (harg18 : arg18.IsWhole) (v129 : BitVec 32) (v450 : FVec F S144x1024 .f32) (X_arg9 : BufTy.Contents (Elt F) arg9.view.ty) (X_arg10 : BufTy.Contents (Elt F) arg10.view.ty) (X_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty)
    (B : Blk F) (hk : ∀ c t, kAt arg9.view X_arg9 c t = B.k c t) (hv : ∀ c t, vAt arg10.view X_arg10 c t = B.v c t)
    (hq : ∀ c x, slots arg13.view X_arg13 c x = B.Q i c x)
    (h14 : ∀ c, slots arg14.view G_arg14 c 1 = B.S i 1 c) (h15 : ∀ c, slots arg15.view G_arg15 c 0 = B.P i 0 c)
    (h16 : ∀ c, slots arg16.view G_arg16 c 0 = B.Al i 0 c) (h17 : slots arg17.view G_arg17 = B.M i 1)
    (h18 : slots arg18.view G_arg18 = B.A i 0) :
    ∀ n, n ≤ k0_t1_loop.trips → (∀ y, slots arg14.view (arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 n).1) y 1 = B.S i (2 * n + 1) y) ∧
    (∀ y, slots arg15.view (arg15.view.writes (Elt F) G_arg15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 n).2.1) y 0 = B.P i (2 * n) y) ∧
    (∀ y, slots arg16.view (arg16.view.writes (Elt F) G_arg16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 n).2.2.1) y 0 = B.Al i (2 * n) y) ∧
    slots arg17.view (arg17.view.writes (Elt F) G_arg17 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 n).2.2.2.1) = B.M i (2 * n + 1) ∧
    slots arg18.view (arg18.view.writes (Elt F) G_arg18 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 n).2.2.2.2) = B.A i (2 * n) ∧
    (0 < n → ∀ f y, slots arg16.view (arg16.view.writes (Elt F) f (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 n).2.2.1) y 0 = B.Al i (2 * n) y) := by
  intro n
  induction n with
  | zero => exact fun _ => ⟨h14, h15, h16, h17, h18, fun h => absurd h (lt_irrefl 0)⟩
  | succ n ih =>
    intro hn
    obtain ⟨g14, g15, g16, g17, g18, -⟩ := ih (Nat.le_of_succ_le hn)
    have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 G_arg14 G_arg15 G_arg16 G_arg17 G_arg18 ⟨n, hn⟩
    obtain ⟨t14, t15, t16, t17, t18⟩ := trip_holds 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v129 v450 X_arg9 X_arg10 X_arg13 ⟨n, hn⟩ _ _ _ _ _ B hk hv hq g14 g15 g16 g17 g18
    rw [e]
    refine ⟨fun c => ?_, fun c => ?_, fun c => ?_, ?_, ?_, fun _ f c => ?_⟩
    · rw [View.writes_append, t14]; rfl
    · rw [View.writes_append, t15]; rfl
    · rw [View.writes_append, t16]; rfl
    · rw [View.writes_append, t17]; rfl
    · rw [View.writes_append, t18]; rfl
    · rw [View.writes_append, t16]; rfl

end Cert.KernelIdeal.Hand

end
-- ==== Proof.Point.lean ====
module

public import proofs.«01_k».proof.Proof.Loop

/-! One point's run: the output tiles it stores are those of the recursion. -/

@[expose] public section

set_option maxRecDepth 16384
set_option maxHeartbeats 8000000

noncomputable section

namespace Cert.KernelIdeal.Hand

open Cert.KernelIdeal Cert.KernelIdeal.Gen
open Idealize.ShloMosaic Idealize.ShloMosaic.TcCoe

variable {F : FTy → Type} [FloatOps F] [Named F]

theorem dt_ne (i : grid0.Coords) : dt i 0 ≠ dt i 1 := by
  revert i; decide +kernel

theorem pick (B : Blk F) (i : grid0.Coords) (y : Fin 2) (t : Fin 8) (h : Vec F S1x1x144x1024 .f32 → Vec F S1x512x128 .bf16) (z : Vec F S1x512x128 .bf16) :
    (if y = 1 ∧ t = dt i 1 then h (B.A i 7 1 1) else if y = 1 ∧ t = dt i 0 then h (B.A i 7 1 0) else
      if y = 0 ∧ t = dt i 1 then h (B.A i 7 0 1) else if y = 0 ∧ t = dt i 0 then h (B.A i 7 0 0) else z)
    = if t = dt i 0 then h (B.A i 7 y 0) else if t = dt i 1 then h (B.A i 7 y 1) else z := by
  have hn := dt_ne i
  by_cases h0 : t = dt i 0
  · subst h0
    match y with
    | 0 => simp [hn]
    | 1 => simp [hn]
  · by_cases h1 : t = dt i 1
    · subst h1
      match y with
      | 0 => simp [h0]
      | 1 => simp [h0]
    · simp [h0, h1]

theorem point_holds (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S128x1 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x2x8x144x512 .bf16) (harg10 : arg10.IsWhole) (arg11 : Memref sig .tc .vmem S512x512 .f32) (harg11 : arg11.IsWhole) (arg12 : Memref sig .tc .vmem S1x4096x256 .bf16) (harg12 : arg12.IsWhole) (arg13 : Memref sig .tc .vmem S2x2x128x1024 .bf16) (harg13 : arg13.IsWhole) (arg14 : Memref sig .tc .vmem S2x2x512x1024 .f32) (harg14 : arg14.IsWhole) (arg15 : Memref sig .tc .vmem S2x2x512x1024 .bf16) (harg15 : arg15.IsWhole) (arg16 : Memref sig .tc .vmem S2x2x1x1024 .f32) (harg16 : arg16.IsWhole) (arg17 : Memref sig .tc .vmem S2x2x1x1024 .f32) (harg17 : arg17.IsWhole) (arg18 : Memref sig .tc .vmem S2x2x144x1024 .f32) (harg18 : arg18.IsWhole)
    (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
    (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) :
    ∀ (y : Fin 2) (t : Fin 8), kAt arg12.view (arg12.view.writes (Elt F) f_arg12 (kernelRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg3 X_arg4 X_arg5 X_arg6 X_arg7 X_arg8 X_arg9 X_arg10 X_arg11 f_arg12 f_arg13 f_arg14 f_arg15 f_arg16 f_arg17 f_arg18).1) y t =
      if t = dt i 0 then finO (k0_pay33 (View.readAt (Elt F) arg3.view (Rect.unit (s := S1x64) ![0, 0] S1x64.size inb_S1x64_S1x64_0_0).toLoadRect X_arg3) (View.readAt (Elt F) arg4.view (Rect.unit (s := S1x64) ![0, 0] S1x64.size inb_S1x64_S1x64_0_0).toLoadRect X_arg4) (View.readAt (Elt F) arg5.view (Rect.unit (s := S1x64) ![0, 0] S1x64.size inb_S1x64_S1x64_0_0).toLoadRect X_arg5) (View.readAt (Elt F) arg6.view (Rect.unit (s := S1x64) ![0, 0] S1x64.size inb_S1x64_S1x64_0_0).toLoadRect X_arg6)) (View.readAt (Elt F) arg7.view (Rect.unit (s := S128x1) ![0, 0] S128x1.size inb_S128x1_S128x1_0_0).toLoadRect X_arg7) ((blkOf arg8.view arg9.view arg10.view arg11.view X_arg8 X_arg9 X_arg10 X_arg11).A i 7 y 0)
      else if t = dt i 1 then finO (k0_pay33 (View.readAt (Elt F) arg3.view (Rect.unit (s := S1x64) ![0, 0] S1x64.size inb_S1x64_S1x64_0_0).toLoadRect X_arg3) (View.readAt (Elt F) arg4.view (Rect.unit (s := S1x64) ![0, 0] S1x64.size inb_S1x64_S1x64_0_0).toLoadRect X_arg4) (View.readAt (Elt F) arg5.view (Rect.unit (s := S1x64) ![0, 0] S1x64.size inb_S1x64_S1x64_0_0).toLoadRect X_arg5) (View.readAt (Elt F) arg6.view (Rect.unit (s := S1x64) ![0, 0] S1x64.size inb_S1x64_S1x64_0_0).toLoadRect X_arg6)) (View.readAt (Elt F) arg7.view (Rect.unit (s := S128x1) ![0, 0] S128x1.size inb_S128x1_S128x1_0_0).toLoadRect X_arg7) ((blkOf arg8.view arg9.view arg10.view arg11.view X_arg8 X_arg9 X_arg10 X_arg11).A i 7 y 1)
      else kAt arg12.view f_arg12 y t := by
  let B : Blk F := blkOf arg8.view arg9.view arg10.view arg11.view X_arg8 X_arg9 X_arg10 X_arg11
  have hq : ∀ c x, slots arg13.view (arg13.view.writes (Elt F) arg13.view.junk (kernelRun.sl.Harg13_4 (F := F) i arg8 X_arg8)) c x = B.Q i c x := by
    intro c x
    unfold kernelRun.sl.Harg13_4 kernelRun.sl.r_1 kernelRun.sl.r_2 kernelRun.sl.r_3
    rw [slots_cons_128 arg13.view _ (1 : Fin 2) (1 : Fin 2) (off := ![1, 1, 0, 0]) _ rfl, slots_cons_128 arg13.view _ (1 : Fin 2) (0 : Fin 2) (off := ![1, 0, 0, 0]) _ rfl, slots_cons_128 arg13.view _ (0 : Fin 2) (1 : Fin 2) (off := ![0, 1, 0, 0]) _ rfl, slots_cons_128 arg13.view _ (0 : Fin 2) (0 : Fin 2) (off := ![0, 0, 0, 0]) _ rfl,
      kAt_read arg8.view _ 1 (dt i 1) _ (cf4 i), kAt_read arg8.view _ 1 (dt i 0) _ (cf3 i), kAt_read arg8.view _ 0 (dt i 1) _ (cf2 i), kAt_read arg8.view _ 0 (dt i 0) _ (cf1 i)]
    fin_cases c <;> fin_cases x <;> rfl
  have e_v171 : (kernelRun.sl.v171 (F := F) i arg8 arg9 arg11 arg13 X_arg8 X_arg9 X_arg11) = B.SD i 0 0 := by
    unfold kernelRun.sl.v171 kernelRun.sl.v168 kernelRun.sl.v167 kernelRun.sl.v166 kernelRun.sl.v165 kernelRun.sl.v164 kernelRun.sl.v163 kernelRun.sl.v155 kernelRun.sl.v154 kernelRun.sl.v153 kernelRun.sl.v152 kernelRun.sl.cst_74
    rw [cAt_read arg11.view _ _ (cf6 i), cov_read_128 arg13.view _ (0 : Fin 2) (0 : Fin 2) (off := ![0, 0, 0, 0]) _ rfl, hq, kAt_read arg9.view _ 0 (dt i 0) _ (cf5 i)]; rfl
  have e_v195 : (kernelRun.sl.v195 (F := F) i arg8 arg9 arg11 arg13 X_arg8 X_arg9 X_arg11) = B.SD i 1 0 := by
    unfold kernelRun.sl.v195 kernelRun.sl.v192 kernelRun.sl.v191 kernelRun.sl.v190 kernelRun.sl.v189 kernelRun.sl.v188 kernelRun.sl.v179 kernelRun.sl.v178 kernelRun.sl.v177 kernelRun.sl.v176 kernelRun.sl.v163 kernelRun.sl.cst_74
    rw [cov_read_128 arg13.view _ (1 : Fin 2) (0 : Fin 2) (off := ![1, 0, 0, 0]) _ rfl, hq, kAt_read arg9.view _ 1 (dt i 0) _ (cf7 i), cAt_read arg11.view _ _ (cf6 i)]; rfl
  have r_Harg14_2_00 : slots arg14.view (arg14.view.writes (Elt F) arg14.view.junk (kernelRun.sl.Harg14_2 (F := F) i arg8 arg9 arg11 arg13 X_arg8 X_arg9 X_arg11)) 0 0 = B.SD i 0 0 := by
    unfold kernelRun.sl.Harg14_2; rw [slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_same, e_v171]
  have e_v202 : (kernelRun.sl.v202 (F := F) i arg8 arg9 arg11 arg13 arg14 X_arg8 X_arg9 X_arg11) = B.M i 0 0 0 := by
    unfold kernelRun.sl.v202 kernelRun.sl.v199 kernelRun.sl.v198 kernelRun.sl.v197 kernelRun.sl.v196
    rw [cov_read_512 arg14.view _ (0 : Fin 2) (0 : Fin 2) (off := ![0, 0, 0, 0]) _ rfl, r_Harg14_2_00]; rfl
  have e_v211 : (kernelRun.sl.v211 (F := F) i arg8 arg9 arg11 arg13 arg14 X_arg8 X_arg9 X_arg11) = B.PD i 0 0 := by
    unfold kernelRun.sl.v211 kernelRun.sl.v208 kernelRun.sl.v207 kernelRun.sl.v206 kernelRun.sl.v205 kernelRun.sl.v199 kernelRun.sl.v198 kernelRun.sl.v197 kernelRun.sl.v196
    rw [cov_read_512 arg14.view _ (0 : Fin 2) (0 : Fin 2) (off := ![0, 0, 0, 0]) _ rfl, r_Harg14_2_00]; rfl
  have r_Harg14_2_10 : slots arg14.view (arg14.view.writes (Elt F) arg14.view.junk (kernelRun.sl.Harg14_2 (F := F) i arg8 arg9 arg11 arg13 X_arg8 X_arg9 X_arg11)) 1 0 = B.SD i 1 0 := by
    unfold kernelRun.sl.Harg14_2; rw [slots_cons_512 arg14.view _ (1 : Fin 2) (0 : Fin 2) (off := ![1, 0, 0, 0]) _ rfl, upd_same, e_v195]
  have e_v218 : (kernelRun.sl.v218 (F := F) i arg8 arg9 arg11 arg13 arg14 X_arg8 X_arg9 X_arg11) = B.M i 0 1 0 := by
    unfold kernelRun.sl.v218 kernelRun.sl.v215 kernelRun.sl.v214 kernelRun.sl.v213 kernelRun.sl.v212
    rw [cov_read_512 arg14.view _ (1 : Fin 2) (0 : Fin 2) (off := ![1, 0, 0, 0]) _ rfl, r_Harg14_2_10]; rfl
  have e_v227 : (kernelRun.sl.v227 (F := F) i arg8 arg9 arg11 arg13 arg14 X_arg8 X_arg9 X_arg11) = B.PD i 1 0 := by
    unfold kernelRun.sl.v227 kernelRun.sl.v224 kernelRun.sl.v223 kernelRun.sl.v222 kernelRun.sl.v221 kernelRun.sl.v215 kernelRun.sl.v214 kernelRun.sl.v213 kernelRun.sl.v212
    rw [cov_read_512 arg14.view _ (1 : Fin 2) (0 : Fin 2) (off := ![1, 0, 0, 0]) _ rfl, r_Harg14_2_10]; rfl
  have e_v251 : (kernelRun.sl.v251 (F := F) i arg8 arg9 arg11 arg13 X_arg8 X_arg9 X_arg11) = B.SD i 0 1 := by
    unfold kernelRun.sl.v251 kernelRun.sl.v248 kernelRun.sl.v247 kernelRun.sl.v246 kernelRun.sl.v245 kernelRun.sl.v244 kernelRun.sl.v243 kernelRun.sl.v235 kernelRun.sl.v234 kernelRun.sl.v233 kernelRun.sl.v232 kernelRun.sl.cst_74
    rw [cAt_read arg11.view _ _ (cf9 i), cov_read_128 arg13.view _ (0 : Fin 2) (1 : Fin 2) (off := ![0, 1, 0, 0]) _ rfl, hq, kAt_read arg9.view _ 0 (dt i 1) _ (cf8 i)]; rfl
  have e_v275 : (kernelRun.sl.v275 (F := F) i arg8 arg9 arg11 arg13 X_arg8 X_arg9 X_arg11) = B.SD i 1 1 := by
    unfold kernelRun.sl.v275 kernelRun.sl.v272 kernelRun.sl.v271 kernelRun.sl.v270 kernelRun.sl.v269 kernelRun.sl.v268 kernelRun.sl.v259 kernelRun.sl.v258 kernelRun.sl.v257 kernelRun.sl.v256 kernelRun.sl.v243 kernelRun.sl.cst_74
    rw [cov_read_128 arg13.view _ (1 : Fin 2) (1 : Fin 2) (off := ![1, 1, 0, 0]) _ rfl, hq, kAt_read arg9.view _ 1 (dt i 1) _ (cf10 i), cAt_read arg11.view _ _ (cf9 i)]; rfl
  have e_v291 : (kernelRun.sl.v291 (F := F) i arg8 arg9 arg13 X_arg8 X_arg9) = B.S i 0 0 := by
    unfold kernelRun.sl.v291 kernelRun.sl.v288 kernelRun.sl.v287 kernelRun.sl.v284 kernelRun.sl.r_4 kernelRun.sl.cst_74
    rw [slots_read_128 arg13.view _ (0 : Fin 2) (xf i 0) (off := k0_off12 i 0#32) (k0_off12_inb i 0) (cf12_0 i), hq, kAt_read arg9.view _ 0 (tl i 0) (off := k0_off11 i 0#32 0#32) (k0_off11_inb i 0) (cf11_0 i)]; rfl
  have e_v303 : (kernelRun.sl.v303 (F := F) i arg8 arg9 arg13 X_arg8 X_arg9) = B.S i 0 1 := by
    unfold kernelRun.sl.v303 kernelRun.sl.v300 kernelRun.sl.v299 kernelRun.sl.v296 kernelRun.sl.cst_74
    rw [slots_read_128 arg13.view _ (1 : Fin 2) (xf i 0) (off := k0_off14 i 0#32) (k0_off14_inb i 0) (cf14_0 i), hq, kAt_read arg9.view _ 1 (tl i 0) (off := k0_off13 i 0#32 0#32) (k0_off13_inb i 0) (cf13_0 i)]; rfl
  have r_Harg14_6_01 : slots arg14.view (arg14.view.writes (Elt F) arg14.view.junk (kernelRun.sl.Harg14_6 (F := F) i arg8 arg9 arg11 arg13 X_arg8 X_arg9 X_arg11)) 0 1 = B.SD i 0 1 := by
    unfold kernelRun.sl.Harg14_6 kernelRun.sl.Harg14_5 kernelRun.sl.Harg14_4; rw [slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_ne _ _ _ _ _ _ (by decide), slots_cons_512 arg14.view _ (1 : Fin 2) (1 : Fin 2) (off := ![1, 1, 0, 0]) _ rfl, upd_ne _ _ _ _ _ _ (by decide), slots_cons_512 arg14.view _ (0 : Fin 2) (1 : Fin 2) (off := ![0, 1, 0, 0]) _ rfl, upd_same, e_v251]
  have e_v310 : (kernelRun.sl.v310 (F := F) i arg8 arg9 arg11 arg13 arg14 X_arg8 X_arg9 X_arg11) = B.M i 0 0 1 := by
    unfold kernelRun.sl.v310 kernelRun.sl.v307 kernelRun.sl.v306 kernelRun.sl.v305 kernelRun.sl.v304
    rw [cov_read_512 arg14.view _ (0 : Fin 2) (1 : Fin 2) (off := ![0, 1, 0, 0]) _ rfl, r_Harg14_6_01]; rfl
  have e_v319 : (kernelRun.sl.v319 (F := F) i arg8 arg9 arg11 arg13 arg14 X_arg8 X_arg9 X_arg11) = B.PD i 0 1 := by
    unfold kernelRun.sl.v319 kernelRun.sl.v316 kernelRun.sl.v315 kernelRun.sl.v314 kernelRun.sl.v313 kernelRun.sl.v307 kernelRun.sl.v306 kernelRun.sl.v305 kernelRun.sl.v304
    rw [cov_read_512 arg14.view _ (0 : Fin 2) (1 : Fin 2) (off := ![0, 1, 0, 0]) _ rfl, r_Harg14_6_01]; rfl
  have r_Harg14_6_11 : slots arg14.view (arg14.view.writes (Elt F) arg14.view.junk (kernelRun.sl.Harg14_6 (F := F) i arg8 arg9 arg11 arg13 X_arg8 X_arg9 X_arg11)) 1 1 = B.SD i 1 1 := by
    unfold kernelRun.sl.Harg14_6 kernelRun.sl.Harg14_5 kernelRun.sl.Harg14_4; rw [slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_ne _ _ _ _ _ _ (by decide), slots_cons_512 arg14.view _ (1 : Fin 2) (1 : Fin 2) (off := ![1, 1, 0, 0]) _ rfl, upd_same, e_v275]
  have e_v326 : (kernelRun.sl.v326 (F := F) i arg8 arg9 arg11 arg13 arg14 X_arg8 X_arg9 X_arg11) = B.M i 0 1 1 := by
    unfold kernelRun.sl.v326 kernelRun.sl.v323 kernelRun.sl.v322 kernelRun.sl.v321 kernelRun.sl.v320
    rw [cov_read_512 arg14.view _ (1 : Fin 2) (1 : Fin 2) (off := ![1, 1, 0, 0]) _ rfl, r_Harg14_6_11]; rfl
  have e_v335 : (kernelRun.sl.v335 (F := F) i arg8 arg9 arg11 arg13 arg14 X_arg8 X_arg9 X_arg11) = B.PD i 1 1 := by
    unfold kernelRun.sl.v335 kernelRun.sl.v332 kernelRun.sl.v331 kernelRun.sl.v330 kernelRun.sl.v329 kernelRun.sl.v323 kernelRun.sl.v322 kernelRun.sl.v321 kernelRun.sl.v320
    rw [cov_read_512 arg14.view _ (1 : Fin 2) (1 : Fin 2) (off := ![1, 1, 0, 0]) _ rfl, r_Harg14_6_11]; rfl
  have r_Harg15_4_00 : slots arg15.view (arg15.view.writes (Elt F) arg15.view.junk (kernelRun.sl.Harg15_4 (F := F) i arg8 arg9 arg11 arg13 arg14 X_arg8 X_arg9 X_arg11)) 0 0 = B.PD i 0 0 := by
    unfold kernelRun.sl.Harg15_4; rw [slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_ne _ _ _ _ _ _ (by decide), slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_same, e_v211]
  have e_v344 : (kernelRun.sl.v344 (F := F) i arg8 arg9 arg10 arg11 arg13 arg14 arg15 X_arg8 X_arg9 X_arg10 X_arg11) = B.A i 0 0 0 := by
    unfold kernelRun.sl.v344 kernelRun.sl.v341 kernelRun.sl.v340 kernelRun.sl.v339 kernelRun.sl.v338 kernelRun.sl.cst_233
    rw [cov_read_512 arg15.view _ (0 : Fin 2) (0 : Fin 2) (off := ![0, 0, 0, 0]) _ rfl, r_Harg15_4_00, vAt_read arg10.view _ 0 (dt i 0) _ (cf15 i)]; rfl
  have r_Harg15_4_10 : slots arg15.view (arg15.view.writes (Elt F) arg15.view.junk (kernelRun.sl.Harg15_4 (F := F) i arg8 arg9 arg11 arg13 arg14 X_arg8 X_arg9 X_arg11)) 1 0 = B.PD i 1 0 := by
    unfold kernelRun.sl.Harg15_4; rw [slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_ne _ _ _ _ _ _ (by decide), slots_cons_512 arg15.view _ (1 : Fin 2) (0 : Fin 2) (off := ![1, 0, 0, 0]) _ rfl, upd_same, e_v227]
  have e_v353 : (kernelRun.sl.v353 (F := F) i arg8 arg9 arg10 arg11 arg13 arg14 arg15 X_arg8 X_arg9 X_arg10 X_arg11) = B.A i 0 1 0 := by
    unfold kernelRun.sl.v353 kernelRun.sl.v350 kernelRun.sl.v349 kernelRun.sl.v348 kernelRun.sl.v347 kernelRun.sl.cst_233
    rw [cov_read_512 arg15.view _ (1 : Fin 2) (0 : Fin 2) (off := ![1, 0, 0, 0]) _ rfl, r_Harg15_4_10, vAt_read arg10.view _ 1 (dt i 0) _ (cf16 i)]; rfl
  have e_v369 : (kernelRun.sl.v369 (F := F) i arg8 arg9 arg13 X_arg8 X_arg9) = B.S i 1 0 := by
    unfold kernelRun.sl.v369 kernelRun.sl.v366 kernelRun.sl.v365 kernelRun.sl.v362 kernelRun.sl.cst_74
    rw [slots_read_128 arg13.view _ (0 : Fin 2) (xf i 1) (off := k0_off12 i 1#32) (k0_off12_inb i 1) (cf12_1 i), hq, kAt_read arg9.view _ 0 (tl i 1) (off := k0_off11 i 1#32 1#32) (k0_off11_inb i 1) (cf11_1 i)]; rfl
  have e_v381 : (kernelRun.sl.v381 (F := F) i arg8 arg9 arg13 X_arg8 X_arg9) = B.S i 1 1 := by
    unfold kernelRun.sl.v381 kernelRun.sl.v378 kernelRun.sl.v377 kernelRun.sl.v374 kernelRun.sl.cst_74
    rw [slots_read_128 arg13.view _ (1 : Fin 2) (xf i 1) (off := k0_off14 i 1#32) (k0_off14_inb i 1) (cf14_1 i), hq, kAt_read arg9.view _ 1 (tl i 1) (off := k0_off13 i 1#32 1#32) (k0_off13_inb i 1) (cf13_1 i)]; rfl
  have s_Harg17_4 : slots arg17.view (arg17.view.writes (Elt F) arg17.view.junk (kernelRun.sl.Harg17_4 (F := F) i arg8 arg9 arg11 arg13 arg14 X_arg8 X_arg9 X_arg11)) = B.M i 0 := by
    unfold kernelRun.sl.Harg17_4; rw [slots_cons_1 arg17.view _ (1 : Fin 2) (1 : Fin 2) (off := ![1, 1, 0, 0]) _ rfl, slots_cons_1 arg17.view _ (0 : Fin 2) (1 : Fin 2) (off := ![0, 1, 0, 0]) _ rfl, slots_cons_1 arg17.view _ (1 : Fin 2) (0 : Fin 2) (off := ![1, 0, 0, 0]) _ rfl, slots_cons_1 arg17.view _ (0 : Fin 2) (0 : Fin 2) (off := ![0, 0, 0, 0]) _ rfl, e_v326, e_v310, e_v218, e_v202]; exact Blk.four _ _ _ _ _ _ rfl rfl rfl rfl
  have r_Harg14_8_00 : slots arg14.view (arg14.view.writes (Elt F) arg14.view.junk (kernelRun.sl.Harg14_8 (F := F) i arg8 arg9 arg11 arg13 X_arg8 X_arg9 X_arg11)) 0 0 = B.S i 0 0 := by
    unfold kernelRun.sl.Harg14_8 kernelRun.sl.Harg14_7 kernelRun.sl.Harg14_6 kernelRun.sl.Harg14_5; rw [slots_cons_512 arg14.view _ (1 : Fin 2) (1 : Fin 2) (off := ![1, 1, 0, 0]) _ rfl, upd_ne _ _ _ _ _ _ (by decide), slots_cons_512 arg14.view _ (0 : Fin 2) (1 : Fin 2) (off := ![0, 1, 0, 0]) _ rfl, upd_ne _ _ _ _ _ _ (by decide), slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_same, e_v291]
  have e_v396 : (kernelRun.sl.v396 (F := F) i arg8 arg9 arg11 arg13 arg14 arg17 X_arg8 X_arg9 X_arg11) = B.Al i 0 0 := by
    unfold kernelRun.sl.v396 kernelRun.sl.v393 kernelRun.sl.v392 kernelRun.sl.v391 kernelRun.sl.v390 kernelRun.sl.v387 kernelRun.sl.v386 kernelRun.sl.v385 kernelRun.sl.v384
    rw [slots_read_1 arg17.view _ (0 : Fin 2) (xf i 0) (off := k0_off17 i 0#32) (k0_off17_inb i 0) (cf17_0 i), s_Harg17_4, cov_read_512 arg14.view _ (0 : Fin 2) (0 : Fin 2) (off := ![0, 0, 0, 0]) _ rfl, r_Harg14_8_00]; rfl
  have e_v400 : (kernelRun.sl.v400 (F := F) i arg8 arg9 arg11 arg13 arg14 arg17 X_arg8 X_arg9 X_arg11) = maxS (B.M i 0 0 (xf i 0)) (B.S i 0 0) := by
    unfold kernelRun.sl.v400 kernelRun.sl.v391 kernelRun.sl.v390 kernelRun.sl.v387 kernelRun.sl.v386 kernelRun.sl.v385 kernelRun.sl.v384
    rw [slots_read_1 arg17.view _ (0 : Fin 2) (xf i 0) (off := k0_off17 i 0#32) (k0_off17_inb i 0) (cf17_0 i), s_Harg17_4, cov_read_512 arg14.view _ (0 : Fin 2) (0 : Fin 2) (off := ![0, 0, 0, 0]) _ rfl, r_Harg14_8_00]; rfl
  have e_v409 : (kernelRun.sl.v409 (F := F) i arg8 arg9 arg11 arg13 arg14 arg17 X_arg8 X_arg9 X_arg11) = B.P i 0 0 := by
    unfold kernelRun.sl.v409 kernelRun.sl.v406 kernelRun.sl.v405 kernelRun.sl.v404 kernelRun.sl.v403 kernelRun.sl.v391 kernelRun.sl.v390 kernelRun.sl.v387 kernelRun.sl.v386 kernelRun.sl.v385 kernelRun.sl.v384
    rw [slots_read_1 arg17.view _ (0 : Fin 2) (xf i 0) (off := k0_off17 i 0#32) (k0_off17_inb i 0) (cf17_0 i), s_Harg17_4, cov_read_512 arg14.view _ (0 : Fin 2) (0 : Fin 2) (off := ![0, 0, 0, 0]) _ rfl, r_Harg14_8_00]; rfl
  have s_Harg17_5 : slots arg17.view (arg17.view.writes (Elt F) arg17.view.junk (kernelRun.sl.Harg17_5 (F := F) i arg8 arg9 arg11 arg13 arg14 arg17 X_arg8 X_arg9 X_arg11)) 1 (xf i 0) = B.M i 0 1 (xf i 0) := by
    unfold kernelRun.sl.Harg17_5; rw [slots_cons_1 arg17.view _ (0 : Fin 2) (xf i 0) (off := k0_off17 i 0#32) (k0_off17_inb i 0) (cf17_0 i), upd_ne _ _ _ _ _ _ (Or.inl (by decide)), s_Harg17_4]
  have r_Harg14_8_10 : slots arg14.view (arg14.view.writes (Elt F) arg14.view.junk (kernelRun.sl.Harg14_8 (F := F) i arg8 arg9 arg11 arg13 X_arg8 X_arg9 X_arg11)) 1 0 = B.S i 0 1 := by
    unfold kernelRun.sl.Harg14_8 kernelRun.sl.Harg14_7 kernelRun.sl.Harg14_6; rw [slots_cons_512 arg14.view _ (1 : Fin 2) (1 : Fin 2) (off := ![1, 1, 0, 0]) _ rfl, upd_ne _ _ _ _ _ _ (by decide), slots_cons_512 arg14.view _ (0 : Fin 2) (1 : Fin 2) (off := ![0, 1, 0, 0]) _ rfl, upd_ne _ _ _ _ _ _ (by decide), slots_cons_512 arg14.view _ (1 : Fin 2) (0 : Fin 2) (off := ![1, 0, 0, 0]) _ rfl, upd_same, e_v303]
  have e_v422 : (kernelRun.sl.v422 (F := F) i arg8 arg9 arg11 arg13 arg14 arg17 X_arg8 X_arg9 X_arg11) = B.Al i 0 1 := by
    unfold kernelRun.sl.v422 kernelRun.sl.v419 kernelRun.sl.v418 kernelRun.sl.v417 kernelRun.sl.v416 kernelRun.sl.v413 kernelRun.sl.v412 kernelRun.sl.v411 kernelRun.sl.v410
    rw [slots_read_1 arg17.view _ (1 : Fin 2) (xf i 0) (off := k0_off18 i 0#32) (k0_off18_inb i 0) (cf18_0 i), s_Harg17_5, cov_read_512 arg14.view _ (1 : Fin 2) (0 : Fin 2) (off := ![1, 0, 0, 0]) _ rfl, r_Harg14_8_10]; rfl
  have e_v426 : (kernelRun.sl.v426 (F := F) i arg8 arg9 arg11 arg13 arg14 arg17 X_arg8 X_arg9 X_arg11) = maxS (B.M i 0 1 (xf i 0)) (B.S i 0 1) := by
    unfold kernelRun.sl.v426 kernelRun.sl.v417 kernelRun.sl.v416 kernelRun.sl.v413 kernelRun.sl.v412 kernelRun.sl.v411 kernelRun.sl.v410
    rw [slots_read_1 arg17.view _ (1 : Fin 2) (xf i 0) (off := k0_off18 i 0#32) (k0_off18_inb i 0) (cf18_0 i), s_Harg17_5, cov_read_512 arg14.view _ (1 : Fin 2) (0 : Fin 2) (off := ![1, 0, 0, 0]) _ rfl, r_Harg14_8_10]; rfl
  have e_v435 : (kernelRun.sl.v435 (F := F) i arg8 arg9 arg11 arg13 arg14 arg17 X_arg8 X_arg9 X_arg11) = B.P i 0 1 := by
    unfold kernelRun.sl.v435 kernelRun.sl.v432 kernelRun.sl.v431 kernelRun.sl.v430 kernelRun.sl.v429 kernelRun.sl.v417 kernelRun.sl.v416 kernelRun.sl.v413 kernelRun.sl.v412 kernelRun.sl.v411 kernelRun.sl.v410
    rw [slots_read_1 arg17.view _ (1 : Fin 2) (xf i 0) (off := k0_off18 i 0#32) (k0_off18_inb i 0) (cf18_0 i), s_Harg17_5, cov_read_512 arg14.view _ (1 : Fin 2) (0 : Fin 2) (off := ![1, 0, 0, 0]) _ rfl, r_Harg14_8_10]; rfl
  have r_Harg15_6_01 : slots arg15.view (arg15.view.writes (Elt F) arg15.view.junk (kernelRun.sl.Harg15_6 (F := F) i arg8 arg9 arg11 arg13 arg14 arg17 X_arg8 X_arg9 X_arg11)) 0 1 = B.PD i 0 1 := by
    unfold kernelRun.sl.Harg15_6 kernelRun.sl.Harg15_5 kernelRun.sl.Harg15_4; rw [slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_ne _ _ _ _ _ _ (by decide), slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_same, e_v319]
  have e_v444 : (kernelRun.sl.v444 (F := F) i arg8 arg9 arg10 arg11 arg13 arg14 arg15 arg17 X_arg8 X_arg9 X_arg10 X_arg11) = B.A i 0 0 1 := by
    unfold kernelRun.sl.v444 kernelRun.sl.v441 kernelRun.sl.v440 kernelRun.sl.v439 kernelRun.sl.v438 kernelRun.sl.cst_233
    rw [cov_read_512 arg15.view _ (0 : Fin 2) (1 : Fin 2) (off := ![0, 1, 0, 0]) _ rfl, r_Harg15_6_01, vAt_read arg10.view _ 0 (dt i 1) _ (cf19 i)]; rfl
  have r_Harg15_6_11 : slots arg15.view (arg15.view.writes (Elt F) arg15.view.junk (kernelRun.sl.Harg15_6 (F := F) i arg8 arg9 arg11 arg13 arg14 arg17 X_arg8 X_arg9 X_arg11)) 1 1 = B.PD i 1 1 := by
    unfold kernelRun.sl.Harg15_6 kernelRun.sl.Harg15_5 kernelRun.sl.Harg15_4; rw [slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_ne _ _ _ _ _ _ (by decide), slots_cons_512 arg15.view _ (1 : Fin 2) (1 : Fin 2) (off := ![1, 1, 0, 0]) _ rfl, upd_same, e_v335]
  have e_v453 : (kernelRun.sl.v453 (F := F) i arg8 arg9 arg10 arg11 arg13 arg14 arg15 arg17 X_arg8 X_arg9 X_arg10 X_arg11) = B.A i 0 1 1 := by
    unfold kernelRun.sl.v453 kernelRun.sl.v450 kernelRun.sl.v449 kernelRun.sl.v448 kernelRun.sl.v447 kernelRun.sl.cst_233
    rw [cov_read_512 arg15.view _ (1 : Fin 2) (1 : Fin 2) (off := ![1, 1, 0, 0]) _ rfl, r_Harg15_6_11, vAt_read arg10.view _ 1 (dt i 1) _ (cf20 i)]; rfl
  have r_Harg14_8_01 : slots arg14.view (arg14.view.writes (Elt F) arg14.view.junk (kernelRun.sl.Harg14_8 (F := F) i arg8 arg9 arg11 arg13 X_arg8 X_arg9 X_arg11)) 0 1 = B.S i 1 0 := by
    unfold kernelRun.sl.Harg14_8 kernelRun.sl.Harg14_7; rw [slots_cons_512 arg14.view _ (1 : Fin 2) (1 : Fin 2) (off := ![1, 1, 0, 0]) _ rfl, upd_ne _ _ _ _ _ _ (by decide), slots_cons_512 arg14.view _ (0 : Fin 2) (1 : Fin 2) (off := ![0, 1, 0, 0]) _ rfl, upd_same, e_v369]
  have r_Harg14_8_11 : slots arg14.view (arg14.view.writes (Elt F) arg14.view.junk (kernelRun.sl.Harg14_8 (F := F) i arg8 arg9 arg11 arg13 X_arg8 X_arg9 X_arg11)) 1 1 = B.S i 1 1 := by
    unfold kernelRun.sl.Harg14_8; rw [slots_cons_512 arg14.view _ (1 : Fin 2) (1 : Fin 2) (off := ![1, 1, 0, 0]) _ rfl, upd_same, e_v381]
  have n14 : ∀ y, slots arg14.view (arg14.view.writes (Elt F) arg14.view.junk (kernelRun.sl.Harg14_8 (F := F) i arg8 arg9 arg11 arg13 X_arg8 X_arg9 X_arg11)) y 1 = B.S i 1 y := by
    intro y; fin_cases y
    · exact r_Harg14_8_01
    · exact r_Harg14_8_11
  have r_Harg15_6_00 : slots arg15.view (arg15.view.writes (Elt F) arg15.view.junk (kernelRun.sl.Harg15_6 (F := F) i arg8 arg9 arg11 arg13 arg14 arg17 X_arg8 X_arg9 X_arg11)) 0 0 = B.P i 0 0 := by
    unfold kernelRun.sl.Harg15_6 kernelRun.sl.Harg15_5; rw [slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_same, e_v409]
  have r_Harg15_6_10 : slots arg15.view (arg15.view.writes (Elt F) arg15.view.junk (kernelRun.sl.Harg15_6 (F := F) i arg8 arg9 arg11 arg13 arg14 arg17 X_arg8 X_arg9 X_arg11)) 1 0 = B.P i 0 1 := by
    unfold kernelRun.sl.Harg15_6; rw [slots_cons_512 arg15.view _ (1 : Fin 2) (0 : Fin 2) (off := ![1, 0, 0, 0]) _ rfl, upd_same, e_v435]
  have n15 : ∀ y, slots arg15.view (arg15.view.writes (Elt F) arg15.view.junk (kernelRun.sl.Harg15_6 (F := F) i arg8 arg9 arg11 arg13 arg14 arg17 X_arg8 X_arg9 X_arg11)) y 0 = B.P i 0 y := by
    intro y; fin_cases y
    · exact r_Harg15_6_00
    · exact r_Harg15_6_10
  have n16 : ∀ y, slots arg16.view (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) y 0 = B.Al i 0 y := by
    intro y
    rw [slots_cons_1 arg16.view _ (1 : Fin 2) (0 : Fin 2) (off := ![1, 0, 0, 0]) _ rfl, slots_cons_1 arg16.view _ (0 : Fin 2) (0 : Fin 2) (off := ![0, 0, 0, 0]) _ rfl, e_v422, e_v396]
    fin_cases y <;> rfl
  have s_Harg18_4 : slots arg18.view (arg18.view.writes (Elt F) arg18.view.junk (kernelRun.sl.Harg18_4 (F := F) i arg8 arg9 arg10 arg11 arg13 arg14 arg15 arg17 X_arg8 X_arg9 X_arg10 X_arg11)) = B.A i 0 := by
    unfold kernelRun.sl.Harg18_4; rw [slots_cons_144 arg18.view _ (1 : Fin 2) (1 : Fin 2) (off := ![1, 1, 0, 0]) _ rfl, slots_cons_144 arg18.view _ (0 : Fin 2) (1 : Fin 2) (off := ![0, 1, 0, 0]) _ rfl, slots_cons_144 arg18.view _ (1 : Fin 2) (0 : Fin 2) (off := ![1, 0, 0, 0]) _ rfl, slots_cons_144 arg18.view _ (0 : Fin 2) (0 : Fin 2) (off := ![0, 0, 0, 0]) _ rfl, e_v453, e_v444, e_v353, e_v344]; exact Blk.four _ _ _ _ _ _ rfl rfl rfl rfl
  have n17 : slots arg17.view (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) = B.M i 1 := by
    unfold kernelRun.sl.Harg17_5
    rw [slots_cons_1 arg17.view _ (1 : Fin 2) (xf i 0) (off := k0_off18 i 0#32) (k0_off18_inb i 0) (cf18_0 i), slots_cons_1 arg17.view _ (0 : Fin 2) (xf i 0) (off := k0_off17 i 0#32) (k0_off17_inb i 0) (cf17_0 i), s_Harg17_4, e_v426, e_v400]; exact B.M_succ i 0
  have lp := loop_holds (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun.sl.v129 i) (constant S144x1024 FTy.f32 0#32) X_arg9 X_arg10 (arg13.view.writes (Elt F) arg13.view.junk (kernelRun.sl.Harg13_4 (F := F) i arg8 X_arg8)) (arg14.view.writes (Elt F) arg14.view.junk (kernelRun.sl.Harg14_8 (F := F) i arg8 arg9 arg11 arg13 X_arg8 X_arg9 X_arg11)) (arg15.view.writes (Elt F) arg15.view.junk (kernelRun.sl.Harg15_6 (F := F) i arg8 arg9 arg11 arg13 arg14 arg17 X_arg8 X_arg9 X_arg11)) (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) (arg18.view.writes (Elt F) arg18.view.junk (kernelRun.sl.Harg18_4 (F := F) i arg8 arg9 arg10 arg11 arg13 arg14 arg15 arg17 X_arg8 X_arg9 X_arg10 X_arg11)) B (fun _ _ => rfl) (fun _ _ => rfl) hq n14 n15 n16 n17 s_Harg18_4 2 (by decide)
  obtain ⟨k14, k15, -, k17, k18, k16⟩ := lp
  have l14 : ∀ y, slots arg14.view (arg14.view.writes (Elt F) arg14.view.junk ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun.sl.v129 i) (constant S144x1024 FTy.f32 0#32) X_arg9 X_arg10 (arg13.view.writes (Elt F) arg13.view.junk (kernelRun.sl.Harg13_4 (F := F) i arg8 X_arg8)) (arg14.view.writes (Elt F) arg14.view.junk (kernelRun.sl.Harg14_8 (F := F) i arg8 arg9 arg11 arg13 X_arg8 X_arg9 X_arg11)) (arg15.view.writes (Elt F) arg15.view.junk (kernelRun.sl.Harg15_6 (F := F) i arg8 arg9 arg11 arg13 arg14 arg17 X_arg8 X_arg9 X_arg11)) (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) (arg18.view.writes (Elt F) arg18.view.junk (kernelRun.sl.Harg18_4 (F := F) i arg8 arg9 arg10 arg11 arg13 arg14 arg15 arg17 X_arg8 X_arg9 X_arg10 X_arg11)) (Scf.trips k0_t1_loop.lb k0_t1_loop.ub k0_t1_loop.st)).1 ++ (kernelRun.sl.Harg14_8 (F := F) i arg8 arg9 arg11 arg13 X_arg8 X_arg9 X_arg11))) y 1 = B.S i 5 y := by
    intro y; rw [View.writes_append]; exact k14 y
  have l15 : ∀ y, slots arg15.view (arg15.view.writes (Elt F) arg15.view.junk ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun.sl.v129 i) (constant S144x1024 FTy.f32 0#32) X_arg9 X_arg10 (arg13.view.writes (Elt F) arg13.view.junk (kernelRun.sl.Harg13_4 (F := F) i arg8 X_arg8)) (arg14.view.writes (Elt F) arg14.view.junk (kernelRun.sl.Harg14_8 (F := F) i arg8 arg9 arg11 arg13 X_arg8 X_arg9 X_arg11)) (arg15.view.writes (Elt F) arg15.view.junk (kernelRun.sl.Harg15_6 (F := F) i arg8 arg9 arg11 arg13 arg14 arg17 X_arg8 X_arg9 X_arg11)) (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) (arg18.view.writes (Elt F) arg18.view.junk (kernelRun.sl.Harg18_4 (F := F) i arg8 arg9 arg10 arg11 arg13 arg14 arg15 arg17 X_arg8 X_arg9 X_arg10 X_arg11)) (Scf.trips k0_t1_loop.lb k0_t1_loop.ub k0_t1_loop.st)).2.1 ++ (kernelRun.sl.Harg15_6 (F := F) i arg8 arg9 arg11 arg13 arg14 arg17 X_arg8 X_arg9 X_arg11))) y 0 = B.P i 4 y := by
    intro y; rw [View.writes_append]; exact k15 y
  have l16 : ∀ y, slots arg16.view (arg16.view.writes (Elt F) arg16.view.junk ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun.sl.v129 i) (constant S144x1024 FTy.f32 0#32) X_arg9 X_arg10 (arg13.view.writes (Elt F) arg13.view.junk (kernelRun.sl.Harg13_4 (F := F) i arg8 X_arg8)) (arg14.view.writes (Elt F) arg14.view.junk (kernelRun.sl.Harg14_8 (F := F) i arg8 arg9 arg11 arg13 X_arg8 X_arg9 X_arg11)) (arg15.view.writes (Elt F) arg15.view.junk (kernelRun.sl.Harg15_6 (F := F) i arg8 arg9 arg11 arg13 arg14 arg17 X_arg8 X_arg9 X_arg11)) (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) (arg18.view.writes (Elt F) arg18.view.junk (kernelRun.sl.Harg18_4 (F := F) i arg8 arg9 arg10 arg11 arg13 arg14 arg15 arg17 X_arg8 X_arg9 X_arg10 X_arg11)) (Scf.trips k0_t1_loop.lb k0_t1_loop.ub k0_t1_loop.st)).2.2.1 ++ [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩])) y 0 = B.Al i 4 y := by
    intro y; rw [View.writes_append]; exact k16 (by decide) _ y
  have l17 : slots arg17.view (arg17.view.writes (Elt F) arg17.view.junk ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun.sl.v129 i) (constant S144x1024 FTy.f32 0#32) X_arg9 X_arg10 (arg13.view.writes (Elt F) arg13.view.junk (kernelRun.sl.Harg13_4 (F := F) i arg8 X_arg8)) (arg14.view.writes (Elt F) arg14.view.junk (kernelRun.sl.Harg14_8 (F := F) i arg8 arg9 arg11 arg13 X_arg8 X_arg9 X_arg11)) (arg15.view.writes (Elt F) arg15.view.junk (kernelRun.sl.Harg15_6 (F := F) i arg8 arg9 arg11 arg13 arg14 arg17 X_arg8 X_arg9 X_arg11)) (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) (arg18.view.writes (Elt F) arg18.view.junk (kernelRun.sl.Harg18_4 (F := F) i arg8 arg9 arg10 arg11 arg13 arg14 arg15 arg17 X_arg8 X_arg9 X_arg10 X_arg11)) (Scf.trips k0_t1_loop.lb k0_t1_loop.ub k0_t1_loop.st)).2.2.2.1 ++ (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11))) = B.M i 5 := by
    rw [View.writes_append]; exact k17
  have l18 : slots arg18.view (arg18.view.writes (Elt F) arg18.view.junk ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun.sl.v129 i) (constant S144x1024 FTy.f32 0#32) X_arg9 X_arg10 (arg13.view.writes (Elt F) arg13.view.junk (kernelRun.sl.Harg13_4 (F := F) i arg8 X_arg8)) (arg14.view.writes (Elt F) arg14.view.junk (kernelRun.sl.Harg14_8 (F := F) i arg8 arg9 arg11 arg13 X_arg8 X_arg9 X_arg11)) (arg15.view.writes (Elt F) arg15.view.junk (kernelRun.sl.Harg15_6 (F := F) i arg8 arg9 arg11 arg13 arg14 arg17 X_arg8 X_arg9 X_arg11)) (arg16.view.writes (Elt F) f_arg16 [⟨Rect.unit (s := S2x2x1x1024) ![1, 0, 0, 0] S1x1x1x1024.size inb_S2x2x1x1024_S1x1x1x1024_1_0_0_0, kernelRun.sl.v422 (F := F) i arg8 arg9 arg11 arg13 arg14 arg17 X_arg8 X_arg9 X_arg11⟩, ⟨Rect.unit (s := S2x2x1x1024) ![0, 0, 0, 0] S1x1x1x1024.size inb_S2x2x1x1024_S1x1x1x1024_0_0_0_0, kernelRun.sl.v396 (F := F) i arg8 arg9 arg11 arg13 arg14 arg17 X_arg8 X_arg9 X_arg11⟩]) (arg17.view.writes (Elt F) arg17.view.junk (⟨Rect.unit (s := S2x2x1x1024) (k0_off18 i 0#32) S1x1x1x1024.size (k0_off18_inb i 0), kernelRun.sl.v426 (F := F) i arg8 arg9 arg11 arg13 arg14 arg17 X_arg8 X_arg9 X_arg11⟩ :: kernelRun.sl.Harg17_5 (F := F) i arg8 arg9 arg11 arg13 arg14 arg17 X_arg8 X_arg9 X_arg11)) (arg18.view.writes (Elt F) arg18.view.junk (kernelRun.sl.Harg18_4 (F := F) i arg8 arg9 arg10 arg11 arg13 arg14 arg15 arg17 X_arg8 X_arg9 X_arg10 X_arg11)) (Scf.trips k0_t1_loop.lb k0_t1_loop.ub k0_t1_loop.st)).2.2.2.2 ++ (kernelRun.sl.Harg18_4 (F := F) i arg8 arg9 arg10 arg11 arg13 arg14 arg15 arg17 X_arg8 X_arg9 X_arg10 X_arg11))) = B.A i 4 := by
    rw [View.writes_append]; exact k18
  have e_v470 : (kernelRun.sl.v470 (F := F) i arg8 arg9 arg13 X_arg8 X_arg9) = B.S i 6 0 := by
    unfold kernelRun.sl.v470 kernelRun.sl.v467 kernelRun.sl.v466 kernelRun.sl.v465 kernelRun.sl.v463 kernelRun.sl.cst_364
    rw [cov_read_128 arg13.view _ (0 : Fin 2) (xf i 6) (off := k0_off12 i 6#32) (k0_off12_inb i 2) (cf12_6 i), hq, kAt_read arg9.view _ 0 (tl i 6) (off := k0_off11 i 6#32 6#32) (k0_off11_inb i 2) (cf11_6 i)]; rfl
  have e_v482 : (kernelRun.sl.v482 (F := F) i arg8 arg9 arg13 X_arg8 X_arg9) = B.S i 6 1 := by
    unfold kernelRun.sl.v482 kernelRun.sl.v479 kernelRun.sl.v478 kernelRun.sl.v477 kernelRun.sl.v475 kernelRun.sl.cst_364
    rw [cov_read_128 arg13.view _ (1 : Fin 2) (xf i 6) (off := k0_off14 i 6#32) (k0_off14_inb i 2) (cf14_6 i), hq, kAt_read arg9.view _ 1 (tl i 6) (off := k0_off13 i 6#32 6#32) (k0_off13_inb i 2) (cf13_6 i)]; rfl
  have r_Harg14_2_1_01 : slots arg14.view (arg14.view.writes (Elt F) arg14.view.junk (kernelRun.sl.Harg14_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 1 = B.S i 5 0 := by
    unfold kernelRun.sl.Harg14_2_1 kernelRun.sl.Harg14_1; rw [slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_ne _ _ _ _ _ _ (by decide), l14]
  have e_v497 : (kernelRun.sl.v497 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.Al i 5 0 := by
    unfold kernelRun.sl.v497 kernelRun.sl.v494 kernelRun.sl.v493 kernelRun.sl.v492 kernelRun.sl.v491 kernelRun.sl.v490 kernelRun.sl.v488 kernelRun.sl.v487 kernelRun.sl.v486 kernelRun.sl.v485
    rw [slots_read_1 arg17.view _ (0 : Fin 2) (xf i 5) (off := k0_off17 i 5#32) (k0_off17_inb i 1) (cf17_5 i), l17, cov_read_512 arg14.view _ (0 : Fin 2) (1 : Fin 2) (off := ![0, 1, 0, 0]) _ rfl, r_Harg14_2_1_01]; rfl
  have e_v501 : (kernelRun.sl.v501 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = maxS (B.M i 5 0 (xf i 5)) (B.S i 5 0) := by
    unfold kernelRun.sl.v501 kernelRun.sl.v492 kernelRun.sl.v491 kernelRun.sl.v490 kernelRun.sl.v488 kernelRun.sl.v487 kernelRun.sl.v486 kernelRun.sl.v485
    rw [slots_read_1 arg17.view _ (0 : Fin 2) (xf i 5) (off := k0_off17 i 5#32) (k0_off17_inb i 1) (cf17_5 i), l17, cov_read_512 arg14.view _ (0 : Fin 2) (1 : Fin 2) (off := ![0, 1, 0, 0]) _ rfl, r_Harg14_2_1_01]; rfl
  have e_v510 : (kernelRun.sl.v510 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.P i 5 0 := by
    unfold kernelRun.sl.v510 kernelRun.sl.v507 kernelRun.sl.v506 kernelRun.sl.v505 kernelRun.sl.v504 kernelRun.sl.v492 kernelRun.sl.v491 kernelRun.sl.v490 kernelRun.sl.v488 kernelRun.sl.v487 kernelRun.sl.v486 kernelRun.sl.v485
    rw [slots_read_1 arg17.view _ (0 : Fin 2) (xf i 5) (off := k0_off17 i 5#32) (k0_off17_inb i 1) (cf17_5 i), l17, cov_read_512 arg14.view _ (0 : Fin 2) (1 : Fin 2) (off := ![0, 1, 0, 0]) _ rfl, r_Harg14_2_1_01]; rfl
  have s_Harg17_1 : slots arg17.view (arg17.view.writes (Elt F) arg17.view.junk (kernelRun.sl.Harg17_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 (xf i 5) = B.M i 5 1 (xf i 5) := by
    unfold kernelRun.sl.Harg17_1; rw [slots_cons_1 arg17.view _ (0 : Fin 2) (xf i 5) (off := k0_off17 i 5#32) (k0_off17_inb i 1) (cf17_5 i), upd_ne _ _ _ _ _ _ (Or.inl (by decide)), l17]
  have r_Harg14_2_1_11 : slots arg14.view (arg14.view.writes (Elt F) arg14.view.junk (kernelRun.sl.Harg14_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 1 = B.S i 5 1 := by
    unfold kernelRun.sl.Harg14_2_1 kernelRun.sl.Harg14_1; rw [slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_ne _ _ _ _ _ _ (by decide), l14]
  have e_v523 : (kernelRun.sl.v523 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.Al i 5 1 := by
    unfold kernelRun.sl.v523 kernelRun.sl.v520 kernelRun.sl.v519 kernelRun.sl.v518 kernelRun.sl.v517 kernelRun.sl.v514 kernelRun.sl.v513 kernelRun.sl.v512 kernelRun.sl.v511
    rw [slots_read_1 arg17.view _ (1 : Fin 2) (xf i 5) (off := k0_off18 i 5#32) (k0_off18_inb i 1) (cf18_5 i), s_Harg17_1, cov_read_512 arg14.view _ (1 : Fin 2) (1 : Fin 2) (off := ![1, 1, 0, 0]) _ rfl, r_Harg14_2_1_11]; rfl
  have e_v527 : (kernelRun.sl.v527 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = maxS (B.M i 5 1 (xf i 5)) (B.S i 5 1) := by
    unfold kernelRun.sl.v527 kernelRun.sl.v518 kernelRun.sl.v517 kernelRun.sl.v514 kernelRun.sl.v513 kernelRun.sl.v512 kernelRun.sl.v511
    rw [slots_read_1 arg17.view _ (1 : Fin 2) (xf i 5) (off := k0_off18 i 5#32) (k0_off18_inb i 1) (cf18_5 i), s_Harg17_1, cov_read_512 arg14.view _ (1 : Fin 2) (1 : Fin 2) (off := ![1, 1, 0, 0]) _ rfl, r_Harg14_2_1_11]; rfl
  have e_v536 : (kernelRun.sl.v536 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.P i 5 1 := by
    unfold kernelRun.sl.v536 kernelRun.sl.v533 kernelRun.sl.v532 kernelRun.sl.v531 kernelRun.sl.v530 kernelRun.sl.v518 kernelRun.sl.v517 kernelRun.sl.v514 kernelRun.sl.v513 kernelRun.sl.v512 kernelRun.sl.v511
    rw [slots_read_1 arg17.view _ (1 : Fin 2) (xf i 5) (off := k0_off18 i 5#32) (k0_off18_inb i 1) (cf18_5 i), s_Harg17_1, cov_read_512 arg14.view _ (1 : Fin 2) (1 : Fin 2) (off := ![1, 1, 0, 0]) _ rfl, r_Harg14_2_1_11]; rfl
  have r_Harg16_2_00 : slots arg16.view (arg16.view.writes (Elt F) arg16.view.junk (kernelRun.sl.Harg16_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 0 = B.Al i 4 0 := by
    unfold kernelRun.sl.Harg16_2 kernelRun.sl.Harg16_1; rw [slots_cons_1 arg16.view _ (1 : Fin 2) (1 : Fin 2) (off := ![1, 1, 0, 0]) _ rfl, upd_ne _ _ _ _ _ _ (by decide), slots_cons_1 arg16.view _ (0 : Fin 2) (1 : Fin 2) (off := ![0, 1, 0, 0]) _ rfl, upd_ne _ _ _ _ _ _ (by decide), l16]
  have r_Harg15_2_00 : slots arg15.view (arg15.view.writes (Elt F) arg15.view.junk (kernelRun.sl.Harg15_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 0 = B.P i 4 0 := by
    unfold kernelRun.sl.Harg15_2 kernelRun.sl.Harg15_1; rw [slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_ne _ _ _ _ _ _ (by decide), l15]
  have e_v558 : (kernelRun.sl.v558 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = accS (B.v 0 (tl i 4)) (B.P i 4 0) (B.Al i 4 0) (B.A i 4 0 (xf i 4)) := by
    unfold kernelRun.sl.v558 kernelRun.sl.v554 kernelRun.sl.v553 kernelRun.sl.v552 kernelRun.sl.v551 kernelRun.sl.v550 kernelRun.sl.v548 kernelRun.sl.v547 kernelRun.sl.v546 kernelRun.sl.v545 kernelRun.sl.v544 kernelRun.sl.v543 kernelRun.sl.cst_439
    rw [slots_read_144 arg18.view _ (0 : Fin 2) (xf i 4) (off := k0_off32 i 4#32) (k0_off32_inb i 0) (cf32_4 i), l18, cov_read_1 arg16.view _ (0 : Fin 2) (0 : Fin 2) (off := ![0, 0, 0, 0]) _ rfl, r_Harg16_2_00, cov_read_512 arg15.view _ (0 : Fin 2) (0 : Fin 2) (off := ![0, 0, 0, 0]) _ rfl, r_Harg15_2_00, vAt_read arg10.view _ 0 (tl i 4) (off := k0_off31 i 4#32 4#32) (k0_off31_inb i 0) (cf31_4 i)]; rfl
  have s_Harg18_1 : slots arg18.view (arg18.view.writes (Elt F) arg18.view.junk (kernelRun.sl.Harg18_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 (xf i 4) = B.A i 4 1 (xf i 4) := by
    unfold kernelRun.sl.Harg18_1; rw [slots_cons_144 arg18.view _ (0 : Fin 2) (xf i 4) (off := k0_off32 i 4#32) (k0_off32_inb i 0) (cf32_4 i), upd_ne _ _ _ _ _ _ (Or.inl (by decide)), l18]
  have r_Harg16_2_10 : slots arg16.view (arg16.view.writes (Elt F) arg16.view.junk (kernelRun.sl.Harg16_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 0 = B.Al i 4 1 := by
    unfold kernelRun.sl.Harg16_2 kernelRun.sl.Harg16_1; rw [slots_cons_1 arg16.view _ (1 : Fin 2) (1 : Fin 2) (off := ![1, 1, 0, 0]) _ rfl, upd_ne _ _ _ _ _ _ (by decide), slots_cons_1 arg16.view _ (0 : Fin 2) (1 : Fin 2) (off := ![0, 1, 0, 0]) _ rfl, upd_ne _ _ _ _ _ _ (by decide), l16]
  have r_Harg15_2_10 : slots arg15.view (arg15.view.writes (Elt F) arg15.view.junk (kernelRun.sl.Harg15_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 0 = B.P i 4 1 := by
    unfold kernelRun.sl.Harg15_2 kernelRun.sl.Harg15_1; rw [slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_ne _ _ _ _ _ _ (by decide), l15]
  have e_v576 : (kernelRun.sl.v576 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = accS (B.v 1 (tl i 4)) (B.P i 4 1) (B.Al i 4 1) (B.A i 4 1 (xf i 4)) := by
    unfold kernelRun.sl.v576 kernelRun.sl.v572 kernelRun.sl.v571 kernelRun.sl.v570 kernelRun.sl.v569 kernelRun.sl.v566 kernelRun.sl.v565 kernelRun.sl.v564 kernelRun.sl.v563 kernelRun.sl.v562 kernelRun.sl.v561 kernelRun.sl.cst_439
    rw [slots_read_144 arg18.view _ (1 : Fin 2) (xf i 4) (off := k0_off34 i 4#32) (k0_off34_inb i 0) (cf34_4 i), s_Harg18_1, cov_read_1 arg16.view _ (1 : Fin 2) (0 : Fin 2) (off := ![1, 0, 0, 0]) _ rfl, r_Harg16_2_10, cov_read_512 arg15.view _ (1 : Fin 2) (0 : Fin 2) (off := ![1, 0, 0, 0]) _ rfl, r_Harg15_2_10, vAt_read arg10.view _ 1 (tl i 4) (off := k0_off33 i 4#32 4#32) (k0_off33_inb i 0) (cf33_4 i)]; rfl
  have s_Harg18_2 : slots arg18.view (arg18.view.writes (Elt F) arg18.view.junk (kernelRun.sl.Harg18_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) = B.A i 5 := by
    unfold kernelRun.sl.Harg18_2 kernelRun.sl.Harg18_1; rw [slots_cons_144 arg18.view _ (1 : Fin 2) (xf i 4) (off := k0_off34 i 4#32) (k0_off34_inb i 0) (cf34_4 i), slots_cons_144 arg18.view _ (0 : Fin 2) (xf i 4) (off := k0_off32 i 4#32) (k0_off32_inb i 0) (cf32_4 i), l18, e_v576, e_v558]; exact B.A_succ i 4
  have r_Harg16_2_01 : slots arg16.view (arg16.view.writes (Elt F) arg16.view.junk (kernelRun.sl.Harg16_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 1 = B.Al i 5 0 := by
    unfold kernelRun.sl.Harg16_2 kernelRun.sl.Harg16_1; rw [slots_cons_1 arg16.view _ (1 : Fin 2) (1 : Fin 2) (off := ![1, 1, 0, 0]) _ rfl, upd_ne _ _ _ _ _ _ (by decide), slots_cons_1 arg16.view _ (0 : Fin 2) (1 : Fin 2) (off := ![0, 1, 0, 0]) _ rfl, upd_same, e_v497]
  have r_Harg15_2_01 : slots arg15.view (arg15.view.writes (Elt F) arg15.view.junk (kernelRun.sl.Harg15_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 1 = B.P i 5 0 := by
    unfold kernelRun.sl.Harg15_2 kernelRun.sl.Harg15_1; rw [slots_cons_512 arg15.view _ (1 : Fin 2) (1 : Fin 2) (off := ![1, 1, 0, 0]) _ rfl, upd_ne _ _ _ _ _ _ (by decide), slots_cons_512 arg15.view _ (0 : Fin 2) (1 : Fin 2) (off := ![0, 1, 0, 0]) _ rfl, upd_same, e_v510]
  have e_v598 : (kernelRun.sl.v598 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = accS (B.v 0 (tl i 5)) (B.P i 5 0) (B.Al i 5 0) (B.A i 5 0 (xf i 5)) := by
    unfold kernelRun.sl.v598 kernelRun.sl.v594 kernelRun.sl.v593 kernelRun.sl.v592 kernelRun.sl.v591 kernelRun.sl.v590 kernelRun.sl.v588 kernelRun.sl.v587 kernelRun.sl.v586 kernelRun.sl.v585 kernelRun.sl.v584 kernelRun.sl.v583 kernelRun.sl.cst_439
    rw [cov_read_144 arg18.view _ (0 : Fin 2) (xf i 5) (off := k0_off32 i 5#32) (k0_off32_inb i 1) (cf32_5 i), s_Harg18_2, cov_read_1 arg16.view _ (0 : Fin 2) (1 : Fin 2) (off := ![0, 1, 0, 0]) _ rfl, r_Harg16_2_01, cov_read_512 arg15.view _ (0 : Fin 2) (1 : Fin 2) (off := ![0, 1, 0, 0]) _ rfl, r_Harg15_2_01, vAt_read arg10.view _ 0 (tl i 5) (off := k0_off31 i 5#32 5#32) (k0_off31_inb i 1) (cf31_5 i)]; rfl
  have s_Harg18_3 : slots arg18.view (arg18.view.writes (Elt F) arg18.view.junk (kernelRun.sl.Harg18_3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 (xf i 5) = B.A i 5 1 (xf i 5) := by
    unfold kernelRun.sl.Harg18_3; rw [slots_cons_144 arg18.view _ (0 : Fin 2) (xf i 5) (off := k0_off32 i 5#32) (k0_off32_inb i 1) (cf32_5 i), upd_ne _ _ _ _ _ _ (Or.inl (by decide)), s_Harg18_2]
  have r_Harg16_2_11 : slots arg16.view (arg16.view.writes (Elt F) arg16.view.junk (kernelRun.sl.Harg16_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 1 = B.Al i 5 1 := by
    unfold kernelRun.sl.Harg16_2; rw [slots_cons_1 arg16.view _ (1 : Fin 2) (1 : Fin 2) (off := ![1, 1, 0, 0]) _ rfl, upd_same, e_v523]
  have r_Harg15_2_11 : slots arg15.view (arg15.view.writes (Elt F) arg15.view.junk (kernelRun.sl.Harg15_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 1 = B.P i 5 1 := by
    unfold kernelRun.sl.Harg15_2; rw [slots_cons_512 arg15.view _ (1 : Fin 2) (1 : Fin 2) (off := ![1, 1, 0, 0]) _ rfl, upd_same, e_v536]
  have e_v616 : (kernelRun.sl.v616 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = accS (B.v 1 (tl i 5)) (B.P i 5 1) (B.Al i 5 1) (B.A i 5 1 (xf i 5)) := by
    unfold kernelRun.sl.v616 kernelRun.sl.v612 kernelRun.sl.v611 kernelRun.sl.v610 kernelRun.sl.v609 kernelRun.sl.v608 kernelRun.sl.v606 kernelRun.sl.v605 kernelRun.sl.v604 kernelRun.sl.v603 kernelRun.sl.v602 kernelRun.sl.v601 kernelRun.sl.cst_439
    rw [cov_read_144 arg18.view _ (1 : Fin 2) (xf i 5) (off := k0_off34 i 5#32) (k0_off34_inb i 1) (cf34_5 i), s_Harg18_3, cov_read_1 arg16.view _ (1 : Fin 2) (1 : Fin 2) (off := ![1, 1, 0, 0]) _ rfl, r_Harg16_2_11, cov_read_512 arg15.view _ (1 : Fin 2) (1 : Fin 2) (off := ![1, 1, 0, 0]) _ rfl, r_Harg15_2_11, vAt_read arg10.view _ 1 (tl i 5) (off := k0_off33 i 5#32 5#32) (k0_off33_inb i 1) (cf33_5 i)]; rfl
  have s_Harg17_2 : slots arg17.view (arg17.view.writes (Elt F) arg17.view.junk (kernelRun.sl.Harg17_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) = B.M i 6 := by
    unfold kernelRun.sl.Harg17_2 kernelRun.sl.Harg17_1; rw [slots_cons_1 arg17.view _ (1 : Fin 2) (xf i 5) (off := k0_off18 i 5#32) (k0_off18_inb i 1) (cf18_5 i), slots_cons_1 arg17.view _ (0 : Fin 2) (xf i 5) (off := k0_off17 i 5#32) (k0_off17_inb i 1) (cf17_5 i), l17, e_v527, e_v501]; exact B.M_succ i 5
  have r_Harg14_2_1_00 : slots arg14.view (arg14.view.writes (Elt F) arg14.view.junk (kernelRun.sl.Harg14_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 0 = B.S i 6 0 := by
    unfold kernelRun.sl.Harg14_2_1 kernelRun.sl.Harg14_1; rw [slots_cons_512 arg14.view _ (1 : Fin 2) (0 : Fin 2) (off := ![1, 0, 0, 0]) _ rfl, upd_ne _ _ _ _ _ _ (by decide), slots_cons_512 arg14.view _ (0 : Fin 2) (0 : Fin 2) (off := ![0, 0, 0, 0]) _ rfl, upd_same, e_v470]
  have e_v631 : (kernelRun.sl.v631 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.Al i 6 0 := by
    unfold kernelRun.sl.v631 kernelRun.sl.v628 kernelRun.sl.v627 kernelRun.sl.v626 kernelRun.sl.v625 kernelRun.sl.v624 kernelRun.sl.v622 kernelRun.sl.v621 kernelRun.sl.v620 kernelRun.sl.v619
    rw [cov_read_1 arg17.view _ (0 : Fin 2) (xf i 6) (off := k0_off17 i 6#32) (k0_off17_inb i 2) (cf17_6 i), s_Harg17_2, cov_read_512 arg14.view _ (0 : Fin 2) (0 : Fin 2) (off := ![0, 0, 0, 0]) _ rfl, r_Harg14_2_1_00]; rfl
  have e_v635 : (kernelRun.sl.v635 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = maxS (B.M i 6 0 (xf i 6)) (B.S i 6 0) := by
    unfold kernelRun.sl.v635 kernelRun.sl.v626 kernelRun.sl.v625 kernelRun.sl.v624 kernelRun.sl.v622 kernelRun.sl.v621 kernelRun.sl.v620 kernelRun.sl.v619
    rw [cov_read_1 arg17.view _ (0 : Fin 2) (xf i 6) (off := k0_off17 i 6#32) (k0_off17_inb i 2) (cf17_6 i), s_Harg17_2, cov_read_512 arg14.view _ (0 : Fin 2) (0 : Fin 2) (off := ![0, 0, 0, 0]) _ rfl, r_Harg14_2_1_00]; rfl
  have e_v644 : (kernelRun.sl.v644 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.P i 6 0 := by
    unfold kernelRun.sl.v644 kernelRun.sl.v641 kernelRun.sl.v640 kernelRun.sl.v639 kernelRun.sl.v638 kernelRun.sl.v626 kernelRun.sl.v625 kernelRun.sl.v624 kernelRun.sl.v622 kernelRun.sl.v621 kernelRun.sl.v620 kernelRun.sl.v619
    rw [cov_read_1 arg17.view _ (0 : Fin 2) (xf i 6) (off := k0_off17 i 6#32) (k0_off17_inb i 2) (cf17_6 i), s_Harg17_2, cov_read_512 arg14.view _ (0 : Fin 2) (0 : Fin 2) (off := ![0, 0, 0, 0]) _ rfl, r_Harg14_2_1_00]; rfl
  have s_Harg17_3 : slots arg17.view (arg17.view.writes (Elt F) arg17.view.junk (kernelRun.sl.Harg17_3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 (xf i 6) = B.M i 6 1 (xf i 6) := by
    unfold kernelRun.sl.Harg17_3; rw [slots_cons_1 arg17.view _ (0 : Fin 2) (xf i 6) (off := k0_off17 i 6#32) (k0_off17_inb i 2) (cf17_6 i), upd_ne _ _ _ _ _ _ (Or.inl (by decide)), s_Harg17_2]
  have r_Harg14_2_1_10 : slots arg14.view (arg14.view.writes (Elt F) arg14.view.junk (kernelRun.sl.Harg14_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 0 = B.S i 6 1 := by
    unfold kernelRun.sl.Harg14_2_1; rw [slots_cons_512 arg14.view _ (1 : Fin 2) (0 : Fin 2) (off := ![1, 0, 0, 0]) _ rfl, upd_same, e_v482]
  have e_v657 : (kernelRun.sl.v657 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.Al i 6 1 := by
    unfold kernelRun.sl.v657 kernelRun.sl.v654 kernelRun.sl.v653 kernelRun.sl.v652 kernelRun.sl.v651 kernelRun.sl.v650 kernelRun.sl.v648 kernelRun.sl.v647 kernelRun.sl.v646 kernelRun.sl.v645
    rw [cov_read_1 arg17.view _ (1 : Fin 2) (xf i 6) (off := k0_off18 i 6#32) (k0_off18_inb i 2) (cf18_6 i), s_Harg17_3, cov_read_512 arg14.view _ (1 : Fin 2) (0 : Fin 2) (off := ![1, 0, 0, 0]) _ rfl, r_Harg14_2_1_10]; rfl
  have e_v661 : (kernelRun.sl.v661 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = maxS (B.M i 6 1 (xf i 6)) (B.S i 6 1) := by
    unfold kernelRun.sl.v661 kernelRun.sl.v652 kernelRun.sl.v651 kernelRun.sl.v650 kernelRun.sl.v648 kernelRun.sl.v647 kernelRun.sl.v646 kernelRun.sl.v645
    rw [cov_read_1 arg17.view _ (1 : Fin 2) (xf i 6) (off := k0_off18 i 6#32) (k0_off18_inb i 2) (cf18_6 i), s_Harg17_3, cov_read_512 arg14.view _ (1 : Fin 2) (0 : Fin 2) (off := ![1, 0, 0, 0]) _ rfl, r_Harg14_2_1_10]; rfl
  have e_v670 : (kernelRun.sl.v670 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = B.P i 6 1 := by
    unfold kernelRun.sl.v670 kernelRun.sl.v667 kernelRun.sl.v666 kernelRun.sl.v665 kernelRun.sl.v664 kernelRun.sl.v652 kernelRun.sl.v651 kernelRun.sl.v650 kernelRun.sl.v648 kernelRun.sl.v647 kernelRun.sl.v646 kernelRun.sl.v645
    rw [cov_read_1 arg17.view _ (1 : Fin 2) (xf i 6) (off := k0_off18 i 6#32) (k0_off18_inb i 2) (cf18_6 i), s_Harg17_3, cov_read_512 arg14.view _ (1 : Fin 2) (0 : Fin 2) (off := ![1, 0, 0, 0]) _ rfl, r_Harg14_2_1_10]; rfl
  have s_Harg18_4_1 : slots arg18.view (arg18.view.writes (Elt F) arg18.view.junk (kernelRun.sl.Harg18_4_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) = B.A i 6 := by
    unfold kernelRun.sl.Harg18_4_1 kernelRun.sl.Harg18_3; rw [slots_cons_144 arg18.view _ (1 : Fin 2) (xf i 5) (off := k0_off34 i 5#32) (k0_off34_inb i 1) (cf34_5 i), slots_cons_144 arg18.view _ (0 : Fin 2) (xf i 5) (off := k0_off32 i 5#32) (k0_off32_inb i 1) (cf32_5 i), s_Harg18_2, e_v616, e_v598]; exact B.A_succ i 5
  have r_Harg16_4_00 : slots arg16.view (arg16.view.writes (Elt F) arg16.view.junk (kernelRun.sl.Harg16_4 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 0 = B.Al i 6 0 := by
    unfold kernelRun.sl.Harg16_4 kernelRun.sl.Harg16_3; rw [slots_cons_1 arg16.view _ (1 : Fin 2) (0 : Fin 2) (off := ![1, 0, 0, 0]) _ rfl, upd_ne _ _ _ _ _ _ (by decide), slots_cons_1 arg16.view _ (0 : Fin 2) (0 : Fin 2) (off := ![0, 0, 0, 0]) _ rfl, upd_same, e_v631]
  have r_Harg15_4_1_00 : slots arg15.view (arg15.view.writes (Elt F) arg15.view.junk (kernelRun.sl.Harg15_4_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 0 0 = B.P i 6 0 := by
    unfold kernelRun.sl.Harg15_4_1 kernelRun.sl.Harg15_3; rw [slots_cons_512 arg15.view _ (1 : Fin 2) (0 : Fin 2) (off := ![1, 0, 0, 0]) _ rfl, upd_ne _ _ _ _ _ _ (by decide), slots_cons_512 arg15.view _ (0 : Fin 2) (0 : Fin 2) (off := ![0, 0, 0, 0]) _ rfl, upd_same, e_v644]
  have e_v692 : (kernelRun.sl.v692 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = accS (B.v 0 (tl i 6)) (B.P i 6 0) (B.Al i 6 0) (B.A i 6 0 (xf i 6)) := by
    unfold kernelRun.sl.v692 kernelRun.sl.v688 kernelRun.sl.v687 kernelRun.sl.v686 kernelRun.sl.v685 kernelRun.sl.v684 kernelRun.sl.v682 kernelRun.sl.v681 kernelRun.sl.v680 kernelRun.sl.v679 kernelRun.sl.v678 kernelRun.sl.v677 kernelRun.sl.cst_439
    rw [cov_read_144 arg18.view _ (0 : Fin 2) (xf i 6) (off := k0_off32 i 6#32) (k0_off32_inb i 2) (cf32_6 i), s_Harg18_4_1, cov_read_1 arg16.view _ (0 : Fin 2) (0 : Fin 2) (off := ![0, 0, 0, 0]) _ rfl, r_Harg16_4_00, cov_read_512 arg15.view _ (0 : Fin 2) (0 : Fin 2) (off := ![0, 0, 0, 0]) _ rfl, r_Harg15_4_1_00, vAt_read arg10.view _ 0 (tl i 6) (off := k0_off31 i 6#32 6#32) (k0_off31_inb i 2) (cf31_6 i)]; rfl
  have s_Harg18_5 : slots arg18.view (arg18.view.writes (Elt F) arg18.view.junk (kernelRun.sl.Harg18_5 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 (xf i 6) = B.A i 6 1 (xf i 6) := by
    unfold kernelRun.sl.Harg18_5; rw [slots_cons_144 arg18.view _ (0 : Fin 2) (xf i 6) (off := k0_off32 i 6#32) (k0_off32_inb i 2) (cf32_6 i), upd_ne _ _ _ _ _ _ (Or.inl (by decide)), s_Harg18_4_1]
  have r_Harg16_4_10 : slots arg16.view (arg16.view.writes (Elt F) arg16.view.junk (kernelRun.sl.Harg16_4 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 0 = B.Al i 6 1 := by
    unfold kernelRun.sl.Harg16_4; rw [slots_cons_1 arg16.view _ (1 : Fin 2) (0 : Fin 2) (off := ![1, 0, 0, 0]) _ rfl, upd_same, e_v657]
  have r_Harg15_4_1_10 : slots arg15.view (arg15.view.writes (Elt F) arg15.view.junk (kernelRun.sl.Harg15_4_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) 1 0 = B.P i 6 1 := by
    unfold kernelRun.sl.Harg15_4_1; rw [slots_cons_512 arg15.view _ (1 : Fin 2) (0 : Fin 2) (off := ![1, 0, 0, 0]) _ rfl, upd_same, e_v670]
  have e_v710 : (kernelRun.sl.v710 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16) = accS (B.v 1 (tl i 6)) (B.P i 6 1) (B.Al i 6 1) (B.A i 6 1 (xf i 6)) := by
    unfold kernelRun.sl.v710 kernelRun.sl.v706 kernelRun.sl.v705 kernelRun.sl.v704 kernelRun.sl.v703 kernelRun.sl.v702 kernelRun.sl.v700 kernelRun.sl.v699 kernelRun.sl.v698 kernelRun.sl.v697 kernelRun.sl.v696 kernelRun.sl.v695 kernelRun.sl.cst_439
    rw [cov_read_144 arg18.view _ (1 : Fin 2) (xf i 6) (off := k0_off34 i 6#32) (k0_off34_inb i 2) (cf34_6 i), s_Harg18_5, cov_read_1 arg16.view _ (1 : Fin 2) (0 : Fin 2) (off := ![1, 0, 0, 0]) _ rfl, r_Harg16_4_10, cov_read_512 arg15.view _ (1 : Fin 2) (0 : Fin 2) (off := ![1, 0, 0, 0]) _ rfl, r_Harg15_4_1_10, vAt_read arg10.view _ 1 (tl i 6) (off := k0_off33 i 6#32 6#32) (k0_off33_inb i 2) (cf33_6 i)]; rfl
  have s_Harg18_6 : slots arg18.view (arg18.view.writes (Elt F) arg18.view.junk (kernelRun.sl.Harg18_6 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg8 X_arg9 X_arg10 X_arg11 f_arg16)) = B.A i 7 := by
    unfold kernelRun.sl.Harg18_6 kernelRun.sl.Harg18_5; rw [slots_cons_144 arg18.view _ (1 : Fin 2) (xf i 6) (off := k0_off34 i 6#32) (k0_off34_inb i 2) (cf34_6 i), slots_cons_144 arg18.view _ (0 : Fin 2) (xf i 6) (off := k0_off32 i 6#32) (k0_off32_inb i 2) (cf32_6 i), s_Harg18_4_1, e_v710, e_v692]; exact B.A_succ i 6
  have e_v745 : (kernelRun.sl.v745 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg3 X_arg4 X_arg5 X_arg6 X_arg7 X_arg8 X_arg9 X_arg10 X_arg11 f_arg16) = finO (k0_pay33 (View.readAt (Elt F) arg3.view (Rect.unit (s := S1x64) ![0, 0] S1x64.size inb_S1x64_S1x64_0_0).toLoadRect X_arg3) (View.readAt (Elt F) arg4.view (Rect.unit (s := S1x64) ![0, 0] S1x64.size inb_S1x64_S1x64_0_0).toLoadRect X_arg4) (View.readAt (Elt F) arg5.view (Rect.unit (s := S1x64) ![0, 0] S1x64.size inb_S1x64_S1x64_0_0).toLoadRect X_arg5) (View.readAt (Elt F) arg6.view (Rect.unit (s := S1x64) ![0, 0] S1x64.size inb_S1x64_S1x64_0_0).toLoadRect X_arg6)) (View.readAt (Elt F) arg7.view (Rect.unit (s := S128x1) ![0, 0] S128x1.size inb_S128x1_S128x1_0_0).toLoadRect X_arg7) (B.A i 7 0 0) := by
    unfold kernelRun.sl.v745 kernelRun.sl.v739 kernelRun.sl.v738 kernelRun.sl.v737 kernelRun.sl.v736 kernelRun.sl.v735 kernelRun.sl.v734 kernelRun.sl.v733 kernelRun.sl.v731 kernelRun.sl.v730 kernelRun.sl.v729 kernelRun.sl.v728 kernelRun.sl.v727 kernelRun.sl.v726 kernelRun.sl.v725 kernelRun.sl.v724 kernelRun.sl.v723 kernelRun.sl.v722 kernelRun.sl.v721 kernelRun.sl.v720 kernelRun.sl.v719 kernelRun.sl.v718 kernelRun.sl.v717 kernelRun.sl.v716 kernelRun.sl.v715 kernelRun.sl.v714 kernelRun.sl.v713 kernelRun.sl.v712 kernelRun.sl.v711 kernelRun.sl.r kernelRun.sl.cst_611 kernelRun.sl.cst_608 kernelRun.sl.cst_607
    rw [cov_read_144 arg18.view _ (0 : Fin 2) (0 : Fin 2) (off := ![0, 0, 0, 0]) _ rfl, s_Harg18_6]; rfl
  have e_v780 : (kernelRun.sl.v780 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg3 X_arg4 X_arg5 X_arg6 X_arg7 X_arg8 X_arg9 X_arg10 X_arg11 f_arg16) = finO (k0_pay33 (View.readAt (Elt F) arg3.view (Rect.unit (s := S1x64) ![0, 0] S1x64.size inb_S1x64_S1x64_0_0).toLoadRect X_arg3) (View.readAt (Elt F) arg4.view (Rect.unit (s := S1x64) ![0, 0] S1x64.size inb_S1x64_S1x64_0_0).toLoadRect X_arg4) (View.readAt (Elt F) arg5.view (Rect.unit (s := S1x64) ![0, 0] S1x64.size inb_S1x64_S1x64_0_0).toLoadRect X_arg5) (View.readAt (Elt F) arg6.view (Rect.unit (s := S1x64) ![0, 0] S1x64.size inb_S1x64_S1x64_0_0).toLoadRect X_arg6)) (View.readAt (Elt F) arg7.view (Rect.unit (s := S128x1) ![0, 0] S128x1.size inb_S128x1_S128x1_0_0).toLoadRect X_arg7) (B.A i 7 0 1) := by
    unfold kernelRun.sl.v780 kernelRun.sl.v774 kernelRun.sl.v773 kernelRun.sl.v772 kernelRun.sl.v770 kernelRun.sl.v766 kernelRun.sl.v765 kernelRun.sl.v764 kernelRun.sl.v763 kernelRun.sl.v761 kernelRun.sl.v759 kernelRun.sl.v758 kernelRun.sl.v757 kernelRun.sl.v756 kernelRun.sl.v755 kernelRun.sl.v753 kernelRun.sl.v752 kernelRun.sl.v751 kernelRun.sl.v750 kernelRun.sl.v749 kernelRun.sl.v748 kernelRun.sl.v747 kernelRun.sl.v746 kernelRun.sl.v736 kernelRun.sl.v734 kernelRun.sl.v733 kernelRun.sl.v727 kernelRun.sl.v725 kernelRun.sl.v719 kernelRun.sl.r kernelRun.sl.cst_611 kernelRun.sl.cst_608 kernelRun.sl.cst_607
    rw [cov_read_144 arg18.view _ (0 : Fin 2) (1 : Fin 2) (off := ![0, 1, 0, 0]) _ rfl, s_Harg18_6]; rfl
  have e_v815 : (kernelRun.sl.v815 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg3 X_arg4 X_arg5 X_arg6 X_arg7 X_arg8 X_arg9 X_arg10 X_arg11 f_arg16) = finO (k0_pay33 (View.readAt (Elt F) arg3.view (Rect.unit (s := S1x64) ![0, 0] S1x64.size inb_S1x64_S1x64_0_0).toLoadRect X_arg3) (View.readAt (Elt F) arg4.view (Rect.unit (s := S1x64) ![0, 0] S1x64.size inb_S1x64_S1x64_0_0).toLoadRect X_arg4) (View.readAt (Elt F) arg5.view (Rect.unit (s := S1x64) ![0, 0] S1x64.size inb_S1x64_S1x64_0_0).toLoadRect X_arg5) (View.readAt (Elt F) arg6.view (Rect.unit (s := S1x64) ![0, 0] S1x64.size inb_S1x64_S1x64_0_0).toLoadRect X_arg6)) (View.readAt (Elt F) arg7.view (Rect.unit (s := S128x1) ![0, 0] S128x1.size inb_S128x1_S128x1_0_0).toLoadRect X_arg7) (B.A i 7 1 0) := by
    unfold kernelRun.sl.v815 kernelRun.sl.v809 kernelRun.sl.v808 kernelRun.sl.v807 kernelRun.sl.v805 kernelRun.sl.v801 kernelRun.sl.v800 kernelRun.sl.v799 kernelRun.sl.v798 kernelRun.sl.v796 kernelRun.sl.v794 kernelRun.sl.v793 kernelRun.sl.v792 kernelRun.sl.v791 kernelRun.sl.v790 kernelRun.sl.v788 kernelRun.sl.v787 kernelRun.sl.v786 kernelRun.sl.v785 kernelRun.sl.v784 kernelRun.sl.v783 kernelRun.sl.v782 kernelRun.sl.v781 kernelRun.sl.v736 kernelRun.sl.v734 kernelRun.sl.v733 kernelRun.sl.v727 kernelRun.sl.v725 kernelRun.sl.v719 kernelRun.sl.r kernelRun.sl.cst_611 kernelRun.sl.cst_608 kernelRun.sl.cst_607
    rw [cov_read_144 arg18.view _ (1 : Fin 2) (0 : Fin 2) (off := ![1, 0, 0, 0]) _ rfl, s_Harg18_6]; rfl
  have e_v836 : k0_pay1 (kernelRun.sl.v836 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg3 X_arg4 X_arg5 X_arg6 X_arg8 X_arg9 X_arg10 X_arg11 f_arg16) (kernelRun.sl.v734 (F := F) arg7 X_arg7) = finO (k0_pay33 (View.readAt (Elt F) arg3.view (Rect.unit (s := S1x64) ![0, 0] S1x64.size inb_S1x64_S1x64_0_0).toLoadRect X_arg3) (View.readAt (Elt F) arg4.view (Rect.unit (s := S1x64) ![0, 0] S1x64.size inb_S1x64_S1x64_0_0).toLoadRect X_arg4) (View.readAt (Elt F) arg5.view (Rect.unit (s := S1x64) ![0, 0] S1x64.size inb_S1x64_S1x64_0_0).toLoadRect X_arg5) (View.readAt (Elt F) arg6.view (Rect.unit (s := S1x64) ![0, 0] S1x64.size inb_S1x64_S1x64_0_0).toLoadRect X_arg6)) (View.readAt (Elt F) arg7.view (Rect.unit (s := S128x1) ![0, 0] S128x1.size inb_S128x1_S128x1_0_0).toLoadRect X_arg7) (B.A i 7 1 1) := by
    unfold kernelRun.sl.v836 kernelRun.sl.v835 kernelRun.sl.v834 kernelRun.sl.v833 kernelRun.sl.v831 kernelRun.sl.v829 kernelRun.sl.v828 kernelRun.sl.v827 kernelRun.sl.v826 kernelRun.sl.v825 kernelRun.sl.v823 kernelRun.sl.v822 kernelRun.sl.v821 kernelRun.sl.v820 kernelRun.sl.v819 kernelRun.sl.v818 kernelRun.sl.v817 kernelRun.sl.v816 kernelRun.sl.v734 kernelRun.sl.v733 kernelRun.sl.v727 kernelRun.sl.v725 kernelRun.sl.v719 kernelRun.sl.r kernelRun.sl.cst_608 kernelRun.sl.cst_607
    rw [cov_read_144 arg18.view _ (1 : Fin 2) (1 : Fin 2) (off := ![1, 1, 0, 0]) _ rfl, s_Harg18_6]; rfl
  intro y t
  unfold kernelRun
  show kAt arg12.view (arg12.view.writes (Elt F) f_arg12 (_ :: _ :: _ :: (kernelRun.sl.Harg12_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg3 X_arg4 X_arg5 X_arg6 X_arg7 X_arg8 X_arg9 X_arg10 X_arg11 f_arg16))) y t = _
  unfold kernelRun.sl.Harg12_1
  rw [kAt_cons arg12.view _ 1 (dt i 1) _ (cf4 i), kAt_cons arg12.view _ 1 (dt i 0) _ (cf3 i), kAt_cons arg12.view _ 0 (dt i 1) _ (cf2 i), kAt_cons arg12.view _ 0 (dt i 0) _ (cf1 i),
    e_v745, e_v780, e_v815, e_v836, View.writes_nil]
  exact pick B i y t _ _

end Cert.KernelIdeal.Hand

end
-- ==== Proof.Column.lean ====
module

public import proofs.«01_k».proof.Proof.Steps
public import proofs.«01_k».proof.Proof.Core

/-! One column of a point's recursion, at extended reals: the operations element by element, and the accumulator as a
power of two of the running maximum times the sum over the tiles passed. -/

@[expose] public section

set_option maxRecDepth 16384

noncomputable section

namespace Cert.KernelIdeal.Hand

open Cert.KernelIdeal Cert.KernelIdeal.Gen
open Idealize.ShloMosaic Idealize.ShloMosaic.TcCoe
open Cert.Soft

/-- The scale by which the queries are multiplied. -/
def kap : ℝ := (1 / 8) * (Real.log 2)⁻¹

theorem named_kap : (Named.named κ "score_scale" 1043900987#32 : Ideal .f32) = (kap : EReal) := rfl

theorem lane_lt : ∀ d : Fin 128, IntOp.cmpi CmpIPredicate.slt (BitVec.ofNat 32 d.val) 64#32 = 1 ↔ d.val < 64 := by decide +kernel

theorem lane_ge : ∀ d : Fin 128, IntOp.cmpi CmpIPredicate.sge (BitVec.ofNat 32 d.val) 64#32 = 1 ↔ 64 ≤ d.val := by decide +kernel

theorem qat_at (q : Vec Ideal S1x512x128 .bf16) (d : Fin 128) (j : Fin 1024) :
    qat q (ix4 0 0 d j) = if h : j.val < 512 then (if d.val < 64 then q (ix3 0 ⟨j.val, h⟩ d) * (kap : EReal) else 0)
      else (if 64 ≤ d.val then q (ix3 0 ⟨j.val - 512, by omega⟩ d) * (kap : EReal) else 0) := by
  pointwise [qat, k0_pay39]
  rw [named_kap]
  have hs : ∀ a b : EReal, Scalar.select (IntOp.cmpi CmpIPredicate.slt (BitVec.ofNat 32 d.val) 64#32) a b = if d.val < 64 then a else b := by
    intro a b; exact if_congr (lane_lt d) rfl rfl
  have hg : ∀ a b : EReal, Scalar.select (IntOp.cmpi CmpIPredicate.sge (BitVec.ofNat 32 d.val) 64#32) a b = if 64 ≤ d.val then a else b := by
    intro a b; exact if_congr (lane_ge d) rfl rfl
  by_cases h : j.val < 512
  · rw [dif_pos h, dif_pos h]; exact hs _ _
  · rw [dif_neg h, dif_neg h]; exact hg _ _

theorem dotKQ_at (K : Vec Ideal S1x512x128 .bf16) (Q : Vec Ideal S1x1x128x1024 .bf16) (r : Fin 512) (j : Fin 1024) :
    dotKQ K Q (ix2 r j) = ∑ d : Fin 128, K (ix3 0 r d) * Q (ix4 0 0 d j) := by
  pointwise [dotKQ]

theorem score_at (K : Vec Ideal S1x512x128 .bf16) (Q : Vec Ideal S1x1x128x1024 .bf16) (r : Fin 512) (j : Fin 1024) :
    score K Q (ix4 0 0 r j) = dotKQ K Q (ix2 r j) := by
  pointwise [score]

theorem scoreD_at (K : Vec Ideal S1x512x128 .bf16) (Q : Vec Ideal S1x1x128x1024 .bf16) (C : Vec Ideal S512x512 .f32) (r : Fin 512) (j : Fin 1024) :
    scoreD K Q C (ix4 0 0 r j) = dotKQ K Q (ix2 r j) + C (ix2 r ⟨j.val % 512, Nat.mod_lt _ (by decide)⟩) := by
  pointwise [scoreD]
  by_cases h : j.val < 512
  · rw [dif_pos h]
    have : (⟨j.val % 512, Nat.mod_lt _ (by decide)⟩ : Fin 512) = ⟨j.val, h⟩ := Fin.ext (Nat.mod_eq_of_lt h)
    rw [this]
  · rw [dif_neg h]
    have h1 : (⟨j.val % 512, Nat.mod_lt _ (by decide)⟩ : Fin 512) = ⟨j.val - 512, by omega⟩ := Fin.ext (by show j.val % 512 = j.val - 512; omega)
    have h2 : (⟨512 + (j.val - 512), by omega⟩ : Fin 1024) = j := Fin.ext (by show 512 + (j.val - 512) = j.val; omega)
    rw [h1, h2]

theorem cmax_at (s : Vec Ideal S1x1x512x1024 .f32) (j : Fin 1024) :
    cmax s (ix2 0 j) = Finset.fold max ⊥ (fun r : Fin 512 => s (ix4 0 0 r j)) Finset.univ := by
  pointwise [cmax]
  rw [ofBits_neg_inf]

theorem maxD_at (s : Vec Ideal S1x1x512x1024 .f32) (j : Fin 1024) : maxD s (ix4 0 0 0 j) = cmax s (ix2 0 j) := by
  pointwise [maxD]

theorem probOf_at (s : Vec Ideal S1x1x512x1024 .f32) (m : FVec Ideal S1x1024 .f32) (r : Fin 512) (j : Fin 1024) :
    probOf s m (ix4 0 0 r j) = Ideal.exp2 (s (ix4 0 0 r j) - m (ix2 0 j)) := by
  pointwise [probOf]
  rfl

theorem maxN_at (m : Vec Ideal S1x1x1x1024 .f32) (s : Vec Ideal S1x1x512x1024 .f32) (j : Fin 1024) :
    maxN m s (ix2 0 j) = max (m (ix4 0 0 0 j)) (cmax s (ix2 0 j)) := by
  pointwise [maxN]

theorem maxS_at (m : Vec Ideal S1x1x1x1024 .f32) (s : Vec Ideal S1x1x512x1024 .f32) (j : Fin 1024) :
    maxS m s (ix4 0 0 0 j) = max (m (ix4 0 0 0 j)) (cmax s (ix2 0 j)) := by
  pointwise [maxS]
  exact maxN_at m s j

theorem alpS_at (m : Vec Ideal S1x1x1x1024 .f32) (s : Vec Ideal S1x1x512x1024 .f32) (j : Fin 1024) :
    alpS m s (ix4 0 0 0 j) = Ideal.exp2 (m (ix4 0 0 0 j) - maxN m s (ix2 0 j)) := by
  pointwise [alpS]
  rfl

theorem dotVP_at (v : Vec Ideal S1x1x1x144x512 .bf16) (p : Vec Ideal S1x1x512x1024 .bf16) (r : Fin 144) (j : Fin 1024) :
    dotVP v p (ix2 r j) = ∑ k : Fin 512, v (ix5 0 0 0 r k) * p (ix4 0 0 k j) := by
  pointwise [dotVP]

theorem accD_at (v : Vec Ideal S1x1x1x144x512 .bf16) (p : Vec Ideal S1x1x512x1024 .bf16) (r : Fin 144) (j : Fin 1024) :
    accD v p (ix4 0 0 r j) = dotVP v p (ix2 r j) := by
  pointwise [accD]

theorem accS_at (v : Vec Ideal S1x1x1x144x512 .bf16) (p : Vec Ideal S1x1x512x1024 .bf16) (al : Vec Ideal S1x1x1x1024 .f32)
    (ac : Vec Ideal S1x1x144x1024 .f32) (r : Fin 144) (j : Fin 1024) :
    accS v p al ac (ix4 0 0 r j) = al (ix4 0 0 0 j) * ac (ix4 0 0 r j) + dotVP v p (ix2 r j) := by
  pointwise [accS]

theorem finO_at (r : FVec Ideal S1x1 .f32) (w : Vec Ideal S128x1 .f32) (ac : Vec Ideal S1x1x144x1024 .f32) (u : Fin 512) (d : Fin 128) :
    finO r w ac (ix3 0 u d) = norm (fun k => diffO r ac (ix2 k u)) (w (ix2 d 0)) d := by
  pointwise [finO, k0_pay1, rmsO]
  rfl

theorem diffO_at (r : FVec Ideal S1x1 .f32) (ac : Vec Ideal S1x1x144x1024 .f32) (u : Fin 512) (d : Fin 128) :
    diffO r ac (ix2 d u) =
      Ideal.div (ac (ix4 0 0 ⟨d.val, by omega⟩ ⟨u.val, by omega⟩)) (ac (ix4 0 0 128 ⟨u.val, by omega⟩))
      - r (ix2 0 0) * Ideal.div (ac (ix4 0 0 ⟨d.val, by omega⟩ ⟨512 + u.val, by omega⟩)) (ac (ix4 0 0 128 ⟨512 + u.val, by omega⟩)) := by
  pointwise [diffO]

theorem lam_at (a b c d : Vec Ideal S1x64 .f32) :
    k0_pay33 a b c d (ix2 0 0) = lamE (fun x => a (ix2 0 x)) (fun x => b (ix2 0 x)) (fun x => c (ix2 0 x)) (fun x => d (ix2 0 x)) := by
  pointwise [k0_pay33]
  rfl

/-! ## One column -/

section Column

variable (B : Blk Ideal) (i : grid0.Coords) (c x : Fin 2) (j : Fin 1024) (sc : Fin 8 → Fin 512 → EReal) (w : Fin 8 → Fin 144 → Fin 512 → ℝ)

def tileSum (t : Fin 8) (row : Fin 144) : ℝ := ∑ r, w t row r * ex (sc t r)

/-- The sum over the tiles passed before task `n`. -/
def W (n : ℕ) (row : Fin 144) : ℝ :=
  tileSum sc w (dt i x) row + ∑ n' ∈ (Finset.range n).filter (fun n' => xf i n' = x), tileSum sc w (tl i n') row

theorem W_succ (n : ℕ) (row : Fin 144) :
    W i x sc w (n + 1) row = if x = xf i n then W i x sc w n row + tileSum sc w (tl i n) row else W i x sc w n row := by
  unfold W
  rw [Finset.range_add_one, Finset.filter_insert]
  by_cases h : xf i n = x
  · rw [if_pos h, if_pos h.symm, Finset.sum_insert (by simp)]; ring
  · rw [if_neg h, if_neg (fun hh => h hh.symm)]

theorem tl_lt : ∀ (i : grid0.Coords) (n : Fin 7), (tl i n.val) < dt i (xf i n.val) := by decide +kernel

theorem tl_filter : ∀ (i : grid0.Coords) (x : Fin 2),
    ((Finset.range 7).filter (fun n' => xf i n' = x)).image (tl i) = Finset.univ.filter (· < dt i x) := by decide +kernel

theorem tl_inj : ∀ (i : grid0.Coords) (x : Fin 2), ∀ n ∈ (Finset.range 7).filter (fun n' => xf i n' = x),
    ∀ n' ∈ (Finset.range 7).filter (fun n' => xf i n' = x), tl i n = tl i n' → n = n' := by decide +kernel

/-- After all tasks every tile up to the diagonal one has been passed once. -/
theorem W_all (hbot : ∀ t, dt i x < t → ∀ r, sc t r = ⊥) (row : Fin 144) : W i x sc w 7 row = ∑ t, tileSum sc w t row := by
  unfold W
  rw [← Finset.sum_image (f := fun t => tileSum sc w t row) (g := tl i) (tl_inj i x), tl_filter,
    ← Finset.sum_insert (f := fun t => tileSum sc w t row) (by simp)]
  refine Finset.sum_subset (Finset.subset_univ _) fun t _ ht => ?_
  have : dt i x < t := by
    simp only [Finset.mem_insert, Finset.mem_filter, Finset.mem_univ, true_and, not_or, not_lt] at ht
    exact lt_of_le_of_ne ht.2 (Ne.symm ht.1)
  unfold tileSum
  exact Finset.sum_eq_zero fun r _ => by rw [hbot t this r, ex_bot, mul_zero]

theorem column (htop : ∀ t r, sc t r ≠ ⊤) (hreal : ∀ t, t ≤ dt i x → ∃ r, sc t r ≠ ⊥)
    (hSD : ∀ r, B.SD i c x (ix4 0 0 r j) = sc (dt i x) r)
    (hS : ∀ n < 7, xf i n = x → ∀ r, B.S i n c (ix4 0 0 r j) = sc (tl i n) r)
    (hv : ∀ t row r, B.v c t (ix5 0 0 0 row r) = (w t row r : EReal)) :
    ∀ n ≤ 7, ∃ μ : ℝ, B.M i n c x (ix4 0 0 0 j) = (μ : EReal) ∧ ∀ row, B.A i n c x (ix4 0 0 row j) = ((2 ^ (-μ) * W i x sc w n row : ℝ) : EReal) := by
  intro n
  induction n with
  | zero =>
    intro _
    obtain ⟨r0, hr0⟩ := hreal _ le_rfl
    obtain ⟨μ, hμ⟩ := fold_real Finset.univ (sc (dt i x)) (fun r _ => htop _ r) ⟨r0, Finset.mem_univ _, hr0⟩
    have hc : cmax (B.SD i c x) (ix2 0 j) = (μ : EReal) := by
      rw [cmax_at, ← hμ]; congr 1; funext r; exact hSD r
    refine ⟨μ, ?_, fun row => ?_⟩
    · show maxD (B.SD i c x) (ix4 0 0 0 j) = _
      rw [maxD_at, hc]
    · show accD (B.v c (dt i x)) (probOf (B.SD i c x) (cmax (B.SD i c x))) (ix4 0 0 row j) = _
      rw [accD_at, dotVP_at]
      have : W i x sc w 0 row = ∑ r, w (dt i x) row r * ex (sc (dt i x) r) := by
        unfold W tileSum; rw [Finset.range_zero, Finset.filter_empty, Finset.sum_empty, add_zero]
      rw [this, ← tile_sum _ _ (htop _) μ]
      refine Finset.sum_congr rfl fun r _ => ?_
      rw [hv, probOf_at, hSD, hc]
  | succ n ih =>
    intro hn
    obtain ⟨μ, hM, hA⟩ := ih (by omega)
    by_cases hx : x = xf i n
    · have hlt := tl_lt i ⟨n, by omega⟩
      have hS' := hS n (by omega) hx.symm
      obtain ⟨r0, hr0⟩ := hreal (tl i n) (by rw [hx]; exact hlt.le)
      obtain ⟨μs, hμs⟩ := fold_real Finset.univ (sc (tl i n)) (fun r _ => htop _ r) ⟨r0, Finset.mem_univ _, hr0⟩
      have hc : cmax (B.S i n c) (ix2 0 j) = (μs : EReal) := by
        rw [cmax_at, ← hμs]; congr 1; funext r; exact hS' r
      have hmn : maxN (B.M i n c (xf i n)) (B.S i n c) (ix2 0 j) = ((max μ μs : ℝ) : EReal) := by
        rw [maxN_at, ← hx, hM, hc, coe_max]
      refine ⟨max μ μs, ?_, fun row => ?_⟩
      · show (if x = xf i n then maxS (B.M i n c (xf i n)) (B.S i n c) else B.M i n c x) (ix4 0 0 0 j) = _
        rw [if_pos hx, maxS_at, ← hx, hM, hc, coe_max]
      · show (if x = xf i n then accS (B.v c (tl i n)) (probOf (B.S i n c) (maxN (B.M i n c (xf i n)) (B.S i n c)))
          (alpS (B.M i n c (xf i n)) (B.S i n c)) (B.A i n c (xf i n)) else B.A i n c x) (ix4 0 0 row j) = _
        rw [if_pos hx, accS_at, alpS_at, hmn, dotVP_at, W_succ, if_pos hx]
        have h1 : B.M i n c (xf i n) (ix4 0 0 0 j) = (μ : EReal) := by rw [← hx]; exact hM
        have h2 : B.A i n c (xf i n) (ix4 0 0 row j) = ((2 ^ (-μ) * W i x sc w n row : ℝ) : EReal) := by rw [← hx]; exact hA row
        rw [h1, h2]
        unfold tileSum
        rw [← step_sum _ _ (htop _) μ (max μ μs)]
        refine congrArg (fun z => Ideal.exp2 ((μ : EReal) - ((max μ μs : ℝ) : EReal)) * ((2 ^ (-μ) * W i x sc w n row : ℝ) : EReal) + z) ?_
        refine Finset.sum_congr rfl fun r _ => ?_
        rw [hv, probOf_at, hS', hmn]
    · refine ⟨μ, ?_, fun row => ?_⟩
      · show (if x = xf i n then maxS (B.M i n c (xf i n)) (B.S i n c) else B.M i n c x) (ix4 0 0 0 j) = _
        rw [if_neg hx, hM]
      · show (if x = xf i n then accS (B.v c (tl i n)) (B.P i n c) (B.Al i n c) (B.A i n c (xf i n)) else B.A i n c x) (ix4 0 0 row j) = _
        rw [if_neg hx, hA, W_succ, if_neg hx]

/-- The quotient of a row by the row of ones. -/
theorem column_div (htop : ∀ t r, sc t r ≠ ⊤) (hreal : ∀ t, t ≤ dt i x → ∃ r, sc t r ≠ ⊥)
    (hbot : ∀ t, dt i x < t → ∀ r, sc t r = ⊥)
    (hSD : ∀ r, B.SD i c x (ix4 0 0 r j) = sc (dt i x) r)
    (hS : ∀ n < 7, xf i n = x → ∀ r, B.S i n c (ix4 0 0 r j) = sc (tl i n) r)
    (hv : ∀ t row r, B.v c t (ix5 0 0 0 row r) = (w t row r : EReal)) (hone : ∀ t r, w t 128 r = 1) (row : Fin 144) :
    Ideal.div (B.A i 7 c x (ix4 0 0 row j)) (B.A i 7 c x (ix4 0 0 128 j))
      = (((∑ t, ∑ r, w t row r * ex (sc t r)) / (∑ t, ∑ r, ex (sc t r)) : ℝ) : EReal) := by
  obtain ⟨μ, -, hA⟩ := column B i c x j sc w htop hreal hSD hS hv 7 le_rfl
  have h1 : ∑ t, tileSum sc w t 128 = ∑ t, ∑ r, ex (sc t r) := by
    unfold tileSum; simp only [hone, one_mul]
  have hpos : 0 < ∑ t, ∑ r, ex (sc t r) := by
    obtain ⟨r0, hr0⟩ := hreal _ le_rfl
    refine Finset.sum_pos' (fun t _ => Finset.sum_nonneg fun r _ => ex_nonneg _ (htop t r)) ⟨dt i x, Finset.mem_univ _, ?_⟩
    exact Finset.sum_pos' (fun r _ => ex_nonneg _ (htop _ r)) ⟨r0, Finset.mem_univ _, ex_pos _ (htop _ _) hr0⟩
  rw [hA, hA, W_all i x sc w hbot, W_all i x sc w hbot, h1]
  exact div_scaled _ _ _ (two_pow_pos _) hpos

end Column

end Cert.KernelIdeal.Hand

end
-- ==== Proof.Tile.lean ====
module

public import proofs.«01_k».proof.Proof.Column
public import proofs.«01_k».proof.Proof.Spec

/-! A point's output tile at extended reals: the difference of the two maps' attentions over real queries, keys and
values. -/

@[expose] public section

set_option maxRecDepth 16384

noncomputable section

namespace Cert.KernelIdeal.Hand

open Cert.KernelIdeal Cert.KernelIdeal.Gen
open Idealize.ShloMosaic Idealize.ShloMosaic.TcCoe
open Cert.Soft

theorem ex_kap (x : ℝ) : ex ((kap * x : ℝ) : EReal) = Real.exp (x / 8) := by
  rw [ex_coe, Real.rpow_def_of_pos two_pos]
  congr 1
  have : Real.log 2 ≠ 0 := (Real.log_pos one_lt_two).ne'
  unfold kap; field_simp

/-- A lane's row in the values with the rows of ones. -/
def vrow (d : Fin 128) : Fin 144 := ⟨d.val, Nat.lt_trans d.isLt (by decide)⟩

section Tile

variable (B : Blk Ideal) (i : grid0.Coords) (c x : Fin 2) (q k v : Fin 4096 → Fin 128 → ℝ)
  (hq : ∀ t r d, B.q c t (ix3 0 r d) = (q (pos t r) d : EReal))
  (hk : ∀ t r d, B.k c t (ix3 0 r d) = (k (pos t r) d : EReal))
  (hv : ∀ t r (d : Fin 128), B.v c t (ix5 0 0 0 (vrow d) r) = (v (pos t r) d : EReal))
  (hv1 : ∀ t r, B.v c t (ix5 0 0 0 128 r) = 1)
  (hv0 : ∀ t r (row : Fin 144), 128 < row.val → B.v c t (ix5 0 0 0 row r) = 0)
  (hc : ∀ r u : Fin 512, B.c (ix2 r u) = if r ≤ u then 0 else ⊥)

/-- A column of both maps side by side, from its map and its query. -/
def col (m : Fin 2) (u : Fin 512) : Fin 1024 := ⟨512 * m.val + u.val, by omega⟩

include hq in
theorem Q_at (m : Fin 2) (u : Fin 512) (m' : Fin 2) (d : Fin 64) :
    B.Q i c x (ix4 0 0 (lane m' d) (col m u)) = if m' = m then ((q (pos (dt i x) u) (lane m d) * kap : ℝ) : EReal) else 0 := by
  show qat (B.q c (dt i x)) _ = _
  rw [qat_at]
  match m, m' with
  | 0, 0 =>
    have h : (col 0 u).val < 512 := by show 512 * 0 + u.val < 512; omega
    have h2 : (lane 0 d).val < 64 := by show 64 * 0 + d.val < 64; omega
    rw [dif_pos h, if_pos h2, if_pos rfl, EReal.coe_mul, ← hq]
    congr 3; exact Fin.ext (by show 512 * 0 + u.val = u.val; omega)
  | 0, 1 =>
    have h : (col 0 u).val < 512 := by show 512 * 0 + u.val < 512; omega
    have h2 : ¬ (lane 1 d).val < 64 := by show ¬ 64 * 1 + d.val < 64; omega
    rw [dif_pos h, if_neg h2, if_neg (by decide)]
  | 1, 0 =>
    have h : ¬ (col 1 u).val < 512 := by show ¬ 512 * 1 + u.val < 512; omega
    have h2 : ¬ 64 ≤ (lane 0 d).val := by show ¬ 64 ≤ 64 * 0 + d.val; omega
    rw [dif_neg h, if_neg h2, if_neg (by decide)]
  | 1, 1 =>
    have h : ¬ (col 1 u).val < 512 := by show ¬ 512 * 1 + u.val < 512; omega
    have h2 : 64 ≤ (lane 1 d).val := by show 64 ≤ 64 * 1 + d.val; omega
    rw [dif_neg h, if_pos h2, if_pos rfl, EReal.coe_mul, ← hq]
    congr 3; exact Fin.ext (by show 512 * 1 + u.val - 512 = u.val; omega)

include hq hk in
theorem dot_at (m : Fin 2) (u : Fin 512) (t : Fin 8) (r : Fin 512) :
    dotKQ (B.k c t) (B.Q i c x) (ix2 r (col m u)) = ((kap * dotR q k m (pos (dt i x) u) (pos t r) : ℝ) : EReal) := by
  rw [dotKQ_at, sum_lane]
  have h : ∀ m' : Fin 2, ∑ d, B.k c t (ix3 0 r (lane m' d)) * B.Q i c x (ix4 0 0 (lane m' d) (col m u))
      = if m' = m then ((kap * dotR q k m (pos (dt i x) u) (pos t r) : ℝ) : EReal) else 0 := by
    intro m'
    by_cases hm : m' = m
    · subst hm
      rw [if_pos rfl]
      unfold dotR
      rw [Finset.mul_sum, coe_sum]
      refine Finset.sum_congr rfl fun d _ => ?_
      rw [Q_at B i c x q hq, if_pos rfl, hk, ← EReal.coe_mul]
      congr 1; ring
    · rw [if_neg hm]
      refine Finset.sum_eq_zero fun d _ => ?_
      rw [Q_at B i c x q hq, if_neg hm, mul_zero]
  rw [Finset.sum_congr rfl fun m' _ => h m', Finset.sum_ite_eq' Finset.univ m, if_pos (Finset.mem_univ _)]

/-- The scores of a column: `⊥` at later keys. -/
def scOf (m : Fin 2) (u : Fin 512) (t : Fin 8) (r : Fin 512) : EReal :=
  if pos t r ≤ pos (dt i x) u then ((kap * dotR q k m (pos (dt i x) u) (pos t r) : ℝ) : EReal) else ⊥

theorem ex_scOf (m : Fin 2) (u : Fin 512) (t : Fin 8) (r : Fin 512) : ex (scOf i x q k m u t r) = wt q k m (pos (dt i x) u) (pos t r) := by
  unfold scOf wt
  split
  · exact ex_kap _
  · exact ex_bot

/-- A tile's rows: the values, a row of ones, zeros. -/
def rowOf (t : Fin 8) (row : Fin 144) (r : Fin 512) : ℝ :=
  if h : row.val < 128 then v (pos t r) ⟨row.val, h⟩ else if row.val = 128 then 1 else 0

theorem pos_lt (t T : Fin 8) (r u : Fin 512) (h : t < T) : pos t r ≤ pos T u := by
  have : t.val < T.val := h
  show 512 * t.val + r.val ≤ 512 * T.val + u.val
  omega

theorem pos_gt (t T : Fin 8) (r u : Fin 512) (h : T < t) : ¬ pos t r ≤ pos T u := by
  have : T.val < t.val := h
  show ¬ 512 * t.val + r.val ≤ 512 * T.val + u.val
  omega

theorem pos_eq (T : Fin 8) (r u : Fin 512) : pos T r ≤ pos T u ↔ r ≤ u := by
  show 512 * T.val + r.val ≤ 512 * T.val + u.val ↔ r.val ≤ u.val
  omega

include hq hk hv hv1 hv0 hc in
theorem map_at (m : Fin 2) (u : Fin 512) (d : Fin 128) :
    Ideal.div (B.A i 7 c x (ix4 0 0 ⟨d.val, by omega⟩ (col m u))) (B.A i 7 c x (ix4 0 0 128 (col m u)))
      = (soft q k v m (pos (dt i x) u) d : EReal) := by
  rw [column_div B i c x (col m u) (scOf i x q k m u) (rowOf v) ?_ ?_ ?_ ?_ ?_ ?_ ?_ ⟨d.val, by omega⟩]
  · congr 1
    unfold soft
    rw [sum_pos, sum_pos]
    simp only [ex_scOf]
    congr 1
    refine Finset.sum_congr rfl fun t _ => Finset.sum_congr rfl fun r _ => ?_
    unfold rowOf; rw [dif_pos d.isLt]
  · intro t r; unfold scOf; split
    · exact EReal.coe_ne_top _
    · exact bot_ne_top
  · intro t ht
    refine ⟨0, ?_⟩
    have : pos t 0 ≤ pos (dt i x) u := by
      have : t.val ≤ (dt i x).val := ht
      show 512 * t.val + 0 ≤ 512 * (dt i x).val + u.val
      omega
    unfold scOf; rw [if_pos this]; exact EReal.coe_ne_bot _
  · intro t ht r
    unfold scOf; rw [if_neg (pos_gt _ _ _ _ ht)]
  · intro r
    show scoreD (B.k c (dt i x)) (B.Q i c x) B.c (ix4 0 0 r (col m u)) = _
    rw [scoreD_at, dot_at B i c x q k hq hk]
    have hu : (⟨(col m u).val % 512, Nat.mod_lt _ (by decide)⟩ : Fin 512) = u := Fin.ext (by show (512 * m.val + u.val) % 512 = u.val; omega)
    rw [hu, hc]
    unfold scOf
    by_cases h : r ≤ u
    · rw [if_pos h, if_pos ((pos_eq _ _ _).2 h), add_zero]
    · rw [if_neg h, if_neg (fun hh => h ((pos_eq _ _ _).1 hh)), EReal.add_bot]
  · intro n hn hx r
    have hlt := tl_lt i ⟨n, hn⟩
    rw [show xf i (⟨n, hn⟩ : Fin 7).val = x from hx] at hlt
    show score (B.k c (tl i n)) (B.Q i c (xf i n)) (ix4 0 0 r (col m u)) = _
    rw [hx, score_at, dot_at B i c x q k hq hk]
    unfold scOf; rw [if_pos (pos_lt _ _ _ _ hlt)]
  · intro t row r
    unfold rowOf
    by_cases h : row.val < 128
    · rw [dif_pos h]; exact hv t r ⟨row.val, h⟩
    · rw [dif_neg h]
      by_cases h1 : row.val = 128
      · rw [if_pos h1, show row = 128 from Fin.ext h1, hv1, EReal.coe_one]
      · rw [if_neg h1, hv0 t r row (by omega), EReal.coe_zero]
  · intro t r
    unfold rowOf; rw [dif_neg (by decide)]; exact if_pos rfl

include hq hk hv hv1 hv0 hc in
/-- An element of the output tile. -/
theorem tile_at (r : FVec Ideal S1x1 .f32) (w : Vec Ideal S128x1 .f32) (u : Fin 512) (d : Fin 128) :
    finO r w (B.A i 7 c x) (ix3 0 u d)
      = norm (fun e => (soft q k v 0 (pos (dt i x) u) e : EReal) - r (ix2 0 0) * (soft q k v 1 (pos (dt i x) u) e : EReal)) (w (ix2 d 0)) d := by
  rw [finO_at]
  congr 1
  funext e
  rw [diffO_at, ← map_at B i c x q k v hq hk hv hv1 hv0 hc, ← map_at B i c x q k v hq hk hv hv1 hv0 hc]
  have h0 : (⟨u.val, by omega⟩ : Fin 1024) = col 0 u := Fin.ext (by show u.val = 512 * 0 + u.val; omega)
  have h1 : (⟨512 + u.val, by omega⟩ : Fin 1024) = col 1 u := Fin.ext (by show 512 + u.val = 512 * 1 + u.val; omega)
  rw [h0, h1]

end Tile

end Cert.KernelIdeal.Hand

end
-- ==== Proof.Out.lean ====
module

public import proofs.«01_k».proof.Proof.Entry
public import proofs.«01_k».proof.Proof.Point
public import proofs.«01_k».proof.Proof.Tile
public import Idealize.ShloMosaic.Lib.Pipeline.ArrRel

/-! What the program leaves in its result: over arguments that are reals, every element of the output array is the
normalised difference of the two softmax averages of its head. -/

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Cert.Soft
open Idealize.ShloMosaic.Pipeline (Dat RDat Cfg Window)

/-- The channel of a head's lane. -/
def hchan (h : Fin 8) (l : Fin 128) : Fin 1024 := ⟨128 * h.val + l.val, by omega⟩

/-- The lane, in a pair of heads' block, of head `y`'s lane `d`. -/
def l256 (y : Fin 2) (d : Fin 128) : Fin 256 := ⟨128 * y.val + d.val, by omega⟩

/-- The head `y` of the pair `h`. -/
def hd2 (h : Fin 4) (y : Fin 2) : Fin 8 := ⟨2 * h.val + y.val, by omega⟩

theorem pchan_l256 (h : Fin 4) (y : Fin 2) (d : Fin 128) : pchan h (l256 y d) = hchan (hd2 h y) d :=
  Fin.ext (by show 256 * h.val + (128 * y.val + d.val) = 128 * (2 * h.val + y.val) + d.val; omega)

/-- The array of reals restricted to a batch row's head. -/
def headOf (A : Fin 8 → Fin 4096 → Fin 1024 → ℝ) (b h : Fin 8) : Fin 4096 → Fin 128 → ℝ := fun p l => A b p (hchan h l)

/-- The batch row of a point. -/
def gb (t : Fin grid0.N) : Fin 8 := grid0.coords t 0

/-- The pair of heads of a point. -/
def gh (t : Fin grid0.N) : Fin 4 := grid0.coords t 1

section Reads

variable {κ : Kind} {sp : Space} {e : EltTy} {Val : EltTy → Type}

theorem kAt_at (v : View sig κ sp S1x4096x256 e) (f : v.ty.Contents Val) (y : Fin 2) (t : Fin 8) (r : Fin 512) (d : Fin 128) :
    kAt v f y t (ix3 (0 : Fin 1) r d) = v.read Val f (ix3 (0 : Fin 1) (pos t r) (l256 y d)) := by
  refine congrArg (v.read Val f) (funext fun a => Fin.ext ?_)
  match a with
  | ⟨0, _⟩ => rfl
  | ⟨1, _⟩ => show 512 * t.val + 1 * r.val = 512 * t.val + r.val; omega
  | ⟨2, _⟩ => show 128 * y.val + 1 * d.val = 128 * y.val + d.val; omega

theorem vAt_at (v : View sig κ sp S1x2x8x144x512 e) (f : v.ty.Contents Val) (y : Fin 2) (t : Fin 8) (d : Fin 144) (r : Fin 512) :
    vAt v f y t (ix5 (0 : Fin 1) (0 : Fin 1) (0 : Fin 1) d r) = v.read Val f (ix5 (0 : Fin 1) y t d r) := by
  refine congrArg (v.read Val f) (funext fun a => Fin.ext ?_)
  match a with
  | ⟨0, _⟩ => rfl
  | ⟨1, _⟩ => show y.val + 1 * 0 = y.val; omega
  | ⟨2, _⟩ => show t.val + 1 * 0 = t.val; omega
  | ⟨3, _⟩ => show 0 + 1 * d.val = d.val; omega
  | ⟨4, _⟩ => show 0 + 1 * r.val = r.val; omega

theorem full_at {n k : ℕ} (v : View sig κ sp ⟨2, ![n, k]⟩ e) (f : v.ty.Contents Val)
    (inb : ∀ x, (![0, 0] : Fin 2 → ℕ) x + (![n, k] : Fin 2 → ℕ) x ≤ (![n, k] : Fin 2 → ℕ) x) (r : Fin n) (u : Fin k) :
    v.readAt Val (Rect.unit (s := ⟨2, ![n, k]⟩) ![0, 0] ![n, k] inb).toLoadRect f (ix2 r u) = v.read Val f (ix2 r u) := by
  refine congrArg (v.read Val f) (funext fun a => Fin.ext ?_)
  match a with
  | ⟨0, _⟩ => show 0 + 1 * r.val = r.val; omega
  | ⟨1, _⟩ => show 0 + 1 * u.val = u.val; omega

end Reads

section Out

variable (m : (ℓ : Loc nD τ sig) → Buf (Elt Ideal) ℓ) (c : Dev nD)
variable (qR kR vR : Fin 8 → Fin 4096 → Fin 1024 → ℝ)

/-- The weight of the second map. -/
def lamOf : EReal := lamE (fun x => m ((c : Thread nD τ).loc main_arg3) (ix1 x)) (fun x => m ((c : Thread nD τ).loc main_arg4) (ix1 x))
  (fun x => m ((c : Thread nD τ).loc main_arg5) (ix1 x)) (fun x => m ((c : Thread nD τ).loc main_arg6) (ix1 x))

/-- The result's element at batch row `b`, head `h`, position `p`, lane `d`. -/
def target (b h : Fin 8) (p : Fin 4096) (d : Fin 128) : EReal :=
  norm (fun e => (soft (headOf qR b h) (headOf kR b h) (headOf vR b h) 0 p e : EReal)
    - lamOf m c * (soft (headOf qR b h) (headOf kR b h) (headOf vR b h) 1 p e : EReal)) (m ((c : Thread nD τ).loc main_arg7) (ix1 d)) d

variable (hq : ∀ b p l, m ((c : Thread nD τ).loc main_arg0) (ix3 b p l) = (qR b p l : EReal))
variable (hk : ∀ b p l, m ((c : Thread nD τ).loc main_arg1) (ix3 b p l) = (kR b p l : EReal))
variable (hv : ∀ b p l, m ((c : Thread nD τ).loc main_arg2) (ix3 b p l) = (vR b p l : EReal))

include hq hk hv in
theorem wrote_at (t : Fin cfg0.N) (Y X : S1x4096x256.Idx → Elt Ideal .bf16) (h : Wrote m c t Y X)
    (y : Fin 2) (tt : Fin 8) (r : Fin 512) (d : Fin 128) :
    X (ix3 (0 : Fin 1) (pos tt r) (l256 y d))
      = if tt = dt (grid0.coords t) 0 ∨ tt = dt (grid0.coords t) 1 then target m c qR kR vR (gb t) (hd2 (gh t) y) (pos tt r) d
        else Y (ix3 (0 : Fin 1) (pos tt r) (l256 y d)) := by
  obtain ⟨f0, f1, f2, f3, f4, f5, f6, f7, f8, f9, g0, g1, g2, g3, g4, g5, e0, e1, e2, e3, e4, e5, e6, e7, e8, e9, rfl⟩ := h
  have hp := congrFun (point_holds (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    f0 f1 f2 f3 f4 f5 f6 f7 f8 f9 g0 g1 g2 g3 g4 g5 y tt) (ix3 (0 : Fin 1) r d)
  have key (x : Fin 2) : finO (k0_pay33 (View.readAt (Elt Ideal) (st0_0 t).view (Rect.unit (s := S1x64) ![0, 0] S1x64.size inb_S1x64_S1x64_0_0).toLoadRect f0) (View.readAt (Elt Ideal) (st0_1 t).view (Rect.unit (s := S1x64) ![0, 0] S1x64.size inb_S1x64_S1x64_0_0).toLoadRect f1) (View.readAt (Elt Ideal) (st0_2 t).view (Rect.unit (s := S1x64) ![0, 0] S1x64.size inb_S1x64_S1x64_0_0).toLoadRect f2) (View.readAt (Elt Ideal) (st0_3 t).view (Rect.unit (s := S1x64) ![0, 0] S1x64.size inb_S1x64_S1x64_0_0).toLoadRect f3)) (View.readAt (Elt Ideal) (st0_4 t).view (Rect.unit (s := S128x1) ![0, 0] S128x1.size inb_S128x1_S128x1_0_0).toLoadRect f4) ((blkOf (st0_5 t).view (st0_6 t).view (st0_7 t).view (st0_8 t).view f5 f6 f7 f8).A (grid0.coords t) 7 y x) (ix3 (0 : Fin 1) r d)
      = target m c qR kR vR (gb t) (hd2 (gh t) y) (pos (dt (grid0.coords t) x) r) d := by
    rw [tile_at (blkOf (st0_5 t).view (st0_6 t).view (st0_7 t).view (st0_8 t).view f5 f6 f7 f8) (grid0.coords t) y x
      (headOf qR (gb t) (hd2 (gh t) y)) (headOf kR (gb t) (hd2 (gh t) y)) (headOf vR (gb t) (hd2 (gh t) y))
      (fun t' r' d' => by
        refine (kAt_at (st0_5 t).view f5 y t' r' d').trans ?_
        rw [e5]
        refine (blk_q c m t _ _).trans ?_
        show V m c main_v0 (ix3 (gb t) (pos t' r') (pchan (gh t) (l256 y d'))) = _
        rw [pchan_l256, entry_q, hq]; rfl)
      (fun t' r' d' => by
        refine (kAt_at (st0_6 t).view f6 y t' r' d').trans ?_
        rw [e6]
        refine (blk_k c m t _ _).trans ?_
        show V m c main_v1 (ix3 (gb t) (pos t' r') (pchan (gh t) (l256 y d'))) = _
        rw [pchan_l256, entry_k, hk]; rfl)
      (fun t' r' d' => by
        refine (vAt_at (st0_7 t).view f7 y t' _ r').trans ?_
        rw [e7]
        refine (blk_v c m t _ _ _ _).trans ?_
        exact (entry_v m c (gb t) (hd2 (gh t) y) t' d' r').trans (hv _ _ _))
      (fun t' r' => by
        refine (vAt_at (st0_7 t).view f7 y t' _ r').trans ?_
        rw [e7]
        refine (blk_v c m t _ _ _ _).trans ?_
        exact entry_one m c (gb t) (hd2 (gh t) y) t' r')
      (fun t' r' row hrow => by
        refine (vAt_at (st0_7 t).view f7 y t' _ r').trans ?_
        rw [e7]
        refine (blk_v c m t _ _ _ _).trans ?_
        exact entry_zero m c (gb t) (hd2 (gh t) y) t' row r' hrow)
      (fun r' u' => by
        refine (full_at (st0_8 t).view f8 _ r' u').trans ?_
        rw [e8]
        refine (blk_c c m t _ _).trans ?_
        exact entry_mask m c r' u')]
    unfold target
    have hw : View.readAt (Elt Ideal) (st0_4 t).view (Rect.unit (s := S128x1) ![0, 0] S128x1.size inb_S128x1_S128x1_0_0).toLoadRect f4 (ix2 d (0 : Fin 1)) = m ((c : Thread nD τ).loc main_arg7) (ix1 d) := by
      refine (full_at (st0_4 t).view f4 _ d 0).trans ?_
      rw [e4]
      exact (blk_w c m t d).trans (entry_w m c d)
    have h0 (x : Fin 64) : View.readAt (Elt Ideal) (st0_0 t).view (Rect.unit (s := S1x64) ![0, 0] S1x64.size inb_S1x64_S1x64_0_0).toLoadRect f0 (ix2 (0 : Fin 1) x) = m ((c : Thread nD τ).loc main_arg3) (ix1 x) := by
      refine (full_at (st0_0 t).view f0 _ 0 x).trans ?_
      rw [e0]
      exact (blk_l1 c m t x).trans (entry_lam m c x)
    have h1 (x : Fin 64) : View.readAt (Elt Ideal) (st0_1 t).view (Rect.unit (s := S1x64) ![0, 0] S1x64.size inb_S1x64_S1x64_0_0).toLoadRect f1 (ix2 (0 : Fin 1) x) = m ((c : Thread nD τ).loc main_arg4) (ix1 x) := by
      refine (full_at (st0_1 t).view f1 _ 0 x).trans ?_
      rw [e1]
      exact (blk_l2 c m t x).trans (entry_lam2 m c x)
    have h2 (x : Fin 64) : View.readAt (Elt Ideal) (st0_2 t).view (Rect.unit (s := S1x64) ![0, 0] S1x64.size inb_S1x64_S1x64_0_0).toLoadRect f2 (ix2 (0 : Fin 1) x) = m ((c : Thread nD τ).loc main_arg5) (ix1 x) := by
      refine (full_at (st0_2 t).view f2 _ 0 x).trans ?_
      rw [e2]
      exact (blk_l3 c m t x).trans (entry_lam3 m c x)
    have h3 (x : Fin 64) : View.readAt (Elt Ideal) (st0_3 t).view (Rect.unit (s := S1x64) ![0, 0] S1x64.size inb_S1x64_S1x64_0_0).toLoadRect f3 (ix2 (0 : Fin 1) x) = m ((c : Thread nD τ).loc main_arg6) (ix1 x) := by
      refine (full_at (st0_3 t).view f3 _ 0 x).trans ?_
      rw [e3]
      exact (blk_l4 c m t x).trans (entry_lam4 m c x)
    rw [hw, lam_at, funext h0, funext h1, funext h2, funext h3]
    rfl
  refine (kAt_at (st0_9 t).view _ y tt r d).symm.trans (hp.trans ?_)
  by_cases c0 : tt = dt (grid0.coords t) 0
  · rw [if_pos c0, if_pos (Or.inl c0), key 0, c0]
  · rw [if_neg c0]
    by_cases c1 : tt = dt (grid0.coords t) 1
    · rw [if_pos c1, if_pos (Or.inr c1), key 1, c1]
    · rw [if_neg c1, if_neg (not_or.2 ⟨c0, c1⟩)]
      refine (kAt_at (st0_9 t).view f9 y tt r d).trans ?_
      rw [e9]

/-! ## The four points of a block -/

theorem coords_facts : ∀ t : Fin grid0.N, (grid0.coords t 2).val = t.val % 4 ∧ (gb t).val = t.val / 16 ∧ (gh t).val = t.val / 4 % 4 := by
  decide +kernel

theorem dt_zero_iff (i : grid0.Coords) (tt : Fin 8) : tt = dt i 0 ↔ tt.val = (i 2).val := by
  have : (i 2).val < 4 := (i 2).isLt
  unfold dt
  rw [if_pos (by rfl), Fin.ext_iff]
  show tt.val = (i 2).val % 8 ↔ _
  rw [Nat.mod_eq_of_lt (by omega)]

theorem dt_one_iff (i : grid0.Coords) (tt : Fin 8) : tt = dt i 1 ↔ tt.val = 7 - (i 2).val := by
  have : (i 2).val < 4 := (i 2).isLt
  unfold dt
  rw [if_neg (by decide), Fin.ext_iff]
  show tt.val = (7 - (i 2).val) % 8 ↔ _
  rw [Nat.mod_eq_of_lt (by omega)]

include hq hk hv in
theorem leaves_at (n : ℕ) : ∀ (t : Fin cfg0.N) (hn : t.val % 4 = n) (X : S1x4096x256.Idx → Elt Ideal .bf16) (hX : (rdat m c).Leaves 9 t X)
    (y : Fin 2) (tt : Fin 8) (htt : tt.val ≤ n ∨ 7 - n ≤ tt.val) (r : Fin 512) (d : Fin 128),
    X (ix3 (0 : Fin 1) (pos tt r) (l256 y d)) = target m c qR kR vR (gb t) (hd2 (gh t) y) (pos tt r) d := by
  induction n with
  | zero =>
    rintro t hn X ⟨Y, -, hW⟩ y tt htt r d
    rw [show (rdat m c).after 9 = Wrote m c from (dats m 0 c).toR.override_after_of_eq_some (ovr := ovr m c) rfl] at hW
    rw [wrote_at m c qR kR vR hq hk hv t Y X hW, if_pos]
    have := (coords_facts t).1
    rw [dt_zero_iff, dt_one_iff]
    omega
  | succ n ih =>
    rintro t hn X ⟨Y, hY, hW⟩ y tt htt r d
    rw [show (rdat m c).after 9 = Wrote m c from (dats m 0 c).toR.override_after_of_eq_some (ovr := ovr m c) rfl] at hW
    rw [wrote_at m c qR kR vR hq hk hv t Y X hW]
    have hc := coords_facts t
    by_cases hh : tt = dt (grid0.coords t) 0 ∨ tt = dt (grid0.coords t) 1
    · rw [if_pos hh]
    · rw [if_neg hh]
      rw [dt_zero_iff, dt_one_iff, hc.1] at hh
      rcases ((rdat m c).finds_of_pos (w := 9) (t := t) rfl (by omega) Y).mp hY with hf | hl
      · have := (flush0_9 _).mp hf
        dsimp only at this
        omega
      · have hc' := coords_facts ⟨t.val - 1, Nat.lt_of_le_of_lt (Nat.sub_le _ _) t.isLt⟩
        have eb : gb ⟨t.val - 1, Nat.lt_of_le_of_lt (Nat.sub_le _ _) t.isLt⟩ = gb t := Fin.ext (by rw [hc'.2.1, hc.2.1]; dsimp only; omega)
        have eh : gh ⟨t.val - 1, Nat.lt_of_le_of_lt (Nat.sub_le _ _) t.isLt⟩ = gh t := Fin.ext (by rw [hc'.2.2, hc.2.2]; dsimp only; omega)
        rw [ih ⟨t.val - 1, Nat.lt_of_le_of_lt (Nat.sub_le _ _) t.isLt⟩ (by dsimp only; omega) Y hl y tt (by omega) r d, eb, eh]

/-- The result array. -/
def outG : S8x4096x1024.Idx → EReal := fun j =>
  target m c qR kR vR (j 0) (⟨(j 2).val / 128, by have : (j 2).val < 1024 := (j 2).isLt; omega⟩ : Fin 8) (j 1) (⟨(j 2).val % 128, Nat.mod_lt _ (by decide)⟩ : Fin 128)

include hq hk hv in
theorem out_eq (r : PUnit × MemSt nD τ sig (Elt Ideal)) (h : RDat.FramePost cfg0 (rdat m) (V m) r) :
    r.2.mem ((c : Thread nD τ).loc main_v28) = outG m c qR kR vR := by
  obtain ⟨after, hL, hA⟩ := RDat.FramePost.exists_exact h c
  refine (hA 9).trans ?_
  refine Dat.arrAt_eq_of_covers _ 9 _ (by decide +kernel) fun t hf y => ?_
  blk_simp
  have hl := hL 9 t hf
  have hn := (flush0_9 t).mp hf
  obtain ⟨p, hp⟩ : ∃ p : Fin 4096, p = y 1 := ⟨y 1, rfl⟩
  obtain ⟨l, hl2⟩ : ∃ l : Fin 256, l = y 2 := ⟨y 2, rfl⟩
  have hp' : p.val = (y 1).val := congrArg Fin.val hp
  have hl' : l.val = (y 2).val := congrArg Fin.val hl2
  have hp4 := p.isLt
  have hl4 := l.isLt
  have e0 : (((win0_9.blk t).view.emb y) 0 : ℕ) = (gb t).val := by
    blk_simp [index_9]
    rfl
  have e1 : (((win0_9.blk t).view.emb y) 1 : ℕ) = p.val := by
    blk_simp [index_9]
    exact hp'.symm
  have e2 : (((win0_9.blk t).view.emb y) 2 : ℕ) = 256 * (gh t).val + l.val := by
    blk_simp [index_9]
    show (grid0.coords t 1).val * 256 + (y 2).val = 256 * (grid0.coords t 1).val + l.val
    omega
  have hy : y = ix3 (0 : Fin 1) (pos ⟨p.val / 512, by omega⟩ ⟨p.val % 512, Nat.mod_lt _ (by decide)⟩) (l256 ⟨l.val / 128, by omega⟩ ⟨l.val % 128, Nat.mod_lt _ (by decide)⟩) := by
    funext a
    apply Fin.ext
    match a with
    | ⟨0, _⟩ => have : (y 0).val < 1 := (y 0).isLt; show (y 0).val = 0; omega
    | ⟨1, _⟩ => show (y 1).val = 512 * (p.val / 512) + p.val % 512; omega
    | ⟨2, _⟩ => show (y 2).val = 128 * (l.val / 128) + l.val % 128; omega
  have hlast := leaves_at m c qR kR vR hq hk hv 3 t hn (after 9 t) hl ⟨l.val / 128, by omega⟩ ⟨p.val / 512, by omega⟩ (by dsimp only; omega) ⟨p.val % 512, Nat.mod_lt _ (by decide)⟩ ⟨l.val % 128, Nat.mod_lt _ (by decide)⟩
  refine (congrArg (after 9 t) hy).trans (hlast.trans ?_)
  have hg4 : (gh t).val < 4 := (gh t).isLt
  unfold outG
  have a0 : gb t = ((win0_9.blk t).view.emb y) 0 := Fin.ext e0.symm
  have a1 : (pos ⟨p.val / 512, by omega⟩ ⟨p.val % 512, Nat.mod_lt _ (by decide)⟩ : Fin 4096) = ((win0_9.blk t).view.emb y) 1 :=
    Fin.ext (by rw [e1]; show 512 * (p.val / 512) + p.val % 512 = p.val; omega)
  have a2 : hd2 (gh t) ⟨l.val / 128, by omega⟩ = ⟨(((win0_9.blk t).view.emb y) 2 : ℕ) / 128, by rw [e2]; omega⟩ :=
    Fin.ext (by show 2 * (gh t).val + l.val / 128 = (((win0_9.blk t).view.emb y) 2 : ℕ) / 128; rw [e2]; omega)
  have a3 : (⟨l.val % 128, Nat.mod_lt _ (by decide)⟩ : Fin 128) = ⟨(((win0_9.blk t).view.emb y) 2 : ℕ) % 128, Nat.mod_lt _ (by decide)⟩ :=
    Fin.ext (by show l.val % 128 = (((win0_9.blk t).view.emb y) 2 : ℕ) % 128; rw [e2]; omega)
  rw [a1, a2, a3, a0]

end Out

end Cert.KernelIdeal.Hand

end
-- ==== Proof.Ref.lean ====
module

public import proofs.«01_k».proof.Proof.Gen.ReferenceIdeal.Read
public import proofs.«01_k».proof.Proof.Spec
public import Idealize.ShloMosaic.Lib.WordCmp

/-! The reference's result, element by element, over real queries, keys and values: the normalised difference of the two
maps' weighted means. -/

@[expose] public section

set_option maxRecDepth 16384

noncomputable section

namespace Cert.ReferenceIdeal.Hand

open Cert.ReferenceIdeal Cert.ReferenceIdeal.Gen Cert.ReferenceIdeal.Read Cert.Soft Idealize.ShloMosaic Idealize.ShloMosaic.TcCoe

abbrev X := (⟨S8x4096x1024, .f32⟩ : BufTy).Contents (Elt Ideal)
abbrev Y := (⟨S64, .f32⟩ : BufTy).Contents (Elt Ideal)

/-- A channel from its head and its lane there. -/
def chan (h : Fin 8) (l : Fin 128) : Fin 1024 := ⟨128 * h.val + l.val, by omega⟩

theorem v0_ix (b h : Fin 8) (m : Fin 2) (p : Fin 4096) (d : Fin 64) :
    idx_main_v0 (idx_main_v1 (ix5 b h m p d)) = ix3 b p (chan h (lane m d)) := by
  funext a
  match a with
  | ⟨0, _⟩ => exact Fin.ext (by show ((((b.val * 4096 + p.val) * 8 + h.val) * 2 + m.val) * 64 + d.val) / 4194304 = b.val; omega)
  | ⟨1, _⟩ => exact Fin.ext (by show ((((b.val * 4096 + p.val) * 8 + h.val) * 2 + m.val) * 64 + d.val) / 1024 % 4096 = p.val; omega)
  | ⟨2, _⟩ => exact Fin.ext (by show ((((b.val * 4096 + p.val) * 8 + h.val) * 2 + m.val) * 64 + d.val) % 1024 = 128 * h.val + (64 * m.val + d.val); omega)

theorem v6_ix (b h : Fin 8) (p : Fin 4096) (d : Fin 128) :
    idx_main_v6 (idx_main_v7 (ix4 b h p d)) = ix3 b p (chan h d) := by
  funext a
  match a with
  | ⟨0, _⟩ => exact Fin.ext (by show (((b.val * 4096 + p.val) * 8 + h.val) * 128 + d.val) / 4194304 = b.val; omega)
  | ⟨1, _⟩ => exact Fin.ext (by show (((b.val * 4096 + p.val) * 8 + h.val) * 128 + d.val) / 1024 % 4096 = p.val; omega)
  | ⟨2, _⟩ => exact Fin.ext (by show (((b.val * 4096 + p.val) * 8 + h.val) * 128 + d.val) % 1024 = 128 * h.val + d.val; omega)

theorem eighth : Ideal.ofBits .f32 0x3E000000#32 = ((1 / 8 : ℝ) : EReal) := by
  simp [Ideal.ofBits, Ideal.ieee]
  rw [← EReal.coe_mul]; norm_num

/-- A sum over one axis' indices. -/
theorem sum_one {n : ℕ} (f : (⟨1, ![n]⟩ : Shape).Idx → EReal) : ∑ j, f j = ∑ x : Fin n, f (ix1 x) :=
  Fintype.sum_equiv ⟨fun j => (j 0 : Fin n), fun x => ix1 x, fun j => funext fun a => by match a with | ⟨0, _⟩ => rfl, fun _ => rfl⟩ _ _
    fun j => congrArg f (funext fun a => by match a with | ⟨0, _⟩ => rfl)

theorem v3_at (x0 : X) (b h : Fin 8) (m : Fin 2) (p : Fin 4096) (d : Fin 64) :
    val_main_v3 (F := Ideal) x0 (ix5 b h m p d) = x0 (ix3 b p (chan h (lane m d))) * ((1 / 8 : ℝ) : EReal) := by
  rw [val_main_v3_apply, val_main_v1_apply, val_main_v0_apply, v0_ix, val_main_v2_apply, val_main_cst_apply, ← eighth]; rfl

theorem v5_at (x1 : X) (b h : Fin 8) (m : Fin 2) (p : Fin 4096) (d : Fin 64) :
    val_main_v5 (F := Ideal) x1 (ix5 b h m p d) = x1 (ix3 b p (chan h (lane m d))) := by
  rw [val_main_v5_apply, val_main_v4_apply]; exact congrArg x1 (v0_ix b h m p d)

theorem v7_at (x2 : X) (b h : Fin 8) (p : Fin 4096) (d : Fin 128) :
    val_main_v7 (F := Ideal) x2 (ix4 b h p d) = x2 (ix3 b p (chan h d)) := by
  rw [val_main_v7_apply, val_main_v6_apply, v6_ix]

theorem v15_at (a b c d : Y) :
    val_main_v15 (F := Ideal) a b c d ix0 = lamE (fun x => a (ix1 x)) (fun x => b (ix1 x)) (fun x => c (ix1 x)) (fun x => d (ix1 x)) := by
  rw [val_main_v15_apply, val_main_v14_apply, val_main_v10_apply, val_main_v13_apply, val_main_v9_apply, val_main_v12_apply]
  simp only [val_main_v8_apply, val_main_v11_apply, val_main_cst_0_apply, val_main_cst_1_apply, val_main_cst_2_apply]
  show Ideal.exp (Ideal.ofBits .f32 0#32 + _) - Ideal.exp (Ideal.ofBits .f32 0#32 + _) + _ = _
  rw [Ideal.ofBits_zero_f32, zero_add, zero_add]
  unfold lamE
  congr 1
  congr 1
  · exact congrArg Ideal.exp ((sum_one _).trans rfl)
  · exact congrArg Ideal.exp ((sum_one _).trans rfl)

theorem mask_at (p p' : Fin 4096) : val_main_v22 (F := Ideal) (ix2 p p') = if p' ≤ p then 1#1 else 0#1 := by
  rw [val_main_v22_apply, val_main_v20_apply, val_main_v21_apply, val_main_v18_apply, val_main_v19_apply, val_main_v17_apply, val_main_v17_apply]
  show IntOp.cmpi .sle (BitVec.ofNat 32 p'.val) (BitVec.ofNat 32 p.val) = _
  have h (x : Fin 4096) : (BitVec.ofNat 32 x.val).toNat = x.val := by
    rw [BitVec.toNat_ofNat, Nat.mod_eq_of_lt (by omega)]
  rw [WordCmp.cmpi_sle_of_lt (by rw [h]; omega) (by rw [h]; omega), h, h]
  by_cases hh : p' ≤ p
  · rw [if_pos hh, decide_eq_true (Fin.le_def.1 hh)]; rfl
  · rw [if_neg hh, decide_eq_false (fun h' => hh (Fin.le_def.2 h'))]; rfl

section Head

variable (x0 x1 x2 : X) (b h : Fin 8) (q k v : Fin 4096 → Fin 128 → ℝ)
variable (hq : ∀ p l, x0 (ix3 b p (chan h l)) = (q p l : EReal)) (hk : ∀ p l, x1 (ix3 b p (chan h l)) = (k p l : EReal))
variable (hv : ∀ p l, x2 (ix3 b p (chan h l)) = (v p l : EReal))

include hq hk in
theorem v16_at (m : Fin 2) (p p' : Fin 4096) :
    val_main_v16 (F := Ideal) x0 x1 (ix5 b h m p p') = ((dotR q k m p p' / 8 : ℝ) : EReal) := by
  rw [val_main_v16_apply]
  unfold dotR
  rw [Finset.sum_div, coe_sum]
  refine Finset.sum_congr rfl fun d _ => ?_
  rw [show lidx_main_v16 (ix5 b h m p p') d = ix5 b h m p d from funext fun a => by
      match a with
      | ⟨0, _⟩ => rfl
      | ⟨1, _⟩ => rfl
      | ⟨2, _⟩ => rfl
      | ⟨3, _⟩ => rfl
      | ⟨4, _⟩ => rfl,
    show ridx_main_v16 (ix5 b h m p p') d = ix5 b h m p' d from funext fun a => by
      match a with
      | ⟨0, _⟩ => rfl
      | ⟨1, _⟩ => rfl
      | ⟨2, _⟩ => rfl
      | ⟨3, _⟩ => rfl
      | ⟨4, _⟩ => rfl,
    v3_at, v5_at, hq, hk, ← EReal.coe_mul, ← EReal.coe_mul]
  congr 1; ring

/-- A masked score. -/
def scoreR (m : Fin 2) (p p' : Fin 4096) : EReal := if p' ≤ p then ((dotR q k m p p' / 8 : ℝ) : EReal) else ⊥

include hq hk in
theorem v23_at (m : Fin 2) (p p' : Fin 4096) :
    val_main_v23 (F := Ideal) x0 x1 (ix5 b h m p p') = scoreR q k m p p' := by
  rw [val_main_v23_apply, val_main_call0_v1_apply, v16_at x0 x1 b h q k hq hk, val_main_call0_v2_apply, val_main_call0_v0_apply, val_main_cst_3_apply,
    show idx_main_call0_v1 (ix5 b h m p p') = ix2 p p' from funext fun a => by
      match a with
      | ⟨0, _⟩ => rfl
      | ⟨1, _⟩ => rfl, mask_at]
  unfold scoreR
  by_cases hh : p' ≤ p
  · rw [if_pos hh, if_pos hh]; rfl
  · rw [if_neg hh, if_neg hh]; exact ofBits_neg_inf

include hq hk in
theorem v24_at (m : Fin 2) (p : Fin 4096) :
    val_main_v24 (F := Ideal) x0 x1 (ix4 b h m p) = Finset.fold max ⊥ (scoreR q k m p) Finset.univ := by
  unfold val_main_v24
  refine (Host.reduce_eq_fold_single (max : EReal → EReal → EReal) (val_main_v23 (F := Ideal) x0 x1) (val_main_cst_4 (F := Ideal))
    reducesTo_S8x8x2x4096x4096_S8x8x2x4096_d4 (by decide) h_S_ (ix4 b h m p)).trans ?_
  rw [show val_main_cst_4 (F := Ideal) (Shape.Idx.first h_S_) = (⊥ : EReal) from ofBits_neg_inf]
  refine Finset.fold_congr fun p' _ => ?_
  rw [← v23_at x0 x1 b h q k hq hk m p p']
  exact congrArg (val_main_v23 (F := Ideal) x0 x1) (funext fun a => Fin.ext (by
      match a with
      | ⟨0, _⟩ => rfl
      | ⟨1, _⟩ => rfl
      | ⟨2, _⟩ => rfl
      | ⟨3, _⟩ => rfl
      | ⟨4, _⟩ => rfl))

include hq hk in
theorem v28_at (m : Fin 2) (p : Fin 4096) :
    ∃ μ : ℝ, ∀ p', val_main_v28 (F := Ideal) x0 x1 (ix5 b h m p p') = (μ : EReal) := by
  obtain ⟨μ, hμ⟩ := fold_real Finset.univ (scoreR q k m p)
    (fun r _ => by unfold scoreR; split; exacts [EReal.coe_ne_top _, bot_ne_top])
    ⟨p, Finset.mem_univ _, by unfold scoreR; rw [if_pos le_rfl]; exact EReal.coe_ne_bot _⟩
  refine ⟨μ, fun p' => ?_⟩
  rw [val_main_v28_apply, val_main_v27_apply, val_main_v26_apply, val_main_v25_apply, val_main_cst_5_apply,
    show idx_main_v27 (idx_main_v28 (ix5 b h m p p')) = ix4 b h m p from funext fun a => by
      match a with
      | ⟨0, _⟩ => rfl
      | ⟨1, _⟩ => rfl
      | ⟨2, _⟩ => rfl
      | ⟨3, _⟩ => rfl, v24_at x0 x1 b h q k hq hk, hμ]
  show max (Ideal.ofBits .f32 0xFF800000#32) (μ : EReal) = _
  rw [ofBits_neg_inf]; exact max_eq_right bot_le

include hq hk in
/-- A weight over the row's maximum. -/
theorem v30_at (m : Fin 2) (p : Fin 4096) :
    ∃ μ : ℝ, ∀ p', val_main_v30 (F := Ideal) x0 x1 (ix5 b h m p p') = ((Real.exp (-μ) * wt q k m p p' : ℝ) : EReal) := by
  obtain ⟨μ, hμ⟩ := v28_at x0 x1 b h q k hq hk m p
  refine ⟨μ, fun p' => ?_⟩
  rw [val_main_v30_apply, val_main_v29_apply, hμ, v23_at x0 x1 b h q k hq hk]
  show Ideal.exp (scoreR q k m p p' - (μ : EReal)) = _
  unfold scoreR wt
  by_cases hh : p' ≤ p
  · rw [if_pos hh, if_pos hh, ← EReal.coe_sub]
    show ((Real.exp (dotR q k m p p' / 8 - μ) : ℝ) : EReal) = _
    rw [sub_eq_add_neg, Real.exp_add, mul_comm]
  · rw [if_neg hh, if_neg hh, EReal.bot_sub, mul_zero, EReal.coe_zero]; rfl

include hq hk in
/-- A row's weights sum to one. -/
theorem v35_at (m : Fin 2) (p p' : Fin 4096) :
    val_main_v35 (F := Ideal) x0 x1 (ix5 b h m p p') = ((wt q k m p p' / ∑ r, wt q k m p r : ℝ) : EReal) := by
  obtain ⟨μ, hμ⟩ := v30_at x0 x1 b h q k hq hk m p
  have hs : val_main_v31 (F := Ideal) x0 x1 (ix4 b h m p) = ((Real.exp (-μ) * ∑ r, wt q k m p r : ℝ) : EReal) := by
    rw [val_main_v31_apply, Finset.mul_sum, coe_sum]
    rw [show val_main_cst_6 (F := Ideal) (Shape.Idx.first h_S_) = (0 : EReal) from Ideal.ofBits_zero_f32, zero_add]
    refine Finset.sum_congr rfl fun r _ => ?_
    rw [← hμ r]
    exact congrArg (val_main_v30 (F := Ideal) x0 x1) (funext fun a => by
      match a with
      | ⟨0, _⟩ => rfl
      | ⟨1, _⟩ => rfl
      | ⟨2, _⟩ => rfl
      | ⟨3, _⟩ => rfl
      | ⟨4, _⟩ => rfl)
  rw [val_main_v35_apply, val_main_call1_v1_apply, val_main_call1_v2_apply, val_main_call1_v0_apply, val_main_cst_7_apply, val_main_v34_apply,
    val_main_v33_apply, val_main_v32_apply, hμ,
    show idx_main_v32 (idx_main_v33 (ix5 b h m p p')) = ix4 b h m p from funext fun a => by
      match a with
      | ⟨0, _⟩ => rfl
      | ⟨1, _⟩ => rfl
      | ⟨2, _⟩ => rfl
      | ⟨3, _⟩ => rfl, hs,
    show idx_main_call1_v1 (ix5 b h m p p') = ix2 p p' from funext fun a => by
      match a with
      | ⟨0, _⟩ => rfl
      | ⟨1, _⟩ => rfl, mask_at]
  by_cases hh : p' ≤ p
  · rw [if_pos hh]
    exact div_scaled _ _ _ (Real.exp_pos _) (wt_sum_pos q k m p)
  · rw [if_neg hh]
    show Ideal.ofBits .f32 0#32 = _
    unfold wt; rw [if_neg hh, zero_div, EReal.coe_zero]; exact Ideal.ofBits_zero_f32

theorem v37_at (p p' : Fin 4096) : val_main_v37 (F := Ideal) x0 x1 (ix4 b h p p') = val_main_v35 (F := Ideal) x0 x1 (ix5 b h 0 p p') := by
  rw [val_main_v37_apply, val_main_v36_apply]
  refine congrArg _ (funext fun a => ?_)
  match a with
  | ⟨0, _⟩ => exact Fin.ext (by show (((b.val * 8 + h.val) * 4096 + p.val) * 4096 + p'.val) / 134217728 = b.val; omega)
  | ⟨1, _⟩ => exact Fin.ext (by show (((b.val * 8 + h.val) * 4096 + p.val) * 4096 + p'.val) / 16777216 % 8 = h.val; omega)
  | ⟨2, _⟩ => rfl
  | ⟨3, _⟩ => exact Fin.ext (by show (((b.val * 8 + h.val) * 4096 + p.val) * 4096 + p'.val) / 4096 % 4096 = p.val; omega)
  | ⟨4, _⟩ => exact Fin.ext (by show (((b.val * 8 + h.val) * 4096 + p.val) * 4096 + p'.val) % 4096 = p'.val; omega)

theorem v39_at (p p' : Fin 4096) : val_main_v39 (F := Ideal) x0 x1 (ix4 b h p p') = val_main_v35 (F := Ideal) x0 x1 (ix5 b h 1 p p') := by
  rw [val_main_v39_apply, val_main_v38_apply]
  refine congrArg _ (funext fun a => ?_)
  match a with
  | ⟨0, _⟩ => exact Fin.ext (by show (((b.val * 8 + h.val) * 4096 + p.val) * 4096 + p'.val) / 134217728 = b.val; omega)
  | ⟨1, _⟩ => exact Fin.ext (by show (((b.val * 8 + h.val) * 4096 + p.val) * 4096 + p'.val) / 16777216 % 8 = h.val; omega)
  | ⟨2, _⟩ => rfl
  | ⟨3, _⟩ => exact Fin.ext (by show (((b.val * 8 + h.val) * 4096 + p.val) * 4096 + p'.val) / 4096 % 4096 = p.val; omega)
  | ⟨4, _⟩ => exact Fin.ext (by show (((b.val * 8 + h.val) * 4096 + p.val) * 4096 + p'.val) % 4096 = p'.val; omega)

variable (x3 x4 x5 x6 : Y) (ℓ : ℝ)
variable (hl : lamE (fun x => x3 (ix1 x)) (fun x => x4 (ix1 x)) (fun x => x5 (ix1 x)) (fun x => x6 (ix1 x)) = (ℓ : EReal))

include hq hk hv hl in
theorem v43_at (p : Fin 4096) (d : Fin 128) :
    val_main_v43 (F := Ideal) x0 x1 x2 x3 x4 x5 x6 (ix4 b h p d) = (soft q k v 0 p d : EReal) - (ℓ : EReal) * (soft q k v 1 p d : EReal) := by
  have e : soft q k v 0 p d - ℓ * soft q k v 1 p d
      = ∑ p', (wt q k 0 p p' / ∑ r, wt q k 0 p r - ℓ * (wt q k 1 p p' / ∑ r, wt q k 1 p r)) * v p' d := by
    unfold soft
    rw [Finset.sum_div, Finset.sum_div, Finset.mul_sum, ← Finset.sum_sub_distrib]
    refine Finset.sum_congr rfl fun p' _ => ?_
    ring
  rw [val_main_v43_apply, ← EReal.coe_mul, ← EReal.coe_sub, e, coe_sum]
  refine Finset.sum_congr rfl fun p' _ => ?_
  rw [show lidx_main_v43 (ix4 b h p d) p' = ix4 b h p p' from funext fun a => by
      match a with
      | ⟨0, _⟩ => rfl
      | ⟨1, _⟩ => rfl
      | ⟨2, _⟩ => rfl
      | ⟨3, _⟩ => rfl,
    show ridx_main_v43 (ix4 b h p d) p' = ix4 b h p' d from funext fun a => by
      match a with
      | ⟨0, _⟩ => rfl
      | ⟨1, _⟩ => rfl
      | ⟨2, _⟩ => rfl
      | ⟨3, _⟩ => rfl, v7_at, hv, val_main_v42_apply, val_main_v41_apply, v37_at, v39_at, v35_at x0 x1 b h q k hq hk, v35_at x0 x1 b h q k hq hk, val_main_v40_apply,
    show idx_main_v40 (ix4 b h p p') = ix0 from funext fun a => a.elim0, v15_at, hl]
  show (((wt q k 0 p p' / ∑ r, wt q k 0 p r : ℝ) : EReal) - (ℓ : EReal) * ((wt q k 1 p p' / ∑ r, wt q k 1 p r : ℝ) : EReal)) * ((v p' d : ℝ) : EReal) = _
  rw [← EReal.coe_mul, ← EReal.coe_sub, ← EReal.coe_mul]

include hq hk hv hl in
/-- An element of a head's output. -/
theorem v58_at (x7 : (⟨S128, .f32⟩ : BufTy).Contents (Elt Ideal)) (p : Fin 4096) (d : Fin 128) :
    val_main_v58 (F := Ideal) x0 x1 x2 x3 x4 x5 x6 x7 (ix4 b h p d)
      = norm (fun e => (soft q k v 0 p e : EReal) - (ℓ : EReal) * (soft q k v 1 p e : EReal)) (x7 (ix1 d)) d := by
  have h43 := v43_at x0 x1 x2 b h q k v hq hk hv x3 x4 x5 x6 ℓ hl p
  have hs : val_main_v45 (F := Ideal) x0 x1 x2 x3 x4 x5 x6 (ix3 b h p)
      = ∑ e, ((soft q k v 0 p e : EReal) - (ℓ : EReal) * (soft q k v 1 p e : EReal)) * ((soft q k v 0 p e : EReal) - (ℓ : EReal) * (soft q k v 1 p e : EReal)) := by
    rw [val_main_v45_apply, show val_main_cst_8 (F := Ideal) (Shape.Idx.first h_S_) = (0 : EReal) from Ideal.ofBits_zero_f32, zero_add]
    refine Finset.sum_congr rfl fun e _ => ?_
    rw [val_main_v44_apply, ← h43 e, show idx_main_v45 (ix3 b h p) e = ix4 b h p e from funext fun a => by
      match a with
      | ⟨0, _⟩ => rfl
      | ⟨1, _⟩ => rfl
      | ⟨2, _⟩ => rfl
      | ⟨3, _⟩ => rfl]
    rfl
  rw [val_main_v58_apply, val_main_v57_apply, val_main_cst_11_apply, val_main_v56_apply, val_main_v55_apply, val_main_v54_apply, val_main_v53_apply, val_main_v52_apply,
    val_main_v51_apply, val_main_v50_apply, val_main_v49_apply, val_main_cst_10_apply, val_main_v48_apply, val_main_v47_apply, val_main_cst_9_apply,
    val_main_v46_apply, h43, show idx_main_v46 (idx_main_v52 (ix4 b h p d)) = ix3 b h p from funext fun a => by
      match a with
      | ⟨0, _⟩ => rfl
      | ⟨1, _⟩ => rfl
      | ⟨2, _⟩ => rfl, hs,
    show idx_main_v54 (idx_main_v55 (ix4 b h p d)) = ix1 d from funext fun a => by
      match a with
      | ⟨0, _⟩ => rfl]
  rfl

include hq hk hv hl in
/-- An element of the result. -/
theorem v61_at (x7 : (⟨S128, .f32⟩ : BufTy).Contents (Elt Ideal)) (p : Fin 4096) (d : Fin 128) :
    val_main_v61 (F := Ideal) x0 x1 x2 x3 x4 x5 x6 x7 (ix3 b p (chan h d))
      = norm (fun e => (soft q k v 0 p e : EReal) - (ℓ : EReal) * (soft q k v 1 p e : EReal)) (x7 (ix1 d)) d := by
  rw [val_main_v61_apply, val_main_v60_apply, val_main_v59_apply, ← v58_at x0 x1 x2 b h q k v hq hk hv x3 x4 x5 x6 ℓ hl x7 p d]
  refine congrArg (val_main_v58 (F := Ideal) x0 x1 x2 x3 x4 x5 x6 x7) (funext fun a => ?_)
  match a with
  | ⟨0, _⟩ => exact Fin.ext (by show ((b.val * 4096 + p.val) * 1024 + (128 * h.val + d.val)) / 4194304 = b.val; omega)
  | ⟨1, _⟩ => exact Fin.ext (by show ((b.val * 4096 + p.val) * 1024 + (128 * h.val + d.val)) / 128 % 8 = h.val; omega)
  | ⟨2, _⟩ => exact Fin.ext (by show ((b.val * 4096 + p.val) * 1024 + (128 * h.val + d.val)) / 1024 % 4096 = p.val; omega)
  | ⟨3, _⟩ => exact Fin.ext (by show ((b.val * 4096 + p.val) * 1024 + (128 * h.val + d.val)) % 128 = d.val; omega)

end Head

end Cert.ReferenceIdeal.Hand

end
-- ==== Proof.Finite.lean ====
module

public import proofs.«01_k».proof.Pre_finite
public import proofs.«01_k».proof.Proof.Core
public import Idealize.ShloMosaic.Lib.IdealHost

/-! What the precondition says: every argument it compares is an array of reals. -/

@[expose] public section

set_option maxRecDepth 16384

noncomputable section

namespace Cert.Pre_finite

open Idealize.ShloMosaic Cert.Soft

theorem facts : Facts := ⟨by decide, by decide, by decide⟩

/-- A comparison of an absolute value with infinity that holds everywhere says that every element is real. -/
theorem real_of_lt {s : Shape} (x : FVec Ideal s .f32) (h : (cmpf .olt (Host.absf x) (fun _ => Ideal.ofBits .f32 0x7F800000#32) : IVec s 1) = fun _ => 1#1) (j : s.Idx) :
    ∃ a : ℝ, x j = (a : EReal) := by
  have h1 : Ideal.cmp .olt (max (x j) (-x j) : EReal) (Ideal.ofBits .f32 0x7F800000#32) = 1#1 := congrFun h j
  have ht : Ideal.ofBits .f32 0x7F800000#32 = ⊤ := by simp [Ideal.ofBits, Ideal.ieee]
  rw [ht] at h1
  have h2 : max (x j) (-x j) < (⊤ : EReal) := by
    by_contra hc
    have h0 : Ideal.cmp .olt (max (x j) (-x j) : EReal) (⊤ : EReal) = 0#1 := by
      show BitVec.ofBool (decide (_ < (⊤ : EReal))) = 0#1
      rw [decide_eq_false hc]; rfl
    rw [h0] at h1
    exact absurd h1 (by decide)
  have h3 := max_lt_iff.1 h2
  generalize (x j : EReal) = e at h3 ⊢
  induction e using EReal.rec with
  | bot => simp at h3
  | top => simp at h3
  | coe a => exact ⟨a, rfl⟩

theorem lamE_real (a b c d : Fin 64 → EReal) (ha : ∀ x, ∃ r : ℝ, a x = r) (hb : ∀ x, ∃ r : ℝ, b x = r) (hc : ∀ x, ∃ r : ℝ, c x = r) (hd : ∀ x, ∃ r : ℝ, d x = r) :
    ∃ ℓ : ℝ, lamE a b c d = ℓ := by
  choose a' ha using ha
  choose b' hb using hb
  choose c' hc using hc
  choose d' hd using hd
  have hw : ∃ w : ℝ, Ideal.ofBits FTy.f32 1052116297#32 = (w : EReal) := by
    show ∃ w : ℝ, Ideal.ieee 8 23 1052116297#32 = (w : EReal)
    unfold Ideal.ieee
    dsimp only
    rw [if_neg (by decide), if_neg (by decide)]
    exact ⟨_, rfl⟩
  obtain ⟨w, hw⟩ := hw
  have hs (f g : Fin 64 → ℝ) : (∑ x, (f x : EReal) * (g x : EReal)) = ((∑ x, f x * g x : ℝ) : EReal) := by
    rw [coe_sum]; exact Finset.sum_congr rfl fun x _ => (EReal.coe_mul _ _).symm
  refine ⟨Real.exp (∑ x, a' x * b' x) - Real.exp (∑ x, c' x * d' x) + w, ?_⟩
  unfold lamE
  simp only [ha, hb, hc, hd]
  rw [hs, hs, hw]
  rfl

end Cert.Pre_finite

end
-- ==== Proof.Mlp.lean ====
module

public import Idealize.ShloMosaic.PureOps.Ideal
public import Mathlib.Algebra.BigOperators.Fin
public import Mathlib.Data.EReal.Operations

/-! One row of a layer's second half at extended reals: the attention's output projected and added, the RMS norm, the
squared-relu MLP added, and that the MLP's hidden sum may be taken in four parts. -/

@[expose] public section

noncomputable section

namespace Cert.Mlp

open Idealize.ShloMosaic

/-- A row over the root of its mean square, times the weights. -/
def rms (f g : Fin 1024 → EReal) (l : Fin 1024) : EReal :=
  f l * Ideal.rsqrt (Ideal.div (∑ k, f k * f k) (Ideal.ofBits .f32 0x44800000#32) + Ideal.ofBits .f32 0x358637BD#32) * g l

/-- The residual row plus the projected attention row. -/
def mix (x a : Fin 1024 → EReal) (w : Fin 1024 → Fin 1024 → EReal) (l : Fin 1024) : EReal := x l + ∑ k, a k * w k l

/-- A hidden unit: the square of the positive part. -/
def act (h : Fin 1024 → EReal) (u : Fin 1024 → EReal) : EReal := max (∑ k, h k * u k) 0 * max (∑ k, h k * u k) 0

/-- The residual row plus the MLP of its norm. -/
def ffn (y g : Fin 1024 → EReal) (u : Fin 1024 → Fin 4096 → EReal) (d : Fin 4096 → Fin 1024 → EReal) (l : Fin 1024) : EReal :=
  y l + ∑ j, act (rms y g) (fun k => u k j) * d j l

/-- A hidden unit from its part and its place there. -/
def part (q : Fin 4) (j : Fin 1024) : Fin 4096 := ⟨1024 * q.val + j.val, by omega⟩

theorem sum_parts (f : Fin 4096 → EReal) :
    ∑ j, f j = ∑ j, f (part 0 j) + ∑ j, f (part 1 j) + ∑ j, f (part 2 j) + ∑ j, f (part 3 j) := by
  rw [← Fin.sum_univ_four (fun q => ∑ j, f (part q j)), ← Fintype.sum_prod_type']
  refine (Fintype.sum_equiv (finProdFinEquiv (m := 4) (n := 1024)) _ _ fun p => ?_).symm
  exact congrArg f (Fin.ext (by show 1024 * p.1.val + p.2.val = p.2.val + 1024 * p.1.val; omega))

/-- The four parts one after another. -/
theorem ffn_parts (y g : Fin 1024 → EReal) (u : Fin 1024 → Fin 4096 → EReal) (d : Fin 4096 → Fin 1024 → EReal) (l : Fin 1024) :
    y l + ∑ j, act (rms y g) (fun k => u k (part 0 j)) * d (part 0 j) l + ∑ j, act (rms y g) (fun k => u k (part 1 j)) * d (part 1 j) l
      + ∑ j, act (rms y g) (fun k => u k (part 2 j)) * d (part 2 j) l + ∑ j, act (rms y g) (fun k => u k (part 3 j)) * d (part 3 j) l
    = ffn y g u d l := by
  unfold ffn
  rw [sum_parts]
  simp only [add_assoc]

/-- The row of a token's batch and position. -/
def tok (t : Fin 32768) : Fin 8 × Fin 4096 := (⟨t.val / 4096, by omega⟩, ⟨t.val % 4096, Nat.mod_lt _ (by decide)⟩)

end Cert.Mlp

end
-- ==== Proof.Post.lean ====
module

public import proofs.«01_k».proof.Proof.Gen.Kernel2Ideal.Value
public import proofs.«01_k».proof.Proof.Mlp
public import Idealize.ShloMosaic.Lib.Claim
public import Idealize.ShloMosaic.Lib.Pipeline.ValueKit
public import Idealize.ShloMosaic.Lib.Pointwise
public import Idealize.ShloMosaic.Lib.IdealHost
public import Idealize.ShloMosaic.Lib.StableHlo.ReadAt

/-! The last layer's second half, as the kernel computes it: one block of 1024 tokens, and the whole array. -/

@[expose] public section

set_option maxRecDepth 16384
set_option maxHeartbeats 4000000

noncomputable section

namespace Cert.Kernel2Ideal.Hand

open Cert.Kernel2Ideal Cert.Kernel2Ideal.Gen
open Idealize.ShloMosaic Idealize.ShloMosaic.TcCoe Idealize.ShloMosaic.Tactic
open Idealize.ShloMosaic.StableHlo
open Idealize.ShloMosaic.Pipeline (Dat)
open Cert.Mlp

/-! ## The body's values, element by element -/

section Body

variable (x : Vec Ideal S1024x1024 .f32) (a w : Vec Ideal S1024x1024 .bf16) (g : Vec Ideal S1x1024 .f32)

theorem mix_at (p l : Fin 1024) : k0_pay2 x a w (ix2 p l) = mix (fun k => x (ix2 p k)) (fun k => a (ix2 p k)) (fun k l => w (ix2 k l)) l := by
  pointwise [k0_pay2]
  rfl

theorem norm_at (p l : Fin 1024) : k0_pay3 x a w g (ix2 p l) = rms (fun k => k0_pay2 x a w (ix2 p k)) (fun k => g (ix2 0 k)) l := by
  pointwise [k0_pay3]
  rfl

theorem up0_at (u d : Vec Ideal S1024x1024 .bf16) (p l : Fin 1024) :
    k0_pay4 x a w g u d (ix2 p l) = k0_pay2 x a w (ix2 p l) + ∑ j : Fin 1024, act (fun k => k0_pay3 x a w g (ix2 p k)) (fun k => u (ix2 k j)) * d (ix2 j l) := by
  pointwise [k0_pay4]
  rfl

theorem up1_at (u : Vec Ideal S1024x1024 .bf16) (p l : Fin 1024) :
    k0_pay5 x a w g u (ix2 p l) = ∑ k : Fin 1024, k0_pay3 x a w g (ix2 p k) * u (ix2 k l) := by
  pointwise [k0_pay5]

theorem down_at (h : FVec Ideal S1024x1024 .bf16) (y s : FVec Ideal S1024x1024 .f32) (d1 u2 d2 u3 d3 : Vec Ideal S1024x1024 .bf16) (p l : Fin 1024) :
    k0_pay6 h y s d1 u2 d2 u3 d3 (ix2 p l)
      = y (ix2 p l) + ∑ j : Fin 1024, max (s (ix2 p j)) 0 * max (s (ix2 p j)) 0 * d1 (ix2 j l)
        + ∑ j : Fin 1024, act (fun k => h (ix2 p k)) (fun k => u2 (ix2 k j)) * d2 (ix2 j l)
        + ∑ j : Fin 1024, act (fun k => h (ix2 p k)) (fun k => u3 (ix2 k j)) * d3 (ix2 j l) := by
  pointwise [k0_pay6]
  rfl

theorem final_at (h : FVec Ideal S1024x1024 .bf16) (y s : FVec Ideal S1024x1024 .f32) (d1 u2 d2 u3 d3 : Vec Ideal S1024x1024 .bf16)
    (fg : Vec Ideal S1x1024 .f32) (p l : Fin 1024) :
    k0_pay1 (k0_pay6 h y s d1 u2 d2 u3 d3) (k0_pay7 fg) (k0_pay8 h y s d1 u2 d2 u3 d3) (Scalar.ofBits .f32 0x358637BD#32) (ix2 p l)
      = rms (fun k => k0_pay6 h y s d1 u2 d2 u3 d3 (ix2 p k)) (fun k => fg (ix2 0 k)) l := by
  pointwise [k0_pay1, k0_pay7, k0_pay8]
  rfl

end Body

/-! ## What a point leaves -/

theorem zero2 : (![0, 0] : Fin 2 → ℕ) = fun _ => 0 := funext fun a => by match a with | ⟨0, _⟩ => rfl | ⟨1, _⟩ => rfl

theorem out_at (x : Vec Ideal S1024x1024 .f32) (a w : Vec Ideal S1024x1024 .bf16) (g : Vec Ideal S1x1024 .f32) (u : Vec Ideal S1024x4096 .bf16)
    (d : Vec Ideal S4096x1024 .bf16) (fg : Vec Ideal S1x1024 .f32) (p l : Fin 1024) :
    out0_7 x a w g u d fg (ix2 p l)
      = rms (ffn (mix (fun k => x (ix2 p k)) (fun k => a (ix2 p k)) (fun k l => w (ix2 k l))) (fun k => g (ix2 0 k))
          (fun k j => u (ix2 k j)) (fun j l => d (ix2 j l))) (fun k => fg (ix2 0 k)) l := by
  unfold out0_7 k0_pay9 k0_pay10 k0_pay11
  rw [View.canon_unit_zero zero2, final_at]
  have l0 (X : Vec Ideal S1024x1024 .f32) : View.ld X r0_0 = X := View.ld_unit_zero zero2 _ X
  have l1 (X : Vec Ideal S1024x1024 .bf16) : View.ld X r0_0 = X := View.ld_unit_zero zero2 _ X
  have l2 (X : Vec Ideal S1x1024 .f32) : View.ld X r0_1 = X := View.ld_unit_zero zero2 _ X
  rw [l0, l1, l1, l2, l2]
  have e1 (k j : Fin 1024) : View.ld u r0_2 (ix2 k j) = u (ix2 k (part 0 j)) := congrArg u (funext fun a => Fin.ext (by match a with | ⟨0, _⟩ => (show 0 + 1 * k.val = k.val; omega) | ⟨1, _⟩ => (show 0 + 1 * j.val = 1024 * 0 + j.val; omega)))
  have e2 (k j : Fin 1024) : View.ld u r0_4 (ix2 k j) = u (ix2 k (part 1 j)) := congrArg u (funext fun a => Fin.ext (by match a with | ⟨0, _⟩ => (show 0 + 1 * k.val = k.val; omega) | ⟨1, _⟩ => (show 1024 + 1 * j.val = 1024 * 1 + j.val; omega)))
  have e3 (k j : Fin 1024) : View.ld u r0_6 (ix2 k j) = u (ix2 k (part 2 j)) := congrArg u (funext fun a => Fin.ext (by match a with | ⟨0, _⟩ => (show 0 + 1 * k.val = k.val; omega) | ⟨1, _⟩ => (show 2048 + 1 * j.val = 1024 * 2 + j.val; omega)))
  have e4 (k j : Fin 1024) : View.ld u r0_8 (ix2 k j) = u (ix2 k (part 3 j)) := congrArg u (funext fun a => Fin.ext (by match a with | ⟨0, _⟩ => (show 0 + 1 * k.val = k.val; omega) | ⟨1, _⟩ => (show 3072 + 1 * j.val = 1024 * 3 + j.val; omega)))
  have f1 (j l : Fin 1024) : View.ld d r0_3 (ix2 j l) = d (ix2 (part 0 j) l) := congrArg d (funext fun a => Fin.ext (by match a with | ⟨0, _⟩ => (show 0 + 1 * j.val = 1024 * 0 + j.val; omega) | ⟨1, _⟩ => (show 0 + 1 * l.val = l.val; omega)))
  have f2 (j l : Fin 1024) : View.ld d r0_5 (ix2 j l) = d (ix2 (part 1 j) l) := congrArg d (funext fun a => Fin.ext (by match a with | ⟨0, _⟩ => (show 1024 + 1 * j.val = 1024 * 1 + j.val; omega) | ⟨1, _⟩ => (show 0 + 1 * l.val = l.val; omega)))
  have f3 (j l : Fin 1024) : View.ld d r0_7 (ix2 j l) = d (ix2 (part 2 j) l) := congrArg d (funext fun a => Fin.ext (by match a with | ⟨0, _⟩ => (show 2048 + 1 * j.val = 1024 * 2 + j.val; omega) | ⟨1, _⟩ => (show 0 + 1 * l.val = l.val; omega)))
  have f4 (j l : Fin 1024) : View.ld d r0_9 (ix2 j l) = d (ix2 (part 3 j) l) := congrArg d (funext fun a => Fin.ext (by match a with | ⟨0, _⟩ => (show 3072 + 1 * j.val = 1024 * 3 + j.val; omega) | ⟨1, _⟩ => (show 0 + 1 * l.val = l.val; omega)))
  refine congrArg (fun f => rms f (fun k => fg (ix2 0 k)) l) (funext fun l => ?_)
  rw [down_at, up0_at]
  simp only [up1_at, norm_at, mix_at, e1, e2, e3, e4, f1, f2, f3, f4]
  exact ffn_parts _ _ (fun k j => u (ix2 k j)) (fun j l => d (ix2 j l)) l

/-! ## The operand arrays and their blocks -/

variable (m : (ℓ : Loc nD τ sig) → Buf (Elt Ideal) ℓ) (c : Dev nD)

theorem entry_x (t : Fin 32768) (l : Fin 1024) : V m c main_v2 (ix2 t l) = m ((c : Thread nD τ).loc main_arg0) (ix3 (tok t).1 (tok t).2 l) := by
  unfold V
  after_reads_at
  rfl

theorem entry_a (t : Fin 32768) (l : Fin 1024) : V m c main_v3 (ix2 t l) = m ((c : Thread nD τ).loc main_arg1) (ix3 (tok t).1 (tok t).2 l) := by
  unfold V
  after_reads_at
  rfl

theorem entry_w (k l : Fin 1024) : V m c main_v4 (ix2 k l) = m ((c : Thread nD τ).loc main_arg2) (ix2 k l) := by
  unfold V
  after_reads_at

theorem entry_g (l : Fin 1024) : V m c main_v5 (ix2 (0 : Fin 1) l) = m ((c : Thread nD τ).loc main_arg3) (ix1 l) := by
  unfold V
  after_reads_at

theorem entry_u (k : Fin 1024) (j : Fin 4096) : V m c main_v6 (ix2 k j) = m ((c : Thread nD τ).loc main_arg4) (ix2 k j) := by
  unfold V
  after_reads_at

theorem entry_d (j : Fin 4096) (l : Fin 1024) : V m c main_v7 (ix2 j l) = m ((c : Thread nD τ).loc main_arg5) (ix2 j l) := by
  unfold V
  after_reads_at

theorem entry_fg (l : Fin 1024) : V m c main_v1 (ix2 (0 : Fin 1) l) = m ((c : Thread nD τ).loc main_arg6) (ix1 l) := by
  unfold V
  after_reads_at

theorem idx_tok : ∀ t : Fin grid0.N, win0_0.index t = ![t.val, 0] ∧ win0_1.index t = ![t.val, 0] ∧ win0_7.index t = ![t.val, 0] := by decide +kernel
theorem index_0 (t : Fin grid0.N) : win0_0.index t = ![t.val, 0] := (idx_tok t).1
theorem index_1 (t : Fin grid0.N) : win0_1.index t = ![t.val, 0] := (idx_tok t).2.1
theorem index_7 (t : Fin grid0.N) : win0_7.index t = ![t.val, 0] := (idx_tok t).2.2
theorem index_2 (t : Fin grid0.N) : win0_2.index t = ![0, 0] := rfl
theorem index_3 (t : Fin grid0.N) : win0_3.index t = ![0, 0] := rfl
theorem index_4 (t : Fin grid0.N) : win0_4.index t = ![0, 0] := rfl
theorem index_5 (t : Fin grid0.N) : win0_5.index t = ![0, 0] := rfl
theorem index_6 (t : Fin grid0.N) : win0_6.index t = ![0, 0] := rfl

/-- The token of a point's row. -/
def rowOf (t : Fin grid0.N) (p : Fin 1024) : Fin 32768 := ⟨1024 * t.val + p.val, by have : t.val < 32 := t.isLt; omega⟩

theorem blk_x (t : Fin cfg0.N) (p l : Fin 1024) : iblk m c 0 t (ix2 p l) = V m c main_v2 (ix2 (rowOf t p) l) := by
  blk_ext [iblk, index_0, rowOf]

theorem blk_a (t : Fin cfg0.N) (p l : Fin 1024) : iblk m c 1 t (ix2 p l) = V m c main_v3 (ix2 (rowOf t p) l) := by
  blk_ext [iblk, index_1, rowOf]

theorem blk_w (t : Fin cfg0.N) (p l : Fin 1024) : iblk m c 2 t (ix2 p l) = V m c main_v4 (ix2 p l) := by
  blk_ext [iblk, index_2]

theorem blk_g (t : Fin cfg0.N) (l : Fin 1024) : iblk m c 3 t (ix2 (0 : Fin 1) l) = V m c main_v5 (ix2 (0 : Fin 1) l) := by
  blk_ext [iblk, index_3]

theorem blk_u (t : Fin cfg0.N) (k : Fin 1024) (j : Fin 4096) : iblk m c 4 t (ix2 k j) = V m c main_v6 (ix2 k j) := by
  blk_ext [iblk, index_4]

theorem blk_d (t : Fin cfg0.N) (j : Fin 4096) (l : Fin 1024) : iblk m c 5 t (ix2 j l) = V m c main_v7 (ix2 j l) := by
  blk_ext [iblk, index_5]

theorem blk_fg (t : Fin cfg0.N) (l : Fin 1024) : iblk m c 6 t (ix2 (0 : Fin 1) l) = V m c main_v1 (ix2 (0 : Fin 1) l) := by
  blk_ext [iblk, index_6]

/-! ## The array -/

/-- The layer's result, from the arguments. -/
def target : S32768x1024.Idx → EReal := fun j =>
  rms (ffn (mix (fun k => m ((c : Thread nD τ).loc main_arg0) (ix3 (tok (j 0)).1 (tok (j 0)).2 k)) (fun k => m ((c : Thread nD τ).loc main_arg1) (ix3 (tok (j 0)).1 (tok (j 0)).2 k))
      (fun k l => m ((c : Thread nD τ).loc main_arg2) (ix2 k l))) (fun k => m ((c : Thread nD τ).loc main_arg3) (ix1 k))
    (fun k i => m ((c : Thread nD τ).loc main_arg4) (ix2 k i)) (fun i l => m ((c : Thread nD τ).loc main_arg5) (ix2 i l)))
    (fun k => m ((c : Thread nD τ).loc main_arg6) (ix1 k)) (j 1)

theorem point_at (t : Fin cfg0.N) (p l : Fin 1024) :
    out0_7 (iblk m c 0 t) (iblk m c 1 t) (iblk m c 2 t) (iblk m c 3 t) (iblk m c 4 t) (iblk m c 5 t) (iblk m c 6 t) (ix2 p l)
      = target m c (ix2 (rowOf t p) l) := by
  rw [out_at]
  have h0 := funext fun k => (blk_x m c t p k).trans (entry_x m c _ k)
  have h1 := funext fun k => (blk_a m c t p k).trans (entry_a m c _ k)
  have h2 := funext fun k => funext fun l => (blk_w m c t k l).trans (entry_w m c k l)
  have h3 := funext fun k => (blk_g m c t k).trans (entry_g m c k)
  have h4 := funext fun k => funext fun j => (blk_u m c t k j).trans (entry_u m c k j)
  have h5 := funext fun j => funext fun l => (blk_d m c t j l).trans (entry_d m c j l)
  have h6 := funext fun k => (blk_fg m c t k).trans (entry_fg m c k)
  rw [h0, h1, h2, h3, h4, h5, h6]
  rfl

theorem arr_eq : (dats m 0 c).arrAt 7 cfg0.N = target m c := by
  refine Dat.arrAt_eq_of_covers _ 7 _ (by decide +kernel) fun t hf y => ?_
  blk_simp
  rw [after0_7]
  have hy : y = ix2 (y 0 : Fin 1024) (y 1 : Fin 1024) := funext fun a => by
    match a with
    | ⟨0, _⟩ => rfl
    | ⟨1, _⟩ => rfl
  have e0 : (((win0_7.blk t).view.emb y) 0 : ℕ) = 1024 * t.val + (y 0).val := by
    blk_simp [index_7]
    show t.val * 1024 + (y 0).val = _
    omega
  have e1 : (((win0_7.blk t).view.emb y) 1 : ℕ) = (y 1).val := by
    blk_simp [index_7]
  refine (congrArg (out0_7 _ _ _ _ _ _ _) hy).trans ((point_at m c t (y 0) (y 1)).trans ?_)
  exact congrArg (target m c) (funext fun a => Fin.ext (by
    match a with
    | ⟨0, _⟩ => exact e0.symm
    | ⟨1, _⟩ => exact e1.symm))

end Cert.Kernel2Ideal.Hand

end
-- ==== Proof.PostRef.lean ====
module

public import proofs.«01_k».proof.Proof.Gen.Reference2Ideal.Read
public import proofs.«01_k».proof.Proof.Mlp
public import Idealize.ShloMosaic.Lib.Pointwise
public import Idealize.ShloMosaic.Lib.IdealHost

/-! The last layer's second half, as the reference computes it, element by element. -/

@[expose] public section

set_option maxRecDepth 16384

noncomputable section

namespace Cert.Reference2Ideal.Hand

open Cert.Reference2Ideal Cert.Reference2Ideal.Gen Cert.Reference2Ideal.Read Cert.Mlp Idealize.ShloMosaic Idealize.ShloMosaic.TcCoe

variable (x0 x1 : (⟨S8x4096x1024, .f32⟩ : BufTy).Contents (Elt Ideal)) (x2 : (⟨S1024x1024, .f32⟩ : BufTy).Contents (Elt Ideal))
variable (x3 : (⟨S1024, .f32⟩ : BufTy).Contents (Elt Ideal)) (x4 : (⟨S1024x4096, .f32⟩ : BufTy).Contents (Elt Ideal))
variable (x5 : (⟨S4096x1024, .f32⟩ : BufTy).Contents (Elt Ideal)) (x6 : (⟨S1024, .f32⟩ : BufTy).Contents (Elt Ideal))
variable (b : Fin 8) (p : Fin 4096)

/-- The residual row after the projection. -/
def mixRow : Fin 1024 → EReal := mix (fun k => x0 (ix3 b p k)) (fun k => x1 (ix3 b p k)) (fun k l => x2 (ix2 k l))

/-- The row after the MLP. -/
def ffnRow : Fin 1024 → EReal := ffn (mixRow x0 x1 x2 b p) (fun k => x3 (ix1 k)) (fun k j => x4 (ix2 k j)) (fun j l => x5 (ix2 j l))

theorem ext3 {a b c : ℕ} {i j : (⟨3, ![a, b, c]⟩ : Shape).Idx} (h0 : i 0 = j 0) (h1 : i 1 = j 1) (h2 : i 2 = j 2) : i = j := funext fun a => by
  match a with
  | ⟨0, _⟩ => exact h0
  | ⟨1, _⟩ => exact h1
  | ⟨2, _⟩ => exact h2

theorem ext2 {a b : ℕ} {i j : (⟨2, ![a, b]⟩ : Shape).Idx} (h0 : i 0 = j 0) (h1 : i 1 = j 1) : i = j := funext fun a => by
  match a with
  | ⟨0, _⟩ => exact h0
  | ⟨1, _⟩ => exact h1

theorem ext1 {a : ℕ} {i j : (⟨1, ![a]⟩ : Shape).Idx} (h0 : i 0 = j 0) : i = j := funext fun a => by
  match a with
  | ⟨0, _⟩ => exact h0

theorem v1_at (l : Fin 1024) : val_main_v1 (F := Ideal) x0 x1 x2 (ix3 b p l) = mixRow x0 x1 x2 b p l := by
  rw [val_main_v1_apply, val_main_v0_apply]
  refine congrArg (x0 (ix3 b p l) + ·) (Finset.sum_congr rfl fun k _ => ?_)
  exact congrArg₂ (· * ·) (congrArg x1 (ext3 rfl rfl rfl)) (congrArg x2 (ext2 rfl rfl))

theorem v14_at (l : Fin 1024) : val_main_v14 (F := Ideal) x0 x1 x2 x3 (ix3 b p l) = rms (mixRow x0 x1 x2 b p) (fun k => x3 (ix1 k)) l := by
  rw [val_main_v14_apply, val_main_v11_apply, val_main_v10_apply, val_main_v9_apply, val_main_v8_apply, val_main_v6_apply, val_main_v4_apply, val_main_v3_apply,
    val_main_v5_apply, val_main_v7_apply, val_main_cst_0_apply, val_main_cst_1_apply, val_main_cst_apply, val_main_v13_apply, val_main_v12_apply, v1_at]
  have hs : ∑ k : Fin 1024, val_main_v2 (F := Ideal) x0 x1 x2 (idx_main_v3 (idx_main_v4 (idx_main_v10 (ix3 b p l))) k)
      = ∑ k, mixRow x0 x1 x2 b p k * mixRow x0 x1 x2 b p k := Finset.sum_congr rfl fun k _ => by
    rw [show idx_main_v3 (idx_main_v4 (idx_main_v10 (ix3 b p l))) k = ix3 b p k from ext3 rfl rfl rfl, val_main_v2_apply, v1_at]; rfl
  rw [hs]
  have hg : x3 (idx_main_v12 (idx_main_v13 (ix3 b p l))) = x3 (ix1 l) := congrArg x3 (ext1 rfl)
  rw [hg]
  show _ * Ideal.rsqrt (Ideal.div (Ideal.ofBits .f32 0x00000000#32 + _) _ + _) * _ = _
  rw [Ideal.ofBits_zero_f32, zero_add]
  rfl

theorem v17_at (j : Fin 4096) :
    val_main_v17 (F := Ideal) x0 x1 x2 x3 x4 (ix3 b p j) = act (rms (mixRow x0 x1 x2 b p) (fun k => x3 (ix1 k))) (fun k => x4 (ix2 k j)) := by
  have h : val_main_v16 (F := Ideal) x0 x1 x2 x3 x4 (ix3 b p j) = max (∑ k, rms (mixRow x0 x1 x2 b p) (fun k => x3 (ix1 k)) k * x4 (ix2 k j)) 0 := by
    rw [val_main_v16_apply, val_main_v15_apply, val_main_call0_v0_apply, val_main_call0_cst_apply]
    refine congrArg₂ max (Finset.sum_congr rfl fun k _ => ?_) Ideal.ofBits_zero_f32
    rw [← v14_at]
    exact congrArg₂ (· * ·) (congrArg (val_main_v14 (F := Ideal) x0 x1 x2 x3) (ext3 rfl rfl rfl)) (congrArg x4 (ext2 rfl rfl))
  rw [val_main_v17_apply, h]
  rfl

theorem v19_at (l : Fin 1024) : val_main_v19 (F := Ideal) x0 x1 x2 x3 x4 x5 (ix3 b p l) = ffnRow x0 x1 x2 x3 x4 x5 b p l := by
  rw [val_main_v19_apply, val_main_v18_apply, v1_at]
  refine congrArg (mixRow x0 x1 x2 b p l + ·) (Finset.sum_congr rfl fun j _ => ?_)
  rw [← v17_at]
  exact congrArg₂ (· * ·) (congrArg (val_main_v17 (F := Ideal) x0 x1 x2 x3 x4) (ext3 rfl rfl rfl)) (congrArg x5 (ext2 rfl rfl))

theorem v32_at (l : Fin 1024) : val_main_v32 (F := Ideal) x0 x1 x2 x3 x4 x5 x6 (ix3 b p l) = rms (ffnRow x0 x1 x2 x3 x4 x5 b p) (fun k => x6 (ix1 k)) l := by
  rw [val_main_v32_apply, val_main_v29_apply, val_main_v28_apply, val_main_v27_apply, val_main_v26_apply, val_main_v24_apply, val_main_v22_apply, val_main_v21_apply,
    val_main_v23_apply, val_main_v25_apply, val_main_cst_3_apply, val_main_cst_4_apply, val_main_cst_2_apply, val_main_v31_apply, val_main_v30_apply, v19_at]
  have hs : ∑ k : Fin 1024, val_main_v20 (F := Ideal) x0 x1 x2 x3 x4 x5 (idx_main_v21 (idx_main_v22 (idx_main_v28 (ix3 b p l))) k)
      = ∑ k, ffnRow x0 x1 x2 x3 x4 x5 b p k * ffnRow x0 x1 x2 x3 x4 x5 b p k := Finset.sum_congr rfl fun k _ => by
    rw [show idx_main_v21 (idx_main_v22 (idx_main_v28 (ix3 b p l))) k = ix3 b p k from ext3 rfl rfl rfl, val_main_v20_apply, v19_at]; rfl
  rw [hs]
  have hg : x6 (idx_main_v30 (idx_main_v31 (ix3 b p l))) = x6 (ix1 l) := congrArg x6 (ext1 rfl)
  rw [hg]
  show _ * Ideal.rsqrt (Ideal.div (Ideal.ofBits .f32 0x00000000#32 + _) _ + _) * _ = _
  rw [Ideal.ofBits_zero_f32, zero_add]
  rfl

theorem v33_at (t : Fin 32768) (l : Fin 1024) :
    val_main_v33 (F := Ideal) x0 x1 x2 x3 x4 x5 x6 (ix2 t l) = rms (ffnRow x0 x1 x2 x3 x4 x5 (tok t).1 (tok t).2) (fun k => x6 (ix1 k)) l := by
  rw [val_main_v33_apply, ← v32_at]
  refine congrArg _ (ext3 (Fin.ext ?_) (Fin.ext ?_) (Fin.ext ?_))
  · show (t.val * 1024 + l.val) / 4194304 = t.val / 4096; omega
  · show (t.val * 1024 + l.val) / 1024 % 4096 = t.val % 4096; omega
  · show (t.val * 1024 + l.val) % 1024 = l.val; omega

end Cert.Reference2Ideal.Hand

end
-- ==== Proof.PostClaim.lean ====
module

public import proofs.«01_k».proof.Defs
public import proofs.«01_k».proof.Proof.Post
public import proofs.«01_k».proof.Proof.PostRef
public import proofs.«01_k».proof.Proof.Gen.Reference2Ideal.Run
public import Idealize.ShloMosaic.Adequacy
public import Idealize.ShloMosaic.Init

/-! The claims about the last layer's second half. -/

@[expose] public section

set_option maxRecDepth 16384

noncomputable section

namespace Cert.Proof

open Idealize.ShloMosaic Idealize.SL.Sem

/-- The kernel before the idealization has the idealized one's text, so its side conditions are the same. -/
theorem facts_kernel2 : Cert.Kernel2.Facts := { Cert.Kernel2Ideal.Gen.facts with }

attribute [local instance] facts_kernel2

theorem defs₀_kernel2 : Cert.Kernel2.defs₀ (F := Bits) = Cert.Kernel2Ideal.defs₀ (F := Bits) :=
  congrArg Defs.onTc (funext fun l => funext fun a => by
    match l, a with
    | ⟨0, _⟩, (_, _) => rfl
    | ⟨_ + 1, h⟩, _ => exact absurd h (Nat.not_lt.2 (Nat.le_add_left _ _)))

theorem defs_kernel2 : Cert.Kernel2.defs (F := Bits) = Cert.Kernel2Ideal.defs (F := Bits) :=
  congrArg (Pipeline.defs (Cert.Kernel2Ideal.pcfgs (F := Bits))) defs₀_kernel2

theorem frame_kernel2 : Cert.quiescent_Kernel2 (hKernel2 := facts_kernel2) := fun m ρ _ => by
  rw [defs_kernel2]
  exact Cert.Kernel2Ideal.Gen.frame (F := Bits) m ρ

theorem frame_kernel2_ideal : Cert.quiescent_Kernel2Ideal (hKernel2Ideal := Cert.Kernel2Ideal.Gen.facts) := fun m ρ _ => Cert.Kernel2Ideal.Gen.frame m ρ

theorem frame_reference2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

/-- From the same arguments the reference's array is the kernel's. -/
theorem reference2_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v33 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
    = Cert.Kernel2Ideal.Hand.target m c := by
  funext j
  have hj : j = ix2 (j 0 : Fin 32768) (j 1 : Fin 1024) := funext fun a => by
    match a with
    | ⟨0, _⟩ => rfl
    | ⟨1, _⟩ => rfl
  exact (congrArg (Cert.Reference2Ideal.Read.val_main_v33 (F := Ideal) _ _ _ _ _ _ _) hj).trans
    (Cert.Reference2Ideal.Hand.v33_at _ _ _ _ _ _ _ (j 0) (j 1))

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Hand.target m c, ?_, ?_⟩
  · exact (θ_run _ _ _).mono (fun r h c => ⟨(h c).1.trans (Cert.Kernel2Ideal.Hand.arr_eq m c), (h c).2⟩) (Cert.Kernel2Ideal.Value.run_blocks m g)
  · refine (θ_run _ _ _).mono (fun r h c => ⟨?_, (h c).2⟩) (Cert.Reference2Ideal.Value.run (F := Ideal) m' g')
    obtain ⟨a0, a1, a2, a3, a4, a5, a6⟩ := hagree c
    refine ((h c).1.trans (Cert.Reference2Ideal.Read.val_main_v33_eq m' c)).trans ?_
    rw [a0, a1, a2, a3, a4, a5, a6]
    exact reference2_eq m c

end Cert.Proof

end
-- ==== Proof.PostFirst.lean ====
module

public import proofs.«01_k».proof.Proof.Gen.Kernel3Ideal.Value
public import proofs.«01_k».proof.Proof.Mlp
public import Idealize.ShloMosaic.Lib.Claim
public import Idealize.ShloMosaic.Lib.Pipeline.ValueKit
public import Idealize.ShloMosaic.Lib.Pointwise
public import Idealize.ShloMosaic.Lib.IdealHost
public import Idealize.ShloMosaic.Lib.StableHlo.ReadAt

/-! The first layer's second half, as the kernel computes it: one block of 1024 tokens, and the whole array. -/

@[expose] public section

set_option maxRecDepth 16384
set_option maxHeartbeats 4000000

noncomputable section

namespace Cert.Kernel3Ideal.Hand

open Cert.Kernel3Ideal Cert.Kernel3Ideal.Gen
open Idealize.ShloMosaic Idealize.ShloMosaic.TcCoe Idealize.ShloMosaic.Tactic
open Idealize.ShloMosaic.StableHlo
open Idealize.ShloMosaic.Pipeline (Dat)
open Cert.Mlp

/-! ## The body's values, element by element -/

section Body

variable (x : Vec Ideal S1024x1024 .f32) (a w : Vec Ideal S1024x1024 .bf16) (g : Vec Ideal S1x1024 .f32)

theorem mix_at (p l : Fin 1024) : k0_pay2 x a w (ix2 p l) = mix (fun k => x (ix2 p k)) (fun k => a (ix2 p k)) (fun k l => w (ix2 k l)) l := by
  pointwise [k0_pay2]
  rfl

theorem norm_at (p l : Fin 1024) : k0_pay3 x a w g (ix2 p l) = rms (fun k => k0_pay2 x a w (ix2 p k)) (fun k => g (ix2 0 k)) l := by
  pointwise [k0_pay3]
  rfl

theorem up0_at (u d : Vec Ideal S1024x1024 .bf16) (p l : Fin 1024) :
    k0_pay4 x a w g u d (ix2 p l) = k0_pay2 x a w (ix2 p l) + ∑ j : Fin 1024, act (fun k => k0_pay3 x a w g (ix2 p k)) (fun k => u (ix2 k j)) * d (ix2 j l) := by
  pointwise [k0_pay4]
  rfl

theorem up1_at (u : Vec Ideal S1024x1024 .bf16) (p l : Fin 1024) :
    k0_pay5 x a w g u (ix2 p l) = ∑ k : Fin 1024, k0_pay3 x a w g (ix2 p k) * u (ix2 k l) := by
  pointwise [k0_pay5]

theorem down_at (h : FVec Ideal S1024x1024 .bf16) (y s : FVec Ideal S1024x1024 .f32) (d1 u2 d2 u3 d3 : Vec Ideal S1024x1024 .bf16) (p l : Fin 1024) :
    k0_pay1 h y s d1 u2 d2 u3 d3 (ix2 p l)
      = y (ix2 p l) + ∑ j : Fin 1024, max (s (ix2 p j)) 0 * max (s (ix2 p j)) 0 * d1 (ix2 j l)
        + ∑ j : Fin 1024, act (fun k => h (ix2 p k)) (fun k => u2 (ix2 k j)) * d2 (ix2 j l)
        + ∑ j : Fin 1024, act (fun k => h (ix2 p k)) (fun k => u3 (ix2 k j)) * d3 (ix2 j l) := by
  pointwise [k0_pay1]
  rfl

end Body

/-! ## What a point leaves -/

theorem zero2 : (![0, 0] : Fin 2 → ℕ) = fun _ => 0 := funext fun a => by match a with | ⟨0, _⟩ => rfl | ⟨1, _⟩ => rfl

theorem out_at (x : Vec Ideal S1024x1024 .f32) (a w : Vec Ideal S1024x1024 .bf16) (g : Vec Ideal S1x1024 .f32) (u : Vec Ideal S1024x4096 .bf16)
    (d : Vec Ideal S4096x1024 .bf16) (fg : Vec Ideal S1x1024 .f32) (p l : Fin 1024) :
    out0_7 x a w g u d fg (ix2 p l)
      = ffn (mix (fun k => x (ix2 p k)) (fun k => a (ix2 p k)) (fun k l => w (ix2 k l))) (fun k => g (ix2 0 k))
          (fun k j => u (ix2 k j)) (fun j l => d (ix2 j l)) l := by
  unfold out0_7
  rw [View.canon_unit_zero zero2]
  have l0 (X : Vec Ideal S1024x1024 .f32) : View.ld X r0_0 = X := View.ld_unit_zero zero2 _ X
  have l1 (X : Vec Ideal S1024x1024 .bf16) : View.ld X r0_0 = X := View.ld_unit_zero zero2 _ X
  have l2 (X : Vec Ideal S1x1024 .f32) : View.ld X r0_1 = X := View.ld_unit_zero zero2 _ X
  rw [l0, l1, l1, l2]
  have e1 (k j : Fin 1024) : View.ld u r0_2 (ix2 k j) = u (ix2 k (part 0 j)) := congrArg u (funext fun a => Fin.ext (by match a with | ⟨0, _⟩ => (show 0 + 1 * k.val = k.val; omega) | ⟨1, _⟩ => (show 0 + 1 * j.val = 1024 * 0 + j.val; omega)))
  have e2 (k j : Fin 1024) : View.ld u r0_4 (ix2 k j) = u (ix2 k (part 1 j)) := congrArg u (funext fun a => Fin.ext (by match a with | ⟨0, _⟩ => (show 0 + 1 * k.val = k.val; omega) | ⟨1, _⟩ => (show 1024 + 1 * j.val = 1024 * 1 + j.val; omega)))
  have e3 (k j : Fin 1024) : View.ld u r0_6 (ix2 k j) = u (ix2 k (part 2 j)) := congrArg u (funext fun a => Fin.ext (by match a with | ⟨0, _⟩ => (show 0 + 1 * k.val = k.val; omega) | ⟨1, _⟩ => (show 2048 + 1 * j.val = 1024 * 2 + j.val; omega)))
  have e4 (k j : Fin 1024) : View.ld u r0_8 (ix2 k j) = u (ix2 k (part 3 j)) := congrArg u (funext fun a => Fin.ext (by match a with | ⟨0, _⟩ => (show 0 + 1 * k.val = k.val; omega) | ⟨1, _⟩ => (show 3072 + 1 * j.val = 1024 * 3 + j.val; omega)))
  have f1 (j l : Fin 1024) : View.ld d r0_3 (ix2 j l) = d (ix2 (part 0 j) l) := congrArg d (funext fun a => Fin.ext (by match a with | ⟨0, _⟩ => (show 0 + 1 * j.val = 1024 * 0 + j.val; omega) | ⟨1, _⟩ => (show 0 + 1 * l.val = l.val; omega)))
  have f2 (j l : Fin 1024) : View.ld d r0_5 (ix2 j l) = d (ix2 (part 1 j) l) := congrArg d (funext fun a => Fin.ext (by match a with | ⟨0, _⟩ => (show 1024 + 1 * j.val = 1024 * 1 + j.val; omega) | ⟨1, _⟩ => (show 0 + 1 * l.val = l.val; omega)))
  have f3 (j l : Fin 1024) : View.ld d r0_7 (ix2 j l) = d (ix2 (part 2 j) l) := congrArg d (funext fun a => Fin.ext (by match a with | ⟨0, _⟩ => (show 2048 + 1 * j.val = 1024 * 2 + j.val; omega) | ⟨1, _⟩ => (show 0 + 1 * l.val = l.val; omega)))
  have f4 (j l : Fin 1024) : View.ld d r0_9 (ix2 j l) = d (ix2 (part 3 j) l) := congrArg d (funext fun a => Fin.ext (by match a with | ⟨0, _⟩ => (show 3072 + 1 * j.val = 1024 * 3 + j.val; omega) | ⟨1, _⟩ => (show 0 + 1 * l.val = l.val; omega)))
  rw [down_at, up0_at]
  simp only [up1_at, norm_at, mix_at, e1, e2, e3, e4, f1, f2, f3, f4]
  exact ffn_parts _ _ (fun k j => u (ix2 k j)) (fun j l => d (ix2 j l)) l

/-! ## The operand arrays and their blocks -/

variable (m : (ℓ : Loc nD τ sig) → Buf (Elt Ideal) ℓ) (c : Dev nD)

theorem entry_x (t : Fin 32768) (l : Fin 1024) : V m c main_v3 (ix2 t l) = m ((c : Thread nD τ).loc main_arg0) (ix3 (tok t).1 (tok t).2 l) := by
  unfold V
  after_reads_at
  rfl

theorem entry_a (t : Fin 32768) (l : Fin 1024) : V m c main_v4 (ix2 t l) = m ((c : Thread nD τ).loc main_arg1) (ix3 (tok t).1 (tok t).2 l) := by
  unfold V
  after_reads_at
  rfl

theorem entry_w (k l : Fin 1024) : V m c main_v5 (ix2 k l) = m ((c : Thread nD τ).loc main_arg2) (ix2 k l) := by
  unfold V
  after_reads_at

theorem entry_g (l : Fin 1024) : V m c main_v6 (ix2 (0 : Fin 1) l) = m ((c : Thread nD τ).loc main_arg3) (ix1 l) := by
  unfold V
  after_reads_at

theorem entry_u (k : Fin 1024) (j : Fin 4096) : V m c main_v7 (ix2 k j) = m ((c : Thread nD τ).loc main_arg4) (ix2 k j) := by
  unfold V
  after_reads_at

theorem entry_d (j : Fin 4096) (l : Fin 1024) : V m c main_v8 (ix2 j l) = m ((c : Thread nD τ).loc main_arg5) (ix2 j l) := by
  unfold V
  after_reads_at

theorem idx_tok : ∀ t : Fin grid0.N, win0_0.index t = ![t.val, 0] ∧ win0_1.index t = ![t.val, 0] ∧ win0_7.index t = ![t.val, 0] := by decide +kernel
theorem index_0 (t : Fin grid0.N) : win0_0.index t = ![t.val, 0] := (idx_tok t).1
theorem index_1 (t : Fin grid0.N) : win0_1.index t = ![t.val, 0] := (idx_tok t).2.1
theorem index_7 (t : Fin grid0.N) : win0_7.index t = ![t.val, 0] := (idx_tok t).2.2
theorem index_2 (t : Fin grid0.N) : win0_2.index t = ![0, 0] := rfl
theorem index_3 (t : Fin grid0.N) : win0_3.index t = ![0, 0] := rfl
theorem index_4 (t : Fin grid0.N) : win0_4.index t = ![0, 0] := rfl
theorem index_5 (t : Fin grid0.N) : win0_5.index t = ![0, 0] := rfl

/-- The token of a point's row. -/
def rowOf (t : Fin grid0.N) (p : Fin 1024) : Fin 32768 := ⟨1024 * t.val + p.val, by have : t.val < 32 := t.isLt; omega⟩

theorem blk_x (t : Fin cfg0.N) (p l : Fin 1024) : iblk m c 0 t (ix2 p l) = V m c main_v3 (ix2 (rowOf t p) l) := by
  blk_ext [iblk, index_0, rowOf]

theorem blk_a (t : Fin cfg0.N) (p l : Fin 1024) : iblk m c 1 t (ix2 p l) = V m c main_v4 (ix2 (rowOf t p) l) := by
  blk_ext [iblk, index_1, rowOf]

theorem blk_w (t : Fin cfg0.N) (p l : Fin 1024) : iblk m c 2 t (ix2 p l) = V m c main_v5 (ix2 p l) := by
  blk_ext [iblk, index_2]

theorem blk_g (t : Fin cfg0.N) (l : Fin 1024) : iblk m c 3 t (ix2 (0 : Fin 1) l) = V m c main_v6 (ix2 (0 : Fin 1) l) := by
  blk_ext [iblk, index_3]

theorem blk_u (t : Fin cfg0.N) (k : Fin 1024) (j : Fin 4096) : iblk m c 4 t (ix2 k j) = V m c main_v7 (ix2 k j) := by
  blk_ext [iblk, index_4]

theorem blk_d (t : Fin cfg0.N) (j : Fin 4096) (l : Fin 1024) : iblk m c 5 t (ix2 j l) = V m c main_v8 (ix2 j l) := by
  blk_ext [iblk, index_5]

/-! ## The array -/

/-- The layer's result, from the arguments. -/
def target : S32768x1024.Idx → EReal := fun j =>
  ffn (mix (fun k => m ((c : Thread nD τ).loc main_arg0) (ix3 (tok (j 0)).1 (tok (j 0)).2 k)) (fun k => m ((c : Thread nD τ).loc main_arg1) (ix3 (tok (j 0)).1 (tok (j 0)).2 k))
      (fun k l => m ((c : Thread nD τ).loc main_arg2) (ix2 k l))) (fun k => m ((c : Thread nD τ).loc main_arg3) (ix1 k))
    (fun k i => m ((c : Thread nD τ).loc main_arg4) (ix2 k i)) (fun i l => m ((c : Thread nD τ).loc main_arg5) (ix2 i l)) (j 1)

theorem point_at (t : Fin cfg0.N) (p l : Fin 1024) :
    out0_7 (iblk m c 0 t) (iblk m c 1 t) (iblk m c 2 t) (iblk m c 3 t) (iblk m c 4 t) (iblk m c 5 t) (iblk m c 6 t) (ix2 p l)
      = target m c (ix2 (rowOf t p) l) := by
  rw [out_at]
  have h0 := funext fun k => (blk_x m c t p k).trans (entry_x m c _ k)
  have h1 := funext fun k => (blk_a m c t p k).trans (entry_a m c _ k)
  have h2 := funext fun k => funext fun l => (blk_w m c t k l).trans (entry_w m c k l)
  have h3 := funext fun k => (blk_g m c t k).trans (entry_g m c k)
  have h4 := funext fun k => funext fun j => (blk_u m c t k j).trans (entry_u m c k j)
  have h5 := funext fun j => funext fun l => (blk_d m c t j l).trans (entry_d m c j l)
  rw [h0, h1, h2, h3, h4, h5]
  rfl

theorem arr_eq : (dats m 0 c).arrAt 7 cfg0.N = target m c := by
  refine Dat.arrAt_eq_of_covers _ 7 _ (by decide +kernel) fun t hf y => ?_
  blk_simp
  rw [after0_7]
  have hy : y = ix2 (y 0 : Fin 1024) (y 1 : Fin 1024) := funext fun a => by
    match a with
    | ⟨0, _⟩ => rfl
    | ⟨1, _⟩ => rfl
  have e0 : (((win0_7.blk t).view.emb y) 0 : ℕ) = 1024 * t.val + (y 0).val := by
    blk_simp [index_7]
    show t.val * 1024 + (y 0).val = _
    omega
  have e1 : (((win0_7.blk t).view.emb y) 1 : ℕ) = (y 1).val := by
    blk_simp [index_7]
  refine (congrArg (out0_7 _ _ _ _ _ _ _) hy).trans ((point_at m c t (y 0) (y 1)).trans ?_)
  exact congrArg (target m c) (funext fun a => Fin.ext (by
    match a with
    | ⟨0, _⟩ => exact e0.symm
    | ⟨1, _⟩ => exact e1.symm))

end Cert.Kernel3Ideal.Hand

end
-- ==== Proof.PostFirstRef.lean ====
module

public import proofs.«01_k».proof.Proof.Gen.Reference3Ideal.Read
public import proofs.«01_k».proof.Proof.Mlp
public import Idealize.ShloMosaic.Lib.Pointwise
public import Idealize.ShloMosaic.Lib.IdealHost

/-! The first layer's second half, as the reference computes it, element by element. -/

@[expose] public section

set_option maxRecDepth 16384

noncomputable section

namespace Cert.Reference3Ideal.Hand

open Cert.Reference3Ideal Cert.Reference3Ideal.Gen Cert.Reference3Ideal.Read Cert.Mlp Idealize.ShloMosaic Idealize.ShloMosaic.TcCoe

variable (x0 x1 : (⟨S8x4096x1024, .f32⟩ : BufTy).Contents (Elt Ideal)) (x2 : (⟨S1024x1024, .f32⟩ : BufTy).Contents (Elt Ideal))
variable (x3 : (⟨S1024, .f32⟩ : BufTy).Contents (Elt Ideal)) (x4 : (⟨S1024x4096, .f32⟩ : BufTy).Contents (Elt Ideal))
variable (x5 : (⟨S4096x1024, .f32⟩ : BufTy).Contents (Elt Ideal))
variable (b : Fin 8) (p : Fin 4096)

/-- The residual row after the projection. -/
def mixRow : Fin 1024 → EReal := mix (fun k => x0 (ix3 b p k)) (fun k => x1 (ix3 b p k)) (fun k l => x2 (ix2 k l))

/-- The row after the MLP. -/
def ffnRow : Fin 1024 → EReal := ffn (mixRow x0 x1 x2 b p) (fun k => x3 (ix1 k)) (fun k j => x4 (ix2 k j)) (fun j l => x5 (ix2 j l))

theorem ext3 {a b c : ℕ} {i j : (⟨3, ![a, b, c]⟩ : Shape).Idx} (h0 : i 0 = j 0) (h1 : i 1 = j 1) (h2 : i 2 = j 2) : i = j := funext fun a => by
  match a with
  | ⟨0, _⟩ => exact h0
  | ⟨1, _⟩ => exact h1
  | ⟨2, _⟩ => exact h2

theorem ext2 {a b : ℕ} {i j : (⟨2, ![a, b]⟩ : Shape).Idx} (h0 : i 0 = j 0) (h1 : i 1 = j 1) : i = j := funext fun a => by
  match a with
  | ⟨0, _⟩ => exact h0
  | ⟨1, _⟩ => exact h1

theorem ext1 {a : ℕ} {i j : (⟨1, ![a]⟩ : Shape).Idx} (h0 : i 0 = j 0) : i = j := funext fun a => by
  match a with
  | ⟨0, _⟩ => exact h0

theorem v1_at (l : Fin 1024) : val_main_v1 (F := Ideal) x0 x1 x2 (ix3 b p l) = mixRow x0 x1 x2 b p l := by
  rw [val_main_v1_apply, val_main_v0_apply]
  refine congrArg (x0 (ix3 b p l) + ·) (Finset.sum_congr rfl fun k _ => ?_)
  exact congrArg₂ (· * ·) (congrArg x1 (ext3 rfl rfl rfl)) (congrArg x2 (ext2 rfl rfl))

theorem v14_at (l : Fin 1024) : val_main_v14 (F := Ideal) x0 x1 x2 x3 (ix3 b p l) = rms (mixRow x0 x1 x2 b p) (fun k => x3 (ix1 k)) l := by
  rw [val_main_v14_apply, val_main_v11_apply, val_main_v10_apply, val_main_v9_apply, val_main_v8_apply, val_main_v6_apply, val_main_v4_apply, val_main_v3_apply,
    val_main_v5_apply, val_main_v7_apply, val_main_cst_0_apply, val_main_cst_1_apply, val_main_cst_apply, val_main_v13_apply, val_main_v12_apply, v1_at]
  have hs : ∑ k : Fin 1024, val_main_v2 (F := Ideal) x0 x1 x2 (idx_main_v3 (idx_main_v4 (idx_main_v10 (ix3 b p l))) k)
      = ∑ k, mixRow x0 x1 x2 b p k * mixRow x0 x1 x2 b p k := Finset.sum_congr rfl fun k _ => by
    rw [show idx_main_v3 (idx_main_v4 (idx_main_v10 (ix3 b p l))) k = ix3 b p k from ext3 rfl rfl rfl, val_main_v2_apply, v1_at]; rfl
  rw [hs]
  have hg : x3 (idx_main_v12 (idx_main_v13 (ix3 b p l))) = x3 (ix1 l) := congrArg x3 (ext1 rfl)
  rw [hg]
  show _ * Ideal.rsqrt (Ideal.div (Ideal.ofBits .f32 0x00000000#32 + _) _ + _) * _ = _
  rw [Ideal.ofBits_zero_f32, zero_add]
  rfl

theorem v17_at (j : Fin 4096) :
    val_main_v17 (F := Ideal) x0 x1 x2 x3 x4 (ix3 b p j) = act (rms (mixRow x0 x1 x2 b p) (fun k => x3 (ix1 k))) (fun k => x4 (ix2 k j)) := by
  have h : val_main_v16 (F := Ideal) x0 x1 x2 x3 x4 (ix3 b p j) = max (∑ k, rms (mixRow x0 x1 x2 b p) (fun k => x3 (ix1 k)) k * x4 (ix2 k j)) 0 := by
    rw [val_main_v16_apply, val_main_v15_apply, val_main_call0_v0_apply, val_main_call0_cst_apply]
    refine congrArg₂ max (Finset.sum_congr rfl fun k _ => ?_) Ideal.ofBits_zero_f32
    rw [← v14_at]
    exact congrArg₂ (· * ·) (congrArg (val_main_v14 (F := Ideal) x0 x1 x2 x3) (ext3 rfl rfl rfl)) (congrArg x4 (ext2 rfl rfl))
  rw [val_main_v17_apply, h]
  rfl

theorem v19_at (l : Fin 1024) : val_main_v19 (F := Ideal) x0 x1 x2 x3 x4 x5 (ix3 b p l) = ffnRow x0 x1 x2 x3 x4 x5 b p l := by
  rw [val_main_v19_apply, val_main_v18_apply, v1_at]
  refine congrArg (mixRow x0 x1 x2 b p l + ·) (Finset.sum_congr rfl fun j _ => ?_)
  rw [← v17_at]
  exact congrArg₂ (· * ·) (congrArg (val_main_v17 (F := Ideal) x0 x1 x2 x3 x4) (ext3 rfl rfl rfl)) (congrArg x5 (ext2 rfl rfl))

theorem v20_at (t : Fin 32768) (l : Fin 1024) :
    val_main_v20 (F := Ideal) x0 x1 x2 x3 x4 x5 (ix2 t l) = ffnRow x0 x1 x2 x3 x4 x5 (tok t).1 (tok t).2 l := by
  rw [val_main_v20_apply, ← v19_at]
  refine congrArg _ (ext3 (Fin.ext ?_) (Fin.ext ?_) (Fin.ext ?_))
  · show (t.val * 1024 + l.val) / 4194304 = t.val / 4096; omega
  · show (t.val * 1024 + l.val) / 1024 % 4096 = t.val % 4096; omega
  · show (t.val * 1024 + l.val) % 1024 = l.val; omega

end Cert.Reference3Ideal.Hand

end
-- ==== Proof.PostFirstClaim.lean ====
module

public import proofs.«01_k».proof.Defs
public import proofs.«01_k».proof.Proof.PostFirst
public import proofs.«01_k».proof.Proof.PostFirstRef
public import proofs.«01_k».proof.Proof.Gen.Reference3Ideal.Run
public import Idealize.ShloMosaic.Adequacy
public import Idealize.ShloMosaic.Init

/-! The claims about the first layer's second half. -/

@[expose] public section

set_option maxRecDepth 16384

noncomputable section

namespace Cert.Proof

open Idealize.ShloMosaic Idealize.SL.Sem

/-- The kernel before the idealization has the idealized one's text, so its side conditions are the same. -/
theorem facts_kernel3 : Cert.Kernel3.Facts := { Cert.Kernel3Ideal.Gen.facts with }

attribute [local instance] facts_kernel3

theorem defs₀_kernel3 : Cert.Kernel3.defs₀ (F := Bits) = Cert.Kernel3Ideal.defs₀ (F := Bits) :=
  congrArg Defs.onTc (funext fun l => funext fun a => by
    match l, a with
    | ⟨0, _⟩, (_, _) => rfl
    | ⟨_ + 1, h⟩, _ => exact absurd h (Nat.not_lt.2 (Nat.le_add_left _ _)))

theorem defs_kernel3 : Cert.Kernel3.defs (F := Bits) = Cert.Kernel3Ideal.defs (F := Bits) :=
  congrArg (Pipeline.defs (Cert.Kernel3Ideal.pcfgs (F := Bits))) defs₀_kernel3

theorem frame_kernel3 : Cert.quiescent_Kernel3 (hKernel3 := facts_kernel3) := fun m ρ _ => by
  rw [defs_kernel3]
  exact Cert.Kernel3Ideal.Gen.frame (F := Bits) m ρ

theorem frame_kernel3_ideal : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

/-- From the same arguments the reference's array is the kernel's. -/
theorem reference3_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v20 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
    = Cert.Kernel3Ideal.Hand.target m c := by
  funext j
  have hj : j = ix2 (j 0 : Fin 32768) (j 1 : Fin 1024) := funext fun a => by
    match a with
    | ⟨0, _⟩ => rfl
    | ⟨1, _⟩ => rfl
  exact (congrArg (Cert.Reference3Ideal.Read.val_main_v20 (F := Ideal) _ _ _ _ _ _) hj).trans
    (Cert.Reference3Ideal.Hand.v20_at _ _ _ _ _ _ (j 0) (j 1))

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Hand.target m c, ?_, ?_⟩
  · exact (θ_run _ _ _).mono (fun r h c => ⟨(h c).1.trans (Cert.Kernel3Ideal.Hand.arr_eq m c), (h c).2⟩) (Cert.Kernel3Ideal.Value.run_blocks m g)
  · refine (θ_run _ _ _).mono (fun r h c => ⟨?_, (h c).2⟩) (Cert.Reference3Ideal.Value.run (F := Ideal) m' g')
    obtain ⟨a0, a1, a2, a3, a4, a5⟩ := hagree c
    refine ((h c).1.trans (Cert.Reference3Ideal.Read.val_main_v20_eq ..)).trans ?_
    rw [a0, a1, a2, a3, a4, a5]
    exact reference3_eq m c

end Cert.Proof

end
-- ==== Proof.lean ====
module

public import proofs.«01_k».proof.Defs
public import proofs.«01_k».proof.Proof.Frame
public import proofs.«01_k».proof.Proof.IdealFrame
public import proofs.«01_k».proof.Proof.Out
public import proofs.«01_k».proof.Proof.Ref
public import proofs.«01_k».proof.Proof.Finite
public import proofs.«01_k».proof.Proof.PostClaim
public import proofs.«01_k».proof.Proof.PostFirstClaim
public import proofs.«01_k».proof.Proof.Gen.ReferenceIdeal.Run
public import proofs.«01_k».proof.Proof.Gen.ReferenceIdeal.Read
public import Idealize.ShloMosaic.Adequacy
public import Idealize.ShloMosaic.Init

/-! The certificate's claims: the frames of the kernel, of its idealization and of the reference; that the idealization
only names the score scale; and that over finite arguments the idealized kernel's result is the reference's. -/

@[expose] public section

set_option maxRecDepth 16384
set_option maxHeartbeats 4000000

noncomputable section

namespace Cert.Proof

open Idealize.ShloMosaic Idealize.SL.Sem

theorem frame_kernel : Cert.quiescent_Kernel (hKernel := Cert.Kernel.Gen.facts) := fun m ρ _ => Cert.Kernel.Hand.frame m ρ

theorem frame_ideal : Cert.quiescent_KernelIdeal (hKernelIdeal := Cert.KernelIdeal.Gen.facts) :=
  fun m ρ _ => Cert.KernelIdeal.Hand.frame m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem preserves_scale : Cert.preserves_Kernel_KernelIdeal :=
  IdealRules.named_const.statement Cert.KernelIdeal.κ "score_scale" .f32 0x3E38AA3B#32 (((1 / 8) * (Real.log 2)⁻¹ : ℝ) : EReal) rfl

theorem frame_ideal_finite : Cert.quiescent_KernelIdeal_pre_finite (hKernelIdeal := Cert.KernelIdeal.Gen.facts) (hPre_finite := Cert.Pre_finite.facts) :=
  fun m ρ _ => Cert.KernelIdeal.Hand.frame m ρ

theorem frame_reference_finite : Cert.quiescent_ReferenceIdeal_pre_finite (hReferenceIdeal := Cert.ReferenceIdeal.Gen.facts) (hPre_finite := Cert.Pre_finite.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

open Cert.KernelIdeal in
/-- Over finite arguments there are arrays of reals that the arguments hold, and the second map's factor is real. -/
theorem reals (m : (ℓ : Loc nD τ sig) → Buf (Elt Ideal) ℓ) (h : Cert.Pre_KernelIdeal_finite (hPre_finite := Cert.Pre_finite.facts) m) (c : Dev nD) :
    ∃ (qR kR vR : Fin 8 → Fin 4096 → Fin 1024 → ℝ) (ℓ : ℝ),
      (∀ b p l, m ((c.tc : Thread nD τ).loc main_arg0) (ix3 b p l) = (qR b p l : EReal))
      ∧ (∀ b p l, m ((c.tc : Thread nD τ).loc main_arg1) (ix3 b p l) = (kR b p l : EReal))
      ∧ (∀ b p l, m ((c.tc : Thread nD τ).loc main_arg2) (ix3 b p l) = (vR b p l : EReal))
      ∧ Cert.KernelIdeal.Hand.lamOf m c = (ℓ : EReal) := by
  obtain ⟨h0, h1, h2, h3, h4, h5, h6⟩ := h c
  have r0 := Cert.Pre_finite.real_of_lt _ h0
  have r1 := Cert.Pre_finite.real_of_lt _ h1
  have r2 := Cert.Pre_finite.real_of_lt _ h2
  choose f0 e0 using r0
  choose f1 e1 using r1
  choose f2 e2 using r2
  obtain ⟨ℓ, hl⟩ := Cert.Pre_finite.lamE_real _ _ _ _ (fun x => Cert.Pre_finite.real_of_lt _ h3 (ix1 x)) (fun x => Cert.Pre_finite.real_of_lt _ h4 (ix1 x))
    (fun x => Cert.Pre_finite.real_of_lt _ h5 (ix1 x)) (fun x => Cert.Pre_finite.real_of_lt _ h6 (ix1 x))
  exact ⟨fun b p l => f0 (ix3 b p l), fun b p l => f1 (ix3 b p l), fun b p l => f2 (ix3 b p l), ℓ,
    fun b p l => e0 _, fun b p l => e1 _, fun b p l => e2 _, hl⟩

/-- The reference's result over those arrays is the kernel's. -/
theorem reference_eq (m : (ℓ : Loc Cert.KernelIdeal.nD Cert.KernelIdeal.τ Cert.KernelIdeal.sig) → Buf (Elt Ideal) ℓ) (c : Dev Cert.KernelIdeal.nD)
    (x0 x1 x2 : Cert.ReferenceIdeal.Hand.X) (x3 x4 x5 x6 : Cert.ReferenceIdeal.Hand.Y) (x7 : FVec Ideal Cert.ReferenceIdeal.S128 .f32)
    (qR kR vR : Fin 8 → Fin 4096 → Fin 1024 → ℝ) (ℓ : ℝ)
    (hq : ∀ b p l, x0 (ix3 b p l) = (qR b p l : EReal)) (hk : ∀ b p l, x1 (ix3 b p l) = (kR b p l : EReal)) (hv : ∀ b p l, x2 (ix3 b p l) = (vR b p l : EReal))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (hl : Cert.KernelIdeal.Hand.lamOf m c = (ℓ : EReal)) :
    Cert.ReferenceIdeal.Read.val_main_v61 (F := Ideal) x0 x1 x2 x3 x4 x5 x6 x7 = Cert.KernelIdeal.Hand.outG m c qR kR vR := by
  subst h3 h4 h5 h6 h7
  funext j
  have hj2 : (j 2).val < 1024 := (j 2).isLt
  have hj : j = ix3 (j 0 : Fin 8) (j 1 : Fin 4096) (Cert.ReferenceIdeal.Hand.chan (⟨(j 2).val / 128, by omega⟩ : Fin 8) (⟨(j 2).val % 128, Nat.mod_lt _ (by decide)⟩ : Fin 128)) := by
    funext a
    apply Fin.ext
    match a with
    | ⟨0, _⟩ => rfl
    | ⟨1, _⟩ => rfl
    | ⟨2, _⟩ => show (j 2).val = 128 * ((j 2).val / 128) + (j 2).val % 128; omega
  refine (congrArg (Cert.ReferenceIdeal.Read.val_main_v61 (F := Ideal) x0 x1 x2 _ _ _ _ _) hj).trans ?_
  refine (Cert.ReferenceIdeal.Hand.v61_at x0 x1 x2 (j 0) ⟨(j 2).val / 128, by omega⟩
    (Cert.KernelIdeal.Hand.headOf qR (j 0) ⟨(j 2).val / 128, by omega⟩) (Cert.KernelIdeal.Hand.headOf kR (j 0) ⟨(j 2).val / 128, by omega⟩) (Cert.KernelIdeal.Hand.headOf vR (j 0) ⟨(j 2).val / 128, by omega⟩)
    (fun p l => hq _ _ _) (fun p l => hk _ _ _) (fun p l => hv _ _ _) _ _ _ _ ℓ hl _ _ _).trans ?_
  unfold Cert.KernelIdeal.Hand.outG Cert.KernelIdeal.Hand.target
  rw [hl]

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  choose qR kR vR ℓ hq hk hv hl using reals m hpre
  refine ⟨fun c => Cert.KernelIdeal.Hand.outG m c (qR c) (kR c) (vR c), ?_, ?_⟩
  · refine (θ_run _ _ _).mono (fun r h c => ⟨?_, h.2.1 c⟩) (θ_run_and (Cert.KernelIdeal.Hand.run_main m g) (Cert.KernelIdeal.Hand.frame m g))
    exact Cert.KernelIdeal.Hand.out_eq m c (qR c) (kR c) (vR c) (hq c) (hk c) (hv c) r h.1.1
  · refine (θ_run _ _ _).mono (fun r h c => ⟨?_, (h c).2⟩) (Cert.ReferenceIdeal.Value.run (F := Ideal) m' g')
    obtain ⟨a0, a1, a2, a3, a4, a5, a6, a7⟩ := hagree c
    refine ((h c).1.trans (Cert.ReferenceIdeal.Read.val_main_v61_eq m' c)).trans ?_
    exact reference_eq m c _ _ _ _ _ _ _ _ (qR c) (kR c) (vR c) (ℓ c)
      (fun b p l => (congrFun a0 _).trans (hq c b p l)) (fun b p l => (congrFun a1 _).trans (hk c b p l)) (fun b p l => (congrFun a2 _).trans (hv c b p l))
      a3 a4 a5 a6 a7 (hl c)

theorem claim : Cert.Claim := ⟨Cert.Kernel.Gen.facts, Cert.KernelIdeal.Gen.facts, Cert.ReferenceIdeal.Gen.facts,
  facts_kernel2, Cert.Kernel2Ideal.Gen.facts, Cert.Reference2Ideal.Gen.facts,
  facts_kernel3, Cert.Kernel3Ideal.Gen.facts, Cert.Reference3Ideal.Gen.facts, Cert.Pre_finite.facts,
  frame_kernel, frame_ideal, frame_ideal_finite, frame_reference, frame_reference_finite,
  frame_kernel2, frame_kernel2_ideal, frame_reference2,
  frame_kernel3, frame_kernel3_ideal, frame_reference3, preserves_scale, algebraic, trivial, algebraic2, trivial, algebraic3⟩

end Cert.Proof

end
